-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S1024x512 .bf16) (main_arg1 : FVec F S512x128 .bf16) (main_arg2 : IVec S1024x2 32) (main_arg3 : FVec F S4x512x1024 .bf16) : IVec S_ 1 :=
  let main_v0 : FVec F S1024x512 .bf16 := Host.absf main_arg0
  let main_cst : FVec F S_ .bf16 := constant S_ .bf16 0x7F80#16
  let main_v1 : FVec F S1024x512 .bf16 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x128 .bf16 := Host.absf main_arg1
  let main_cst_0 : FVec F S_ .bf16 := constant S_ .bf16 0x7F80#16
  let main_v5 : FVec F S512x128 .bf16 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 128#32
  let main_v11 : IVec S1024x2 32 := broadcastInDim S1024x2 ![] bcast_S_S1024x2 main_c_3
  let main_v12 : IVec S1024x2 1 := cmpi .slt main_arg2 main_v11
  let main_v13 : IVec S1024x2 1 := andi main_v10 main_v12
  let main_c_4 : IVec S_ 1 := constantI S_ 1 1#1
  let main_v14 : IVec S_ 1 := (fun x v => Host.reduce IntOp.andi x v reducesTo_S1024x2_S_d0_1 h_S_) main_v13 main_c_4
  let main_v15 : IVec S_ 1 := andi main_v8 main_v14
  main_v15
-- ==== Pre_routed_ReferenceIdeal.lean ====
abbrev S1024x512 : Shape := ⟨2, ![1024, 512]⟩
abbrev S512x128 : Shape := ⟨2, ![512, 128]⟩
abbrev S1024x2 : Shape := ⟨2, ![1024, 2]⟩
abbrev S128x512x1024 : Shape := ⟨3, ![128, 512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S1024x512 .bf16) (main_arg1 : FVec F S512x128 .bf16) (main_arg2 : IVec S1024x2 32) (main_arg3 : FVec F S128x512x1024 .bf16) : IVec S_ 1 :=
  let main_v0 : FVec F S1024x512 .bf16 := Host.absf main_arg0
  let main_cst : FVec F S_ .bf16 := constant S_ .bf16 0x7F80#16
  let main_v1 : FVec F S1024x512 .bf16 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x128 .bf16 := Host.absf main_arg1
  let main_cst_0 : FVec F S_ .bf16 := constant S_ .bf16 0x7F80#16
  let main_v5 : FVec F S512x128 .bf16 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 128#32
  let main_v11 : IVec S1024x2 32 := broadcastInDim S1024x2 ![] bcast_S_S1024x2 main_c_3
  let main_v12 : IVec S1024x2 1 := cmpi .slt main_arg2 main_v11
  let main_v13 : IVec S1024x2 1 := andi main_v10 main_v12
  let main_c_4 : IVec S_ 1 := constantI S_ 1 1#1
  let main_v14 : IVec S_ 1 := (fun x v => Host.reduce IntOp.andi x v reducesTo_S1024x2_S_d0_1 h_S_) main_v13 main_c_4
  let main_v15 : IVec S_ 1 := andi main_v8 main_v14
  main_v15
-- ==== Kernel.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S1024x1024 : Shape := ⟨2, ![1024, 1024]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S10 : Shape := ⟨1, ![10]⟩
abbrev S9 : Shape := ⟨1, ![9]⟩
abbrev S_ : Shape := ⟨0, ![]⟩
abbrev S1024x128 : Shape := ⟨2, ![1024, 128]⟩
abbrev S1024x1 : Shape := ⟨2, ![1024, 1]⟩
abbrev S1024 : Shape := ⟨1, ![1024]⟩
abbrev S1x512x512 : Shape := ⟨3, ![1, 512, 512]⟩
abbrev S1 : Shape := ⟨1, ![1]⟩

abbrev nBuf : Space → Nat
  | .hbm => 5
  | .vmem => 15
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x2, .i32⟩
  | .hbm, ⟨3, _⟩ => ⟨S4x512x1024, .bf16⟩
  | .hbm, ⟨4, _⟩ => ⟨S1024x1024, .bf16⟩
  | .local _ .vmem, ⟨0, _⟩ => ⟨S1024x512, .bf16⟩
  | .local _ .vmem, ⟨1, _⟩ => ⟨S512x128, .bf16⟩
  | .local _ .vmem, ⟨2, _⟩ => ⟨S1024x2, .i32⟩
  | .local _ .vmem, ⟨3, _⟩ => ⟨S4x512x1024, .bf16⟩
  | .local _ .vmem, ⟨4, _⟩ => ⟨S1024x1024, .bf16⟩
  | .local _ .vmem, ⟨5, _⟩ => ⟨S512x512, .bf16⟩
  | .local _ .vmem, ⟨6, _⟩ => ⟨S256x512, .bf16⟩
  | .local _ .vmem, ⟨7, _⟩ => ⟨S128x512, .bf16⟩
  | .local _ .vmem, ⟨8, _⟩ => ⟨S64x512, .bf16⟩
  | .local _ .vmem, ⟨9, _⟩ => ⟨S32x512, .bf16⟩
  | .local _ .vmem, ⟨10, _⟩ => ⟨S512x512, .bf16⟩
  | .local _ .vmem, ⟨11, _⟩ => ⟨S256x512, .bf16⟩
  | .local _ .vmem, ⟨12, _⟩ => ⟨S128x512, .bf16⟩
  | .local _ .vmem, ⟨13, _⟩ => ⟨S64x512, .bf16⟩
  | .local _ .vmem, ⟨14, _⟩ => ⟨S32x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) (c3_i32_60 : BitVec 32) (c1_i32_66 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.xori v2 c3_i32_60
  let v134 : BitVec 32 := Scalar.xori v128 c1_i32_66
  let v135 : BitVec 1 := Scalar.cmpi .slt v128 v134
  let c256_i32 : BitVec 32 := 256#32
  let c0_i32_67 : BitVec 32 := 0#32
  let v136 : BitVec 32 := Scalar.select v135 c256_i32 c0_i32_67
  let c0_i32_72 : BitVec 32 := 0#32
  ![v136.toNat, 0]
def k0_off1_at (r : Fin 2) : BitVec 32 × BitVec 32 :=
  if r.val < 1 then
    (3#32, 1#32)
  else
    (8#32, 3#32)
def k0_off2 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c512_i32 : BitVec 32 := 512#32
  let c0_i32_61 : BitVec 32 := 0#32
  let v130 : BitVec 32 := Scalar.select v129 c512_i32 c0_i32_61
  let v131 : BitVec 32 := Scalar.addi c0_i32_62 v130
  let c1_i32_66 : BitVec 32 := 1#32
  let v134 : BitVec 32 := Scalar.xori v128 c1_i32_66
  let v135 : BitVec 1 := Scalar.cmpi .slt v128 v134
  let c256_i32 : BitVec 32 := 256#32
  let c0_i32_67 : BitVec 32 := 0#32
  let v136 : BitVec 32 := Scalar.select v135 c256_i32 c0_i32_67
  let v137 : BitVec 32 := Scalar.addi v131 v136
  let c0_i32_73 : BitVec 32 := 0#32
  ![v137.toNat, 0]
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let c1_i32_70 : BitVec 32 := 1#32
  let v138 : BitVec 32 := Scalar.muli v128 c1_i32_70
  let v139 : BitVec 32 := Scalar.addi c0_i32_71 v138
  v139.toNat
def k0_off3 (d0 : Dev nD) (c3_i32_60 : BitVec 32) (c1_i32_66 : BitVec 32) : Fin 2 → Nat :=
  let c256_i32_74 : BitVec 32 := 256#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.xori v2 c3_i32_60
  let v134 : BitVec 32 := Scalar.xori v128 c1_i32_66
  let v135 : BitVec 1 := Scalar.cmpi .slt v128 v134
  let c256_i32 : BitVec 32 := 256#32
  let c0_i32_67 : BitVec 32 := 0#32
  let v136 : BitVec 32 := Scalar.select v135 c256_i32 c0_i32_67
  let v146 : BitVec 32 := Scalar.subi c256_i32_74 v136
  let c0_i32_79 : BitVec 32 := 0#32
  ![v146.toNat, 0]
def k0_off3_at (r : Fin 2) : BitVec 32 × BitVec 32 :=
  if r.val < 1 then
    (3#32, 1#32)
  else
    (8#32, 3#32)
def k0_off4 (d0 : Dev nD) : Fin 2 → Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c512_i32 : BitVec 32 := 512#32
  let c0_i32_61 : BitVec 32 := 0#32
  let v130 : BitVec 32 := Scalar.select v129 c512_i32 c0_i32_61
  let v131 : BitVec 32 := Scalar.addi c0_i32_62 v130
  let c256_i32_74 : BitVec 32 := 256#32
  let c1_i32_66 : BitVec 32 := 1#32
  let v134 : BitVec 32 := Scalar.xori v128 c1_i32_66
  let v135 : BitVec 1 := Scalar.cmpi .slt v128 v134
  let c256_i32 : BitVec 32 := 256#32
  let c0_i32_67 : BitVec 32 := 0#32
  let v136 : BitVec 32 := Scalar.select v135 c256_i32 c0_i32_67
  let v146 : BitVec 32 := Scalar.subi c256_i32_74 v136
  let v147 : BitVec 32 := Scalar.addi v131 v146
  let c0_i32_80 : BitVec 32 := 0#32
  ![v147.toNat, 0]
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let c1_i32_77 : BitVec 32 := 1#32
  let v148 : BitVec 32 := Scalar.muli v128 c1_i32_77
  let v149 : BitVec 32 := Scalar.addi c0_i32_78 v148
  v149.toNat
def k0_off5 (d0 : Dev nD) : Fin 2 → Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c512_i32_100 : BitVec 32 := 512#32
  let c0_i32_101 : BitVec 32 := 0#32
  let v177 : BitVec 32 := Scalar.select v176 c512_i32_100 c0_i32_101
  let v178 : BitVec 32 := Scalar.addi c0_i32_102 v177
  let c3_i32_106 : BitVec 32 := 3#32
  let v181 : BitVec 32 := Scalar.xori v175 c3_i32_106
  let v182 : BitVec 1 := Scalar.cmpi .slt v175 v181
  let c256_i32_107 : BitVec 32 := 256#32
  let c0_i32_108 : BitVec 32 := 0#32
  let v183 : BitVec 32 := Scalar.select v182 c256_i32_107 c0_i32_108
  let v184 : BitVec 32 := Scalar.addi v178 v183
  let c512_i32_114 : BitVec 32 := 512#32
  ![v184.toNat, 512]
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let c1_i32_111 : BitVec 32 := 1#32
  let v185 : BitVec 32 := Scalar.muli v175 c1_i32_111
  let v186 : BitVec 32 := Scalar.addi c0_i32_112 v185
  v186.toNat
def k0_off6 (d0 : Dev nD) : Fin 2 → Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c512_i32_100 : BitVec 32 := 512#32
  let c0_i32_101 : BitVec 32 := 0#32
  let v177 : BitVec 32 := Scalar.select v176 c512_i32_100 c0_i32_101
  let v178 : BitVec 32 := Scalar.addi c0_i32_102 v177
  let c256_i32_115 : BitVec 32 := 256#32
  let c3_i32_106 : BitVec 32 := 3#32
  let v181 : BitVec 32 := Scalar.xori v175 c3_i32_106
  let v182 : BitVec 1 := Scalar.cmpi .slt v175 v181
  let c256_i32_107 : BitVec 32 := 256#32
  let c0_i32_108 : BitVec 32 := 0#32
  let v183 : BitVec 32 := Scalar.select v182 c256_i32_107 c0_i32_108
  let v193 : BitVec 32 := Scalar.subi c256_i32_115 v183
  let v194 : BitVec 32 := Scalar.addi v178 v193
  let c512_i32_121 : BitVec 32 := 512#32
  ![v194.toNat, 512]
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let c1_i32_118 : BitVec 32 := 1#32
  let v195 : BitVec 32 := Scalar.muli v175 c1_i32_118
  let v196 : BitVec 32 := Scalar.addi c0_i32_119 v195
  v196.toNat
def k0_off7 (d0 : Dev nD) (c256_i32_134 : BitVec 32) (c0_i32_135 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_133 : BitVec 32 := 1#32
  let v213 : BitVec 32 := Scalar.xori v2 c1_i32_133
  let v214 : BitVec 1 := Scalar.cmpi .slt v2 v213
  let v215 : BitVec 32 := Scalar.select v214 c256_i32_134 c0_i32_135
  let v216 : BitVec 32 := Scalar.addi v133 v215
  let v219 : Index := Scalar.indexCast v216
  let c0_138 : Index := 0#32
  ![v219.toNat, 0]
def k0_off7_at (r : Fin 2) : BitVec 32 × BitVec 32 :=
  if r.val < 1 then
    (256#32, 0#32)
  else
    (0#32, 256#32)
def k0_off8 (d0 : Dev nD) (c3_i32_60 : BitVec 32) (c1_i32_133 : BitVec 32) (c256_i32_134 : BitVec 32) (c0_i32_135 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let v213 : BitVec 32 := Scalar.xori v2 c1_i32_133
  let v214 : BitVec 1 := Scalar.cmpi .slt v2 v213
  let v215 : BitVec 32 := Scalar.select v214 c256_i32_134 c0_i32_135
  let v216 : BitVec 32 := Scalar.addi v133 v215
  let v222 : BitVec 32 := Scalar.subi v216 v133
  let v223 : Index := Scalar.indexCast v222
  let c0_139 : Index := 0#32
  ![v223.toNat, 0]
def k0_off8_at (r : Fin 4) : BitVec 32 × BitVec 32 × BitVec 32 × BitVec 32 :=
  if r.val < 2 then
    if r.val < 1 then
      (3#32, 1#32, 256#32, 0#32)
    else
      (3#32, 1#32, 0#32, 256#32)
  else
    if r.val < 3 then
      (8#32, 3#32, 256#32, 0#32)
    else
      (8#32, 3#32, 0#32, 256#32)
def k0_off9 (d0 : Dev nD) (c1_i32_141 : BitVec 32) (c8_i32_146 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v228 : BitVec 32 := Scalar.xori v2 c1_i32_141
  let v234 : BitVec 32 := Scalar.xori v228 c8_i32_146
  let v235 : BitVec 1 := Scalar.cmpi .slt v228 v234
  let c128_i32 : BitVec 32 := 128#32
  let c0_i32_147 : BitVec 32 := 0#32
  let v236 : BitVec 32 := Scalar.select v235 c128_i32 c0_i32_147
  let c0_i32_152 : BitVec 32 := 0#32
  ![v236.toNat, 0]
def k0_off9_at (r : Fin 2) : BitVec 32 × BitVec 32 :=
  if r.val < 1 then
    (1#32, 8#32)
  else
    (3#32, 1#32)
def k0_off10 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c256_i32_142 : BitVec 32 := 256#32
  let c0_i32_143 : BitVec 32 := 0#32
  let v230 : BitVec 32 := Scalar.select v229 c256_i32_142 c0_i32_143
  let v231 : BitVec 32 := Scalar.addi v133 v230
  let c8_i32_146 : BitVec 32 := 8#32
  let v234 : BitVec 32 := Scalar.xori v228 c8_i32_146
  let v235 : BitVec 1 := Scalar.cmpi .slt v228 v234
  let c128_i32 : BitVec 32 := 128#32
  let c0_i32_147 : BitVec 32 := 0#32
  let v236 : BitVec 32 := Scalar.select v235 c128_i32 c0_i32_147
  let v237 : BitVec 32 := Scalar.addi v231 v236
  let c0_i32_153 : BitVec 32 := 0#32
  ![v237.toNat, 0]
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_141 : BitVec 32 := 1#32
  let v228 : BitVec 32 := Scalar.xori v2 c1_i32_141
  let c1_i32_150 : BitVec 32 := 1#32
  let v238 : BitVec 32 := Scalar.muli v228 c1_i32_150
  let v239 : BitVec 32 := Scalar.addi c0_i32_151 v238
  v239.toNat
def k0_off11 (d0 : Dev nD) (c1_i32_141 : BitVec 32) (c8_i32_146 : BitVec 32) : Fin 2 → Nat :=
  let c128_i32_154 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v228 : BitVec 32 := Scalar.xori v2 c1_i32_141
  let v234 : BitVec 32 := Scalar.xori v228 c8_i32_146
  let v235 : BitVec 1 := Scalar.cmpi .slt v228 v234
  let c128_i32 : BitVec 32 := 128#32
  let c0_i32_147 : BitVec 32 := 0#32
  let v236 : BitVec 32 := Scalar.select v235 c128_i32 c0_i32_147
  let v246 : BitVec 32 := Scalar.subi c128_i32_154 v236
  let c0_i32_158 : BitVec 32 := 0#32
  ![v246.toNat, 0]
def k0_off11_at (r : Fin 2) : BitVec 32 × BitVec 32 :=
  if r.val < 1 then
    (1#32, 8#32)
  else
    (3#32, 1#32)
def k0_off12 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c256_i32_142 : BitVec 32 := 256#32
  let c0_i32_143 : BitVec 32 := 0#32
  let v230 : BitVec 32 := Scalar.select v229 c256_i32_142 c0_i32_143
  let v231 : BitVec 32 := Scalar.addi v133 v230
  let c128_i32_154 : BitVec 32 := 128#32
  let c8_i32_146 : BitVec 32 := 8#32
  let v234 : BitVec 32 := Scalar.xori v228 c8_i32_146
  let v235 : BitVec 1 := Scalar.cmpi .slt v228 v234
  let c128_i32 : BitVec 32 := 128#32
  let c0_i32_147 : BitVec 32 := 0#32
  let v236 : BitVec 32 := Scalar.select v235 c128_i32 c0_i32_147
  let v246 : BitVec 32 := Scalar.subi c128_i32_154 v236
  let v247 : BitVec 32 := Scalar.addi v231 v246
  let c0_i32_159 : BitVec 32 := 0#32
  ![v247.toNat, 0]
def k0_dev11 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_141 : BitVec 32 := 1#32
  let v228 : BitVec 32 := Scalar.xori v2 c1_i32_141
  let c1_i32_156 : BitVec 32 := 1#32
  let v248 : BitVec 32 := Scalar.muli v228 c1_i32_156
  let v249 : BitVec 32 := Scalar.addi c0_i32_157 v248
  v249.toNat
def k0_off13 (d0 : Dev nD) (c256_i32_186 : BitVec 32) (c0_i32_187 : BitVec 32) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_185 : BitVec 32 := 3#32
  let v285 : BitVec 32 := Scalar.xori v2 c3_i32_185
  let v286 : BitVec 1 := Scalar.cmpi .slt v2 v285
  let v287 : BitVec 32 := Scalar.select v286 c256_i32_186 c0_i32_187
  let v288 : BitVec 32 := Scalar.addi v180 v287
  let v291 : Index := Scalar.indexCast v288
  let c512_190 : Index := 512#32
  ![v291.toNat, 512]
def k0_off13_at (r : Fin 2) : BitVec 32 × BitVec 32 :=
  if r.val < 1 then
    (256#32, 0#32)
  else
    (0#32, 256#32)
def k0_off14 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c256_i32_194 : BitVec 32 := 256#32
  let c0_i32_195 : BitVec 32 := 0#32
  let v302 : BitVec 32 := Scalar.select v301 c256_i32_194 c0_i32_195
  let v303 : BitVec 32 := Scalar.addi v180 v302
  let c1_i32_198 : BitVec 32 := 1#32
  let v306 : BitVec 32 := Scalar.xori v300 c1_i32_198
  let v307 : BitVec 1 := Scalar.cmpi .slt v300 v306
  let c128_i32_199 : BitVec 32 := 128#32
  let c0_i32_200 : BitVec 32 := 0#32
  let v308 : BitVec 32 := Scalar.select v307 c128_i32_199 c0_i32_200
  let v309 : BitVec 32 := Scalar.addi v303 v308
  let c512_i32_206 : BitVec 32 := 512#32
  ![v309.toNat, 512]
def k0_dev12 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_193 : BitVec 32 := 3#32
  let v300 : BitVec 32 := Scalar.xori v2 c3_i32_193
  let c1_i32_203 : BitVec 32 := 1#32
  let v310 : BitVec 32 := Scalar.muli v300 c1_i32_203
  let v311 : BitVec 32 := Scalar.addi c0_i32_204 v310
  v311.toNat
def k0_off15 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c256_i32_194 : BitVec 32 := 256#32
  let c0_i32_195 : BitVec 32 := 0#32
  let v302 : BitVec 32 := Scalar.select v301 c256_i32_194 c0_i32_195
  let v303 : BitVec 32 := Scalar.addi v180 v302
  let c128_i32_207 : BitVec 32 := 128#32
  let c1_i32_198 : BitVec 32 := 1#32
  let v306 : BitVec 32 := Scalar.xori v300 c1_i32_198
  let v307 : BitVec 1 := Scalar.cmpi .slt v300 v306
  let c128_i32_199 : BitVec 32 := 128#32
  let c0_i32_200 : BitVec 32 := 0#32
  let v308 : BitVec 32 := Scalar.select v307 c128_i32_199 c0_i32_200
  let v318 : BitVec 32 := Scalar.subi c128_i32_207 v308
  let v319 : BitVec 32 := Scalar.addi v303 v318
  let c512_i32_213 : BitVec 32 := 512#32
  ![v319.toNat, 512]
def k0_dev13 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_193 : BitVec 32 := 3#32
  let v300 : BitVec 32 := Scalar.xori v2 c3_i32_193
  let c1_i32_210 : BitVec 32 := 1#32
  let v320 : BitVec 32 := Scalar.muli v300 c1_i32_210
  let v321 : BitVec 32 := Scalar.addi c0_i32_211 v320
  v321.toNat
def k0_off16 (d0 : Dev nD) (c128_i32_240 : BitVec 32) (c0_i32_241 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_239 : BitVec 32 := 8#32
  let v357 : BitVec 32 := Scalar.xori v2 c8_i32_239
  let v358 : BitVec 1 := Scalar.cmpi .slt v2 v357
  let v359 : BitVec 32 := Scalar.select v358 c128_i32_240 c0_i32_241
  let v360 : BitVec 32 := Scalar.addi v233 v359
  let v363 : Index := Scalar.indexCast v360
  let c0_244 : Index := 0#32
  ![v363.toNat, 0]
def k0_off16_at (r : Fin 2) : BitVec 32 × BitVec 32 :=
  if r.val < 1 then
    (128#32, 0#32)
  else
    (0#32, 128#32)
def k0_off17 (d0 : Dev nD) (c3_i32_60 : BitVec 32) (c1_i32_141 : BitVec 32) (c8_i32_239 : BitVec 32) (c128_i32_240 : BitVec 32) (c0_i32_241 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let v357 : BitVec 32 := Scalar.xori v2 c8_i32_239
  let v358 : BitVec 1 := Scalar.cmpi .slt v2 v357
  let v359 : BitVec 32 := Scalar.select v358 c128_i32_240 c0_i32_241
  let v360 : BitVec 32 := Scalar.addi v233 v359
  let v366 : BitVec 32 := Scalar.subi v360 v233
  let v367 : Index := Scalar.indexCast v366
  let c0_245 : Index := 0#32
  ![v367.toNat, 0]
def k0_off17_at (r : Fin 4) : BitVec 32 × BitVec 32 × BitVec 32 × BitVec 32 × BitVec 32 :=
  if r.val < 2 then
    if r.val < 1 then
      (3#32, 1#32, 8#32, 128#32, 0#32)
    else
      (3#32, 1#32, 8#32, 0#32, 128#32)
  else
    if r.val < 3 then
      (8#32, 3#32, 1#32, 128#32, 0#32)
    else
      (8#32, 3#32, 1#32, 0#32, 128#32)
def k0_off18 (d0 : Dev nD) (c8_i32_247 : BitVec 32) (c4_i32_252 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v372 : BitVec 32 := Scalar.xori v2 c8_i32_247
  let v378 : BitVec 32 := Scalar.xori v372 c4_i32_252
  let v379 : BitVec 1 := Scalar.cmpi .slt v372 v378
  let c64_i32 : BitVec 32 := 64#32
  let c0_i32_253 : BitVec 32 := 0#32
  let v380 : BitVec 32 := Scalar.select v379 c64_i32 c0_i32_253
  let c0_i32_258 : BitVec 32 := 0#32
  ![v380.toNat, 0]
def k0_off18_at (r : Fin 2) : BitVec 32 × BitVec 32 :=
  if r.val < 1 then
    (8#32, 4#32)
  else
    (1#32, 16#32)
def k0_off19 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c128_i32_248 : BitVec 32 := 128#32
  let c0_i32_249 : BitVec 32 := 0#32
  let v374 : BitVec 32 := Scalar.select v373 c128_i32_248 c0_i32_249
  let v375 : BitVec 32 := Scalar.addi v233 v374
  let c4_i32_252 : BitVec 32 := 4#32
  let v378 : BitVec 32 := Scalar.xori v372 c4_i32_252
  let v379 : BitVec 1 := Scalar.cmpi .slt v372 v378
  let c64_i32 : BitVec 32 := 64#32
  let c0_i32_253 : BitVec 32 := 0#32
  let v380 : BitVec 32 := Scalar.select v379 c64_i32 c0_i32_253
  let v381 : BitVec 32 := Scalar.addi v375 v380
  let c0_i32_259 : BitVec 32 := 0#32
  ![v381.toNat, 0]
def k0_dev14 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_247 : BitVec 32 := 8#32
  let v372 : BitVec 32 := Scalar.xori v2 c8_i32_247
  let c1_i32_256 : BitVec 32 := 1#32
  let v382 : BitVec 32 := Scalar.muli v372 c1_i32_256
  let v383 : BitVec 32 := Scalar.addi c0_i32_257 v382
  v383.toNat
def k0_off20 (d0 : Dev nD) (c8_i32_247 : BitVec 32) (c4_i32_252 : BitVec 32) : Fin 2 → Nat :=
  let c64_i32_260 : BitVec 32 := 64#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v372 : BitVec 32 := Scalar.xori v2 c8_i32_247
  let v378 : BitVec 32 := Scalar.xori v372 c4_i32_252
  let v379 : BitVec 1 := Scalar.cmpi .slt v372 v378
  let c64_i32 : BitVec 32 := 64#32
  let c0_i32_253 : BitVec 32 := 0#32
  let v380 : BitVec 32 := Scalar.select v379 c64_i32 c0_i32_253
  let v390 : BitVec 32 := Scalar.subi c64_i32_260 v380
  let c0_i32_264 : BitVec 32 := 0#32
  ![v390.toNat, 0]
def k0_off20_at (r : Fin 2) : BitVec 32 × BitVec 32 :=
  if r.val < 1 then
    (8#32, 4#32)
  else
    (1#32, 16#32)
def k0_off21 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c128_i32_248 : BitVec 32 := 128#32
  let c0_i32_249 : BitVec 32 := 0#32
  let v374 : BitVec 32 := Scalar.select v373 c128_i32_248 c0_i32_249
  let v375 : BitVec 32 := Scalar.addi v233 v374
  let c64_i32_260 : BitVec 32 := 64#32
  let c4_i32_252 : BitVec 32 := 4#32
  let v378 : BitVec 32 := Scalar.xori v372 c4_i32_252
  let v379 : BitVec 1 := Scalar.cmpi .slt v372 v378
  let c64_i32 : BitVec 32 := 64#32
  let c0_i32_253 : BitVec 32 := 0#32
  let v380 : BitVec 32 := Scalar.select v379 c64_i32 c0_i32_253
  let v390 : BitVec 32 := Scalar.subi c64_i32_260 v380
  let v391 : BitVec 32 := Scalar.addi v375 v390
  let c0_i32_265 : BitVec 32 := 0#32
  ![v391.toNat, 0]
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_247 : BitVec 32 := 8#32
  let v372 : BitVec 32 := Scalar.xori v2 c8_i32_247
  let c1_i32_262 : BitVec 32 := 1#32
  let v392 : BitVec 32 := Scalar.muli v372 c1_i32_262
  let v393 : BitVec 32 := Scalar.addi c0_i32_263 v392
  v393.toNat
def k0_off22 (d0 : Dev nD) (c128_i32_292 : BitVec 32) (c0_i32_293 : BitVec 32) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_291 : BitVec 32 := 1#32
  let v429 : BitVec 32 := Scalar.xori v2 c1_i32_291
  let v430 : BitVec 1 := Scalar.cmpi .slt v2 v429
  let v431 : BitVec 32 := Scalar.select v430 c128_i32_292 c0_i32_293
  let v432 : BitVec 32 := Scalar.addi v305 v431
  let v435 : Index := Scalar.indexCast v432
  let c512_296 : Index := 512#32
  ![v435.toNat, 512]
def k0_off22_at (r : Fin 2) : BitVec 32 × BitVec 32 :=
  if r.val < 1 then
    (128#32, 0#32)
  else
    (0#32, 128#32)
def k0_off23 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c128_i32_300 : BitVec 32 := 128#32
  let c0_i32_301 : BitVec 32 := 0#32
  let v446 : BitVec 32 := Scalar.select v445 c128_i32_300 c0_i32_301
  let v447 : BitVec 32 := Scalar.addi v305 v446
  let c16_i32_304 : BitVec 32 := 16#32
  let v450 : BitVec 32 := Scalar.xori v444 c16_i32_304
  let v451 : BitVec 1 := Scalar.cmpi .slt v444 v450
  let c64_i32_305 : BitVec 32 := 64#32
  let c0_i32_306 : BitVec 32 := 0#32
  let v452 : BitVec 32 := Scalar.select v451 c64_i32_305 c0_i32_306
  let v453 : BitVec 32 := Scalar.addi v447 v452
  let c512_i32_312 : BitVec 32 := 512#32
  ![v453.toNat, 512]
def k0_dev16 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_299 : BitVec 32 := 1#32
  let v444 : BitVec 32 := Scalar.xori v2 c1_i32_299
  let c1_i32_309 : BitVec 32 := 1#32
  let v454 : BitVec 32 := Scalar.muli v444 c1_i32_309
  let v455 : BitVec 32 := Scalar.addi c0_i32_310 v454
  v455.toNat
def k0_off24 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c128_i32_300 : BitVec 32 := 128#32
  let c0_i32_301 : BitVec 32 := 0#32
  let v446 : BitVec 32 := Scalar.select v445 c128_i32_300 c0_i32_301
  let v447 : BitVec 32 := Scalar.addi v305 v446
  let c64_i32_313 : BitVec 32 := 64#32
  let c16_i32_304 : BitVec 32 := 16#32
  let v450 : BitVec 32 := Scalar.xori v444 c16_i32_304
  let v451 : BitVec 1 := Scalar.cmpi .slt v444 v450
  let c64_i32_305 : BitVec 32 := 64#32
  let c0_i32_306 : BitVec 32 := 0#32
  let v452 : BitVec 32 := Scalar.select v451 c64_i32_305 c0_i32_306
  let v462 : BitVec 32 := Scalar.subi c64_i32_313 v452
  let v463 : BitVec 32 := Scalar.addi v447 v462
  let c512_i32_319 : BitVec 32 := 512#32
  ![v463.toNat, 512]
def k0_dev17 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_299 : BitVec 32 := 1#32
  let v444 : BitVec 32 := Scalar.xori v2 c1_i32_299
  let c1_i32_316 : BitVec 32 := 1#32
  let v464 : BitVec 32 := Scalar.muli v444 c1_i32_316
  let v465 : BitVec 32 := Scalar.addi c0_i32_317 v464
  v465.toNat
def k0_off25 (d0 : Dev nD) (c64_i32_346 : BitVec 32) (c0_i32_347 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_345 : BitVec 32 := 4#32
  let v501 : BitVec 32 := Scalar.xori v2 c4_i32_345
  let v502 : BitVec 1 := Scalar.cmpi .slt v2 v501
  let v503 : BitVec 32 := Scalar.select v502 c64_i32_346 c0_i32_347
  let v504 : BitVec 32 := Scalar.addi v377 v503
  let v507 : Index := Scalar.indexCast v504
  let c0_350 : Index := 0#32
  ![v507.toNat, 0]
def k0_off25_at (r : Fin 2) : BitVec 32 × BitVec 32 :=
  if r.val < 1 then
    (64#32, 0#32)
  else
    (0#32, 64#32)
def k0_off26 (d0 : Dev nD) (c3_i32_60 : BitVec 32) (c1_i32_141 : BitVec 32) (c8_i32_247 : BitVec 32) (c4_i32_345 : BitVec 32) (c64_i32_346 : BitVec 32) (c0_i32_347 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let v501 : BitVec 32 := Scalar.xori v2 c4_i32_345
  let v502 : BitVec 1 := Scalar.cmpi .slt v2 v501
  let v503 : BitVec 32 := Scalar.select v502 c64_i32_346 c0_i32_347
  let v504 : BitVec 32 := Scalar.addi v377 v503
  let v510 : BitVec 32 := Scalar.subi v504 v377
  let v511 : Index := Scalar.indexCast v510
  let c0_351 : Index := 0#32
  ![v511.toNat, 0]
def k0_off26_at (r : Fin 4) : BitVec 32 × BitVec 32 × BitVec 32 × BitVec 32 × BitVec 32 × BitVec 32 :=
  if r.val < 2 then
    if r.val < 1 then
      (3#32, 1#32, 8#32, 4#32, 64#32, 0#32)
    else
      (3#32, 1#32, 8#32, 4#32, 0#32, 64#32)
  else
    if r.val < 3 then
      (8#32, 3#32, 1#32, 16#32, 64#32, 0#32)
    else
      (8#32, 3#32, 1#32, 16#32, 0#32, 64#32)
def k0_off27 (d0 : Dev nD) (c4_i32_353 : BitVec 32) (c16_i32_358 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v516 : BitVec 32 := Scalar.xori v2 c4_i32_353
  let v522 : BitVec 32 := Scalar.xori v516 c16_i32_358
  let v523 : BitVec 1 := Scalar.cmpi .slt v516 v522
  let c32_i32_359 : BitVec 32 := 32#32
  let c0_i32_360 : BitVec 32 := 0#32
  let v524 : BitVec 32 := Scalar.select v523 c32_i32_359 c0_i32_360
  let c0_i32_365 : BitVec 32 := 0#32
  ![v524.toNat, 0]
def k0_off27_at (r : Fin 2) : BitVec 32 × BitVec 32 :=
  if r.val < 1 then
    (4#32, 16#32)
  else
    (16#32, 4#32)
def k0_off28 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_353 : BitVec 32 := 4#32
  let v516 : BitVec 32 := Scalar.xori v2 c4_i32_353
  let v517 : BitVec 1 := Scalar.cmpi .slt v2 v516
  let c64_i32_354 : BitVec 32 := 64#32
  let c0_i32_355 : BitVec 32 := 0#32
  let v518 : BitVec 32 := Scalar.select v517 c64_i32_354 c0_i32_355
  let v519 : BitVec 32 := Scalar.addi v377 v518
  let c16_i32_358 : BitVec 32 := 16#32
  let v522 : BitVec 32 := Scalar.xori v516 c16_i32_358
  let v523 : BitVec 1 := Scalar.cmpi .slt v516 v522
  let c32_i32_359 : BitVec 32 := 32#32
  let c0_i32_360 : BitVec 32 := 0#32
  let v524 : BitVec 32 := Scalar.select v523 c32_i32_359 c0_i32_360
  let v525 : BitVec 32 := Scalar.addi v519 v524
  let c0_i32_366 : BitVec 32 := 0#32
  ![v525.toNat, 0]
def k0_dev18 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_353 : BitVec 32 := 4#32
  let v516 : BitVec 32 := Scalar.xori v2 c4_i32_353
  let c1_i32_363 : BitVec 32 := 1#32
  let v526 : BitVec 32 := Scalar.muli v516 c1_i32_363
  let v527 : BitVec 32 := Scalar.addi c0_i32_364 v526
  v527.toNat
def k0_off29 (d0 : Dev nD) (c4_i32_353 : BitVec 32) (c16_i32_358 : BitVec 32) : Fin 2 → Nat :=
  let c32_i32_367 : BitVec 32 := 32#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v516 : BitVec 32 := Scalar.xori v2 c4_i32_353
  let v522 : BitVec 32 := Scalar.xori v516 c16_i32_358
  let v523 : BitVec 1 := Scalar.cmpi .slt v516 v522
  let c32_i32_359 : BitVec 32 := 32#32
  let c0_i32_360 : BitVec 32 := 0#32
  let v524 : BitVec 32 := Scalar.select v523 c32_i32_359 c0_i32_360
  let v534 : BitVec 32 := Scalar.subi c32_i32_367 v524
  let c0_i32_372 : BitVec 32 := 0#32
  ![v534.toNat, 0]
def k0_off29_at (r : Fin 2) : BitVec 32 × BitVec 32 :=
  if r.val < 1 then
    (4#32, 16#32)
  else
    (16#32, 4#32)
def k0_off30 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_353 : BitVec 32 := 4#32
  let v516 : BitVec 32 := Scalar.xori v2 c4_i32_353
  let v517 : BitVec 1 := Scalar.cmpi .slt v2 v516
  let c64_i32_354 : BitVec 32 := 64#32
  let c0_i32_355 : BitVec 32 := 0#32
  let v518 : BitVec 32 := Scalar.select v517 c64_i32_354 c0_i32_355
  let v519 : BitVec 32 := Scalar.addi v377 v518
  let c32_i32_367 : BitVec 32 := 32#32
  let c16_i32_358 : BitVec 32 := 16#32
  let v522 : BitVec 32 := Scalar.xori v516 c16_i32_358
  let v523 : BitVec 1 := Scalar.cmpi .slt v516 v522
  let c32_i32_359 : BitVec 32 := 32#32
  let c0_i32_360 : BitVec 32 := 0#32
  let v524 : BitVec 32 := Scalar.select v523 c32_i32_359 c0_i32_360
  let v534 : BitVec 32 := Scalar.subi c32_i32_367 v524
  let v535 : BitVec 32 := Scalar.addi v519 v534
  let c0_i32_373 : BitVec 32 := 0#32
  ![v535.toNat, 0]
def k0_dev19 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_353 : BitVec 32 := 4#32
  let v516 : BitVec 32 := Scalar.xori v2 c4_i32_353
  let c1_i32_370 : BitVec 32 := 1#32
  let v536 : BitVec 32 := Scalar.muli v516 c1_i32_370
  let v537 : BitVec 32 := Scalar.addi c0_i32_371 v536
  v537.toNat
def k0_off31 (d0 : Dev nD) (c64_i32_400 : BitVec 32) (c0_i32_401 : BitVec 32) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_399 : BitVec 32 := 16#32
  let v573 : BitVec 32 := Scalar.xori v2 c16_i32_399
  let v574 : BitVec 1 := Scalar.cmpi .slt v2 v573
  let v575 : BitVec 32 := Scalar.select v574 c64_i32_400 c0_i32_401
  let v576 : BitVec 32 := Scalar.addi v449 v575
  let v579 : Index := Scalar.indexCast v576
  let c512_404 : Index := 512#32
  ![v579.toNat, 512]
def k0_off31_at (r : Fin 2) : BitVec 32 × BitVec 32 :=
  if r.val < 1 then
    (64#32, 0#32)
  else
    (0#32, 64#32)
def k0_off32 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_407 : BitVec 32 := 16#32
  let v588 : BitVec 32 := Scalar.xori v2 c16_i32_407
  let v589 : BitVec 1 := Scalar.cmpi .slt v2 v588
  let c64_i32_408 : BitVec 32 := 64#32
  let c0_i32_409 : BitVec 32 := 0#32
  let v590 : BitVec 32 := Scalar.select v589 c64_i32_408 c0_i32_409
  let v591 : BitVec 32 := Scalar.addi v449 v590
  let c4_i32_412 : BitVec 32 := 4#32
  let v594 : BitVec 32 := Scalar.xori v588 c4_i32_412
  let v595 : BitVec 1 := Scalar.cmpi .slt v588 v594
  let c32_i32_413 : BitVec 32 := 32#32
  let c0_i32_414 : BitVec 32 := 0#32
  let v596 : BitVec 32 := Scalar.select v595 c32_i32_413 c0_i32_414
  let v597 : BitVec 32 := Scalar.addi v591 v596
  let c512_i32_420 : BitVec 32 := 512#32
  ![v597.toNat, 512]
def k0_dev20 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_407 : BitVec 32 := 16#32
  let v588 : BitVec 32 := Scalar.xori v2 c16_i32_407
  let c1_i32_417 : BitVec 32 := 1#32
  let v598 : BitVec 32 := Scalar.muli v588 c1_i32_417
  let v599 : BitVec 32 := Scalar.addi c0_i32_418 v598
  v599.toNat
def k0_off33 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_407 : BitVec 32 := 16#32
  let v588 : BitVec 32 := Scalar.xori v2 c16_i32_407
  let v589 : BitVec 1 := Scalar.cmpi .slt v2 v588
  let c64_i32_408 : BitVec 32 := 64#32
  let c0_i32_409 : BitVec 32 := 0#32
  let v590 : BitVec 32 := Scalar.select v589 c64_i32_408 c0_i32_409
  let v591 : BitVec 32 := Scalar.addi v449 v590
  let c32_i32_421 : BitVec 32 := 32#32
  let c4_i32_412 : BitVec 32 := 4#32
  let v594 : BitVec 32 := Scalar.xori v588 c4_i32_412
  let v595 : BitVec 1 := Scalar.cmpi .slt v588 v594
  let c32_i32_413 : BitVec 32 := 32#32
  let c0_i32_414 : BitVec 32 := 0#32
  let v596 : BitVec 32 := Scalar.select v595 c32_i32_413 c0_i32_414
  let v606 : BitVec 32 := Scalar.subi c32_i32_421 v596
  let v607 : BitVec 32 := Scalar.addi v591 v606
  let c512_i32_427 : BitVec 32 := 512#32
  ![v607.toNat, 512]
def k0_dev21 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_407 : BitVec 32 := 16#32
  let v588 : BitVec 32 := Scalar.xori v2 c16_i32_407
  let c1_i32_424 : BitVec 32 := 1#32
  let v608 : BitVec 32 := Scalar.muli v588 c1_i32_424
  let v609 : BitVec 32 := Scalar.addi c0_i32_425 v608
  v609.toNat
def k0_off34 (d0 : Dev nD) (c32_i32_454 : BitVec 32) (c0_i32_455 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_353 : BitVec 32 := 4#32
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let c16_i32_453 : BitVec 32 := 16#32
  let v645 : BitVec 32 := Scalar.xori v2 c16_i32_453
  let v646 : BitVec 1 := Scalar.cmpi .slt v2 v645
  let v647 : BitVec 32 := Scalar.select v646 c32_i32_454 c0_i32_455
  let v648 : BitVec 32 := Scalar.addi v521 v647
  let v651 : Index := Scalar.indexCast v648
  let c0_458 : Index := 0#32
  ![v651.toNat, 0]
def k0_off34_at (r : Fin 2) : BitVec 32 × BitVec 32 :=
  if r.val < 1 then
    (32#32, 0#32)
  else
    (0#32, 32#32)
def k0_off35 (d0 : Dev nD) (c3_i32_60 : BitVec 32) (c1_i32_141 : BitVec 32) (c8_i32_247 : BitVec 32) (c4_i32_353 : BitVec 32) (c16_i32_453 : BitVec 32) (c32_i32_454 : BitVec 32) (c0_i32_455 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let v645 : BitVec 32 := Scalar.xori v2 c16_i32_453
  let v646 : BitVec 1 := Scalar.cmpi .slt v2 v645
  let v647 : BitVec 32 := Scalar.select v646 c32_i32_454 c0_i32_455
  let v648 : BitVec 32 := Scalar.addi v521 v647
  let v654 : BitVec 32 := Scalar.subi v648 v521
  let v655 : Index := Scalar.indexCast v654
  let c0_459 : Index := 0#32
  ![v655.toNat, 0]
def k0_off35_at (r : Fin 4) : BitVec 32 × BitVec 32 × BitVec 32 × BitVec 32 × BitVec 32 × BitVec 32 × BitVec 32 :=
  if r.val < 2 then
    if r.val < 1 then
      (3#32, 1#32, 8#32, 4#32, 16#32, 32#32, 0#32)
    else
      (3#32, 1#32, 8#32, 4#32, 16#32, 0#32, 32#32)
  else
    if r.val < 3 then
      (8#32, 3#32, 1#32, 16#32, 4#32, 32#32, 0#32)
    else
      (8#32, 3#32, 1#32, 16#32, 4#32, 0#32, 32#32)
def k0_off36 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_353 : BitVec 32 := 4#32
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let c16_i32_461 : BitVec 32 := 16#32
  let v660 : BitVec 32 := Scalar.xori v2 c16_i32_461
  let v661 : BitVec 1 := Scalar.cmpi .slt v2 v660
  let c32_i32_462 : BitVec 32 := 32#32
  let c0_i32_463 : BitVec 32 := 0#32
  let v662 : BitVec 32 := Scalar.select v661 c32_i32_462 c0_i32_463
  let v663 : BitVec 32 := Scalar.addi v521 v662
  let c0_i32_466 : BitVec 32 := 0#32
  let v666 : BitVec 32 := Scalar.addi v663 c0_i32_466
  let c0_i32_473 : BitVec 32 := 0#32
  ![v666.toNat, 0]
def k0_dev22 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_461 : BitVec 32 := 16#32
  let v660 : BitVec 32 := Scalar.xori v2 c16_i32_461
  let c1_i32_470 : BitVec 32 := 1#32
  let v667 : BitVec 32 := Scalar.muli v660 c1_i32_470
  let v668 : BitVec 32 := Scalar.addi c0_i32_471 v667
  v668.toNat
def k0_off37 (d0 : Dev nD) (c32_i32_500 : BitVec 32) (c0_i32_501 : BitVec 32) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_407 : BitVec 32 := 16#32
  let v588 : BitVec 32 := Scalar.xori v2 c16_i32_407
  let v589 : BitVec 1 := Scalar.cmpi .slt v2 v588
  let c0_i32_410 : BitVec 32 := 0#32
  let c64_i32_411 : BitVec 32 := 64#32
  let v592 : BitVec 32 := Scalar.select v589 c0_i32_410 c64_i32_411
  let v593 : BitVec 32 := Scalar.addi v449 v592
  let c4_i32_499 : BitVec 32 := 4#32
  let v704 : BitVec 32 := Scalar.xori v2 c4_i32_499
  let v705 : BitVec 1 := Scalar.cmpi .slt v2 v704
  let v706 : BitVec 32 := Scalar.select v705 c32_i32_500 c0_i32_501
  let v707 : BitVec 32 := Scalar.addi v593 v706
  let v710 : Index := Scalar.indexCast v707
  let c512_504 : Index := 512#32
  ![v710.toNat, 512]
def k0_off37_at (r : Fin 2) : BitVec 32 × BitVec 32 :=
  if r.val < 1 then
    (32#32, 0#32)
  else
    (0#32, 32#32)
def k0_off38 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_407 : BitVec 32 := 16#32
  let v588 : BitVec 32 := Scalar.xori v2 c16_i32_407
  let v589 : BitVec 1 := Scalar.cmpi .slt v2 v588
  let c0_i32_410 : BitVec 32 := 0#32
  let c64_i32_411 : BitVec 32 := 64#32
  let v592 : BitVec 32 := Scalar.select v589 c0_i32_410 c64_i32_411
  let v593 : BitVec 32 := Scalar.addi v449 v592
  let c4_i32_507 : BitVec 32 := 4#32
  let v719 : BitVec 32 := Scalar.xori v2 c4_i32_507
  let v720 : BitVec 1 := Scalar.cmpi .slt v2 v719
  let c32_i32_508 : BitVec 32 := 32#32
  let c0_i32_509 : BitVec 32 := 0#32
  let v721 : BitVec 32 := Scalar.select v720 c32_i32_508 c0_i32_509
  let v722 : BitVec 32 := Scalar.addi v593 v721
  let c0_i32_512 : BitVec 32 := 0#32
  let v725 : BitVec 32 := Scalar.addi v722 c0_i32_512
  let c512_i32_519 : BitVec 32 := 512#32
  ![v725.toNat, 512]
def k0_dev23 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_507 : BitVec 32 := 4#32
  let v719 : BitVec 32 := Scalar.xori v2 c4_i32_507
  let c1_i32_516 : BitVec 32 := 1#32
  let v726 : BitVec 32 := Scalar.muli v719 c1_i32_516
  let v727 : BitVec 32 := Scalar.addi c0_i32_517 v726
  v727.toNat
def k0_off39 (d0 : Dev nD) (c3_i32_60 : BitVec 32) (c1_i32_141 : BitVec 32) (c8_i32_247 : BitVec 32) (c4_i32_353 : BitVec 32) (c16_i32_461 : BitVec 32) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let v660 : BitVec 32 := Scalar.xori v2 c16_i32_461
  let v661 : BitVec 1 := Scalar.cmpi .slt v2 v660
  let c0_i32_464 : BitVec 32 := 0#32
  let c32_i32_465 : BitVec 32 := 32#32
  let v664 : BitVec 32 := Scalar.select v661 c0_i32_464 c32_i32_465
  let v665 : BitVec 32 := Scalar.addi v521 v664
  let v766 : BitVec 32 := Scalar.subi v665 v665
  let v767 : Index := Scalar.indexCast v766
  let c0_548 : Index := 0#32
  ![v767.toNat, 0]
def k0_off39_at (r : Fin 2) : BitVec 32 × BitVec 32 × BitVec 32 × BitVec 32 × BitVec 32 :=
  if r.val < 1 then
    (3#32, 1#32, 8#32, 4#32, 16#32)
  else
    (8#32, 3#32, 1#32, 16#32, 4#32)
def k0_off40 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_353 : BitVec 32 := 4#32
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let c16_i32_461 : BitVec 32 := 16#32
  let v660 : BitVec 32 := Scalar.xori v2 c16_i32_461
  let v661 : BitVec 1 := Scalar.cmpi .slt v2 v660
  let c0_i32_464 : BitVec 32 := 0#32
  let c32_i32_465 : BitVec 32 := 32#32
  let v664 : BitVec 32 := Scalar.select v661 c0_i32_464 c32_i32_465
  let v665 : BitVec 32 := Scalar.addi v521 v664
  let c0_i32_555 : BitVec 32 := 0#32
  ![v665.toNat, 0]
def k0_dev24 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_550 : BitVec 32 := 16#32
  let v772 : BitVec 32 := Scalar.xori v2 c16_i32_550
  let c1_i32_553 : BitVec 32 := 1#32
  let v773 : BitVec 32 := Scalar.muli v772 c1_i32_553
  let v774 : BitVec 32 := Scalar.addi c0_i32_554 v773
  v774.toNat
def k0_dev25 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_557 : BitVec 32 := 4#32
  let v781 : BitVec 32 := Scalar.xori v2 c4_i32_557
  let c1_i32_560 : BitVec 32 := 1#32
  let v782 : BitVec 32 := Scalar.muli v781 c1_i32_560
  let v783 : BitVec 32 := Scalar.addi c0_i32_561 v782
  v783.toNat
def k0_off41 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_407 : BitVec 32 := 16#32
  let v588 : BitVec 32 := Scalar.xori v2 c16_i32_407
  let v589 : BitVec 1 := Scalar.cmpi .slt v2 v588
  let c0_i32_410 : BitVec 32 := 0#32
  let c64_i32_411 : BitVec 32 := 64#32
  let v592 : BitVec 32 := Scalar.select v589 c0_i32_410 c64_i32_411
  let v593 : BitVec 32 := Scalar.addi v449 v592
  let c4_i32_507 : BitVec 32 := 4#32
  let v719 : BitVec 32 := Scalar.xori v2 c4_i32_507
  let v720 : BitVec 1 := Scalar.cmpi .slt v2 v719
  let c0_i32_510 : BitVec 32 := 0#32
  let c32_i32_511 : BitVec 32 := 32#32
  let v723 : BitVec 32 := Scalar.select v720 c0_i32_510 c32_i32_511
  let v724 : BitVec 32 := Scalar.addi v593 v723
  let c512_i32_585 : BitVec 32 := 512#32
  ![v724.toNat, 512]
def k0_dev26 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_580 : BitVec 32 := 4#32
  let v809 : BitVec 32 := Scalar.xori v2 c4_i32_580
  let c1_i32_583 : BitVec 32 := 1#32
  let v810 : BitVec 32 := Scalar.muli v809 c1_i32_583
  let v811 : BitVec 32 := Scalar.addi c0_i32_584 v810
  v811.toNat
def k0_dev27 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_587 : BitVec 32 := 16#32
  let v818 : BitVec 32 := Scalar.xori v2 c16_i32_587
  let c1_i32_590 : BitVec 32 := 1#32
  let v819 : BitVec 32 := Scalar.muli v818 c1_i32_590
  let v820 : BitVec 32 := Scalar.addi c0_i32_591 v819
  v820.toNat
def k0_off42 (d0 : Dev nD) : Fin 2 → Nat :=
  let c2_i32_606 : BitVec 32 := 2#32
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_353 : BitVec 32 := 4#32
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let v838 : BitVec 32 := Scalar.muli c2_i32_606 v521
  let c32_i32_607 : BitVec 32 := 32#32
  let v839 : BitVec 32 := Scalar.addi v838 c32_i32_607
  let c16_i32_461 : BitVec 32 := 16#32
  let v660 : BitVec 32 := Scalar.xori v2 c16_i32_461
  let v661 : BitVec 1 := Scalar.cmpi .slt v2 v660
  let c0_i32_464 : BitVec 32 := 0#32
  let c32_i32_465 : BitVec 32 := 32#32
  let v664 : BitVec 32 := Scalar.select v661 c0_i32_464 c32_i32_465
  let v665 : BitVec 32 := Scalar.addi v521 v664
  let v840 : BitVec 32 := Scalar.subi v839 v665
  let c0_i32_612 : BitVec 32 := 0#32
  ![v840.toNat, 0]
def k0_dev28 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_605 : BitVec 32 := 4#32
  let v837 : BitVec 32 := Scalar.xori v2 c4_i32_605
  let c1_i32_610 : BitVec 32 := 1#32
  let v841 : BitVec 32 := Scalar.muli v837 c1_i32_610
  let v842 : BitVec 32 := Scalar.addi c0_i32_611 v841
  v842.toNat
def k0_off43 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c4_i32_353 : BitVec 32 := 4#32
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let c0_i32_619 : BitVec 32 := 0#32
  ![v521.toNat, 0]
def k0_dev29 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_614 : BitVec 32 := 8#32
  let v849 : BitVec 32 := Scalar.xori v2 c8_i32_614
  let c1_i32_617 : BitVec 32 := 1#32
  let v850 : BitVec 32 := Scalar.muli v849 c1_i32_617
  let v851 : BitVec 32 := Scalar.addi c0_i32_618 v850
  v851.toNat
def k0_off44 (d0 : Dev nD) : Fin 2 → Nat :=
  let c2_i32_633 : BitVec 32 := 2#32
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_407 : BitVec 32 := 16#32
  let v588 : BitVec 32 := Scalar.xori v2 c16_i32_407
  let v589 : BitVec 1 := Scalar.cmpi .slt v2 v588
  let c0_i32_410 : BitVec 32 := 0#32
  let c64_i32_411 : BitVec 32 := 64#32
  let v592 : BitVec 32 := Scalar.select v589 c0_i32_410 c64_i32_411
  let v593 : BitVec 32 := Scalar.addi v449 v592
  let v869 : BitVec 32 := Scalar.muli c2_i32_633 v593
  let c32_i32_634 : BitVec 32 := 32#32
  let v870 : BitVec 32 := Scalar.addi v869 c32_i32_634
  let c4_i32_507 : BitVec 32 := 4#32
  let v719 : BitVec 32 := Scalar.xori v2 c4_i32_507
  let v720 : BitVec 1 := Scalar.cmpi .slt v2 v719
  let c0_i32_510 : BitVec 32 := 0#32
  let c32_i32_511 : BitVec 32 := 32#32
  let v723 : BitVec 32 := Scalar.select v720 c0_i32_510 c32_i32_511
  let v724 : BitVec 32 := Scalar.addi v593 v723
  let v871 : BitVec 32 := Scalar.subi v870 v724
  let c512_i32_639 : BitVec 32 := 512#32
  ![v871.toNat, 512]
def k0_dev30 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_632 : BitVec 32 := 16#32
  let v868 : BitVec 32 := Scalar.xori v2 c16_i32_632
  let c1_i32_637 : BitVec 32 := 1#32
  let v872 : BitVec 32 := Scalar.muli v868 c1_i32_637
  let v873 : BitVec 32 := Scalar.addi c0_i32_638 v872
  v873.toNat
def k0_off45 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c16_i32_407 : BitVec 32 := 16#32
  let v588 : BitVec 32 := Scalar.xori v2 c16_i32_407
  let v589 : BitVec 1 := Scalar.cmpi .slt v2 v588
  let c0_i32_410 : BitVec 32 := 0#32
  let c64_i32_411 : BitVec 32 := 64#32
  let v592 : BitVec 32 := Scalar.select v589 c0_i32_410 c64_i32_411
  let v593 : BitVec 32 := Scalar.addi v449 v592
  let c512_i32_646 : BitVec 32 := 512#32
  ![v593.toNat, 512]
def k0_dev31 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_641 : BitVec 32 := 1#32
  let v880 : BitVec 32 := Scalar.xori v2 c1_i32_641
  let c1_i32_644 : BitVec 32 := 1#32
  let v881 : BitVec 32 := Scalar.muli v880 c1_i32_644
  let v882 : BitVec 32 := Scalar.addi c0_i32_645 v881
  v882.toNat
def k0_off46 (d0 : Dev nD) : Fin 2 → Nat :=
  let c2_i32_671 : BitVec 32 := 2#32
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let v910 : BitVec 32 := Scalar.muli c2_i32_671 v377
  let c64_i32_672 : BitVec 32 := 64#32
  let v911 : BitVec 32 := Scalar.addi v910 c64_i32_672
  let c4_i32_353 : BitVec 32 := 4#32
  let v516 : BitVec 32 := Scalar.xori v2 c4_i32_353
  let v517 : BitVec 1 := Scalar.cmpi .slt v2 v516
  let c0_i32_356 : BitVec 32 := 0#32
  let c64_i32_357 : BitVec 32 := 64#32
  let v520 : BitVec 32 := Scalar.select v517 c0_i32_356 c64_i32_357
  let v521 : BitVec 32 := Scalar.addi v377 v520
  let v912 : BitVec 32 := Scalar.subi v911 v521
  let c0_i32_677 : BitVec 32 := 0#32
  ![v912.toNat, 0]
def k0_dev32 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_670 : BitVec 32 := 8#32
  let v909 : BitVec 32 := Scalar.xori v2 c8_i32_670
  let c1_i32_675 : BitVec 32 := 1#32
  let v913 : BitVec 32 := Scalar.muli v909 c1_i32_675
  let v914 : BitVec 32 := Scalar.addi c0_i32_676 v913
  v914.toNat
def k0_off47 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let c0_i32_684 : BitVec 32 := 0#32
  ![v377.toNat, 0]
def k0_dev33 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_679 : BitVec 32 := 1#32
  let v921 : BitVec 32 := Scalar.xori v2 c1_i32_679
  let c1_i32_682 : BitVec 32 := 1#32
  let v922 : BitVec 32 := Scalar.muli v921 c1_i32_682
  let v923 : BitVec 32 := Scalar.addi c0_i32_683 v922
  v923.toNat
def k0_off48 (d0 : Dev nD) : Fin 2 → Nat :=
  let c2_i32_709 : BitVec 32 := 2#32
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let v951 : BitVec 32 := Scalar.muli c2_i32_709 v449
  let c64_i32_710 : BitVec 32 := 64#32
  let v952 : BitVec 32 := Scalar.addi v951 c64_i32_710
  let c16_i32_407 : BitVec 32 := 16#32
  let v588 : BitVec 32 := Scalar.xori v2 c16_i32_407
  let v589 : BitVec 1 := Scalar.cmpi .slt v2 v588
  let c0_i32_410 : BitVec 32 := 0#32
  let c64_i32_411 : BitVec 32 := 64#32
  let v592 : BitVec 32 := Scalar.select v589 c0_i32_410 c64_i32_411
  let v593 : BitVec 32 := Scalar.addi v449 v592
  let v953 : BitVec 32 := Scalar.subi v952 v593
  let c512_i32_715 : BitVec 32 := 512#32
  ![v953.toNat, 512]
def k0_dev34 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_708 : BitVec 32 := 1#32
  let v950 : BitVec 32 := Scalar.xori v2 c1_i32_708
  let c1_i32_713 : BitVec 32 := 1#32
  let v954 : BitVec 32 := Scalar.muli v950 c1_i32_713
  let v955 : BitVec 32 := Scalar.addi c0_i32_714 v954
  v955.toNat
def k0_off49 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let c512_i32_722 : BitVec 32 := 512#32
  ![v449.toNat, 512]
def k0_dev35 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_717 : BitVec 32 := 3#32
  let v962 : BitVec 32 := Scalar.xori v2 c3_i32_717
  let c1_i32_720 : BitVec 32 := 1#32
  let v963 : BitVec 32 := Scalar.muli v962 c1_i32_720
  let v964 : BitVec 32 := Scalar.addi c0_i32_721 v963
  v964.toNat
def k0_off50 (d0 : Dev nD) : Fin 2 → Nat :=
  let c2_i32_747 : BitVec 32 := 2#32
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let v992 : BitVec 32 := Scalar.muli c2_i32_747 v233
  let c128_i32_748 : BitVec 32 := 128#32
  let v993 : BitVec 32 := Scalar.addi v992 c128_i32_748
  let c8_i32_247 : BitVec 32 := 8#32
  let v372 : BitVec 32 := Scalar.xori v2 c8_i32_247
  let v373 : BitVec 1 := Scalar.cmpi .slt v2 v372
  let c0_i32_250 : BitVec 32 := 0#32
  let c128_i32_251 : BitVec 32 := 128#32
  let v376 : BitVec 32 := Scalar.select v373 c0_i32_250 c128_i32_251
  let v377 : BitVec 32 := Scalar.addi v233 v376
  let v994 : BitVec 32 := Scalar.subi v993 v377
  let c0_i32_753 : BitVec 32 := 0#32
  ![v994.toNat, 0]
def k0_dev36 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_746 : BitVec 32 := 1#32
  let v991 : BitVec 32 := Scalar.xori v2 c1_i32_746
  let c1_i32_751 : BitVec 32 := 1#32
  let v995 : BitVec 32 := Scalar.muli v991 c1_i32_751
  let v996 : BitVec 32 := Scalar.addi c0_i32_752 v995
  v996.toNat
def k0_off51 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let c0_i32_760 : BitVec 32 := 0#32
  ![v233.toNat, 0]
def k0_dev37 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_755 : BitVec 32 := 3#32
  let v1003 : BitVec 32 := Scalar.xori v2 c3_i32_755
  let c1_i32_758 : BitVec 32 := 1#32
  let v1004 : BitVec 32 := Scalar.muli v1003 c1_i32_758
  let v1005 : BitVec 32 := Scalar.addi c0_i32_759 v1004
  v1005.toNat
def k0_off52 (d0 : Dev nD) : Fin 2 → Nat :=
  let c2_i32_785 : BitVec 32 := 2#32
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let v1033 : BitVec 32 := Scalar.muli c2_i32_785 v305
  let c128_i32_786 : BitVec 32 := 128#32
  let v1034 : BitVec 32 := Scalar.addi v1033 c128_i32_786
  let c1_i32_299 : BitVec 32 := 1#32
  let v444 : BitVec 32 := Scalar.xori v2 c1_i32_299
  let v445 : BitVec 1 := Scalar.cmpi .slt v2 v444
  let c0_i32_302 : BitVec 32 := 0#32
  let c128_i32_303 : BitVec 32 := 128#32
  let v448 : BitVec 32 := Scalar.select v445 c0_i32_302 c128_i32_303
  let v449 : BitVec 32 := Scalar.addi v305 v448
  let v1035 : BitVec 32 := Scalar.subi v1034 v449
  let c512_i32_791 : BitVec 32 := 512#32
  ![v1035.toNat, 512]
def k0_dev38 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_784 : BitVec 32 := 3#32
  let v1032 : BitVec 32 := Scalar.xori v2 c3_i32_784
  let c1_i32_789 : BitVec 32 := 1#32
  let v1036 : BitVec 32 := Scalar.muli v1032 c1_i32_789
  let v1037 : BitVec 32 := Scalar.addi c0_i32_790 v1036
  v1037.toNat
def k0_off53 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let c512_i32_798 : BitVec 32 := 512#32
  ![v305.toNat, 512]
def k0_dev39 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_793 : BitVec 32 := 8#32
  let v1044 : BitVec 32 := Scalar.xori v2 c8_i32_793
  let c1_i32_796 : BitVec 32 := 1#32
  let v1045 : BitVec 32 := Scalar.muli v1044 c1_i32_796
  let v1046 : BitVec 32 := Scalar.addi c0_i32_797 v1045
  v1046.toNat
def k0_off54 (d0 : Dev nD) : Fin 2 → Nat :=
  let c2_i32_823 : BitVec 32 := 2#32
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_60 : BitVec 32 := 3#32
  let v128 : BitVec 32 := Scalar.xori v2 c3_i32_60
  let v129 : BitVec 1 := Scalar.cmpi .slt v2 v128
  let c0_i32_63 : BitVec 32 := 0#32
  let c512_i32_64 : BitVec 32 := 512#32
  let v132 : BitVec 32 := Scalar.select v129 c0_i32_63 c512_i32_64
  let v133 : BitVec 32 := Scalar.addi c0_i32_65 v132
  let v1074 : BitVec 32 := Scalar.muli c2_i32_823 v133
  let c256_i32_824 : BitVec 32 := 256#32
  let v1075 : BitVec 32 := Scalar.addi v1074 c256_i32_824
  let c1_i32_141 : BitVec 32 := 1#32
  let v228 : BitVec 32 := Scalar.xori v2 c1_i32_141
  let v229 : BitVec 1 := Scalar.cmpi .slt v2 v228
  let c0_i32_144 : BitVec 32 := 0#32
  let c256_i32_145 : BitVec 32 := 256#32
  let v232 : BitVec 32 := Scalar.select v229 c0_i32_144 c256_i32_145
  let v233 : BitVec 32 := Scalar.addi v133 v232
  let v1076 : BitVec 32 := Scalar.subi v1075 v233
  let c0_i32_829 : BitVec 32 := 0#32
  ![v1076.toNat, 0]
def k0_dev40 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_822 : BitVec 32 := 3#32
  let v1073 : BitVec 32 := Scalar.xori v2 c3_i32_822
  let c1_i32_827 : BitVec 32 := 1#32
  let v1077 : BitVec 32 := Scalar.muli v1073 c1_i32_827
  let v1078 : BitVec 32 := Scalar.addi c0_i32_828 v1077
  v1078.toNat
def k0_off55 (d0 : Dev nD) : Fin 2 → Nat :=
  let c2_i32_854 : BitVec 32 := 2#32
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_99 : BitVec 32 := 8#32
  let v175 : BitVec 32 := Scalar.xori v2 c8_i32_99
  let v176 : BitVec 1 := Scalar.cmpi .slt v2 v175
  let c0_i32_103 : BitVec 32 := 0#32
  let c512_i32_104 : BitVec 32 := 512#32
  let v179 : BitVec 32 := Scalar.select v176 c0_i32_103 c512_i32_104
  let v180 : BitVec 32 := Scalar.addi c0_i32_105 v179
  let v1106 : BitVec 32 := Scalar.muli c2_i32_854 v180
  let c256_i32_855 : BitVec 32 := 256#32
  let v1107 : BitVec 32 := Scalar.addi v1106 c256_i32_855
  let c3_i32_193 : BitVec 32 := 3#32
  let v300 : BitVec 32 := Scalar.xori v2 c3_i32_193
  let v301 : BitVec 1 := Scalar.cmpi .slt v2 v300
  let c0_i32_196 : BitVec 32 := 0#32
  let c256_i32_197 : BitVec 32 := 256#32
  let v304 : BitVec 32 := Scalar.select v301 c0_i32_196 c256_i32_197
  let v305 : BitVec 32 := Scalar.addi v180 v304
  let v1108 : BitVec 32 := Scalar.subi v1107 v305
  let c512_i32_860 : BitVec 32 := 512#32
  ![v1108.toNat, 512]
def k0_dev41 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_853 : BitVec 32 := 8#32
  let v1105 : BitVec 32 := Scalar.xori v2 c8_i32_853
  let c1_i32_858 : BitVec 32 := 1#32
  let v1109 : BitVec 32 := Scalar.muli v1105 c1_i32_858
  let v1110 : BitVec 32 := Scalar.addi c0_i32_859 v1109
  v1110.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x2 : Shape := ⟨2, ![1024, 2]⟩
abbrev S128x512x1024 : Shape := ⟨3, ![128, 512, 1024]⟩
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x128x1024 : Shape := ⟨3, ![1024, 128, 1024]⟩
abbrev S1024x1x1 : Shape := ⟨3, ![1024, 1, 1]⟩
abbrev S1 : Shape := ⟨1, ![1]⟩
abbrev S1x1x1 : Shape := ⟨3, ![1, 1, 1]⟩
abbrev S1024x1x1024 : Shape := ⟨3, ![1024, 1, 1024]⟩
abbrev S1024x1024 : Shape := ⟨2, ![1024, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x2, .i32⟩
  | .hbm, ⟨3, _⟩ => ⟨S128x512x1024, .bf16⟩
  | .hbm, ⟨4, _⟩ => ⟨S1024x512, .f32⟩
  | .hbm, ⟨5, _⟩ => ⟨S512x128, .f32⟩
  | .hbm, ⟨6, _⟩ => ⟨S1024x128, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x128, .f32⟩
  | .hbm, ⟨17, _⟩ => ⟨S1024x128, .f32⟩
  | .hbm, ⟨18, _⟩ => ⟨S128x512x1024, .f32⟩
  | .hbm, ⟨19, _⟩ => ⟨S1024x128x1024, .f32⟩
  | .hbm, ⟨20, _⟩ => ⟨S1024x1, .i32⟩
  | .hbm, ⟨21, _⟩ => ⟨S1024x1, .i32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S1024x1x1, .i32⟩
  | .hbm, ⟨30, _⟩ => ⟨S1, .i32⟩
  | .hbm, ⟨31, _⟩ => ⟨S_, .i32⟩
  | .hbm, ⟨32, _⟩ => ⟨S1024x1x1, .i32⟩
  | .hbm, ⟨33, _⟩ => ⟨S1024x1x1, .i1⟩
  | .hbm, ⟨34, _⟩ => ⟨S1x1x1, .i32⟩
  | .hbm, ⟨35, _⟩ => ⟨S1024x1x1, .i32⟩
  | .hbm, ⟨36, _⟩ => ⟨S1024x1x1, .i1⟩
  | .hbm, ⟨37, _⟩ => ⟨S1024x1x1, .i1⟩
  | .hbm, ⟨38, _⟩ => ⟨S_, .i1⟩
  | .hbm, ⟨39, _⟩ => ⟨S1024x1, .i1⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S_, .i32⟩
  | .hbm, ⟨45, _⟩ => ⟨S1024x1, .i32⟩
  | .hbm, ⟨46, _⟩ => ⟨S1024x1, .i1⟩
  | .hbm, ⟨47, _⟩ => ⟨S_, .i32⟩
  | .hbm, ⟨48, _⟩ => ⟨S1024x1, .i32⟩
  | .hbm, ⟨49, _⟩ => ⟨S1024x1, .i32⟩
  | .hbm, ⟨50, _⟩ => ⟨S1024x1, .i32⟩
  | .hbm, ⟨51, _⟩ => ⟨S1024x1x1, .i32⟩
  | .hbm, ⟨52, _⟩ => ⟨S1, .i32⟩
  | .hbm, ⟨53, _⟩ => ⟨S_, .i32⟩
  | .hbm, ⟨54, _⟩ => ⟨S1024x1x1, .i32⟩
  | .hbm, ⟨55, _⟩ => ⟨S1024x1x1, .i1⟩
  | .hbm, ⟨56, _⟩ => ⟨S1x1x1, .i32⟩
  | .hbm, ⟨57, _⟩ => ⟨S1024x1x1, .i32⟩
  | .hbm, ⟨58, _⟩ => ⟨S1024x1x1, .i1⟩
  | .hbm, ⟨59, _⟩ => ⟨S1024x1x1, .i1⟩
  | .hbm, ⟨60, _⟩ => ⟨S_, .i1⟩
  | .hbm, ⟨61, _⟩ => ⟨S1024x1, .i1⟩
  | .hbm, ⟨62, _⟩ => ⟨S1024x1, .f32⟩
  | .hbm, ⟨63, _⟩ => ⟨S_, .f32⟩
  | .hbm, ⟨64, _⟩ => ⟨S1024x1, .f32⟩
  | .hbm, ⟨65, _⟩ => ⟨S1024x1, .f32⟩
  | .hbm, ⟨66, _⟩ => ⟨S1024x1, .f32⟩
  | .hbm, ⟨67, _⟩ => ⟨S1024x1x1, .i32⟩
  | .hbm, ⟨68, _⟩ => ⟨S_, .i32⟩
  | .hbm, ⟨69, _⟩ => ⟨S1024x1x1, .i32⟩
  | .hbm, ⟨70, _⟩ => ⟨S1024x1x1, .i1⟩
  | .hbm, ⟨71, _⟩ => ⟨S_, .i32⟩
  | .hbm, ⟨72, _⟩ => ⟨S1024x1x1, .i32⟩
  | .hbm, ⟨73, _⟩ => ⟨S1024x1x1, .i32⟩
  | .hbm, ⟨74, _⟩ => ⟨S1024x1x1, .i32⟩
  | .hbm, ⟨75, _⟩ => ⟨S1, .i32⟩
  | .hbm, ⟨76, _⟩ => ⟨S_, .i32⟩
  | .hbm, ⟨77, _⟩ => ⟨S1024x1x1, .i32⟩
  | .hbm, ⟨78, _⟩ => ⟨S1024x1x1, .i1⟩
  | .hbm, ⟨79, _⟩ => ⟨S1x1x1, .i32⟩
  | .hbm, ⟨80, _⟩ => ⟨S1024x1x1, .i32⟩
  | .hbm, ⟨81, _⟩ => ⟨S1024x1x1, .i1⟩
  | .hbm, ⟨82, _⟩ => ⟨S1024x1x1, .i1⟩
  | .hbm, ⟨83, _⟩ => ⟨S_, .i1⟩
  | .hbm, ⟨84, _⟩ => ⟨S1024x1, .i1⟩
  | .hbm, ⟨85, _⟩ => ⟨S1024x1x1024, .f32⟩
  | .hbm, ⟨86, _⟩ => ⟨S1024x1x1024, .i1⟩
  | .hbm, ⟨87, _⟩ => ⟨S_, .f32⟩
  | .hbm, ⟨88, _⟩ => ⟨S1024x1x1024, .f32⟩
  | .hbm, ⟨89, _⟩ => ⟨S1024x1x1024, .f32⟩
  | .hbm, ⟨90, _⟩ => ⟨S1024x1024, .f32⟩
  | .hbm, ⟨91, _⟩ => ⟨S1024x1x1, .i32⟩
  | .hbm, ⟨92, _⟩ => ⟨S_, .i32⟩
  | .hbm, ⟨93, _⟩ => ⟨S1024x1x1, .i32⟩
  | .hbm, ⟨94, _⟩ => ⟨S1024x1x1, .i1⟩
  | .hbm, ⟨95, _⟩ => ⟨S_, .i32⟩
  | .hbm, ⟨96, _⟩ => ⟨S1024x1x1, .i32⟩
  | .hbm, ⟨97, _⟩ => ⟨S1024x1x1, .i32⟩
  | .hbm, ⟨98, _⟩ => ⟨S1024x1x1, .i32⟩
  | .hbm, ⟨99, _⟩ => ⟨S1, .i32⟩
  | .hbm, ⟨100, _⟩ => ⟨S_, .i32⟩
  | .hbm, ⟨101, _⟩ => ⟨S1024x1x1, .i32⟩
  | .hbm, ⟨102, _⟩ => ⟨S1024x1x1, .i1⟩
  | .hbm, ⟨103, _⟩ => ⟨S1x1x1, .i32⟩
  | .hbm, ⟨104, _⟩ => ⟨S1024x1x1, .i32⟩
  | .hbm, ⟨105, _⟩ => ⟨S1024x1x1, .i1⟩
  | .hbm, ⟨106, _⟩ => ⟨S1024x1x1, .i1⟩
  | .hbm, ⟨107, _⟩ => ⟨S_, .i1⟩
  | .hbm, ⟨108, _⟩ => ⟨S1024x1, .i1⟩
  | .hbm, ⟨109, _⟩ => ⟨S1024x1x1024, .f32⟩
  | .hbm, ⟨110, _⟩ => ⟨S1024x1x1024, .i1⟩
  | .hbm, ⟨111, _⟩ => ⟨S_, .f32⟩
  | .hbm, ⟨112, _⟩ => ⟨S1024x1x1024, .f32⟩
  | .hbm, ⟨113, _⟩ => ⟨S1024x1x1024, .f32⟩
  | .hbm, ⟨114, _⟩ => ⟨S1024x1024, .f32⟩
  | .hbm, ⟨115, _⟩ => ⟨S1024x1, .f32⟩
  | .hbm, ⟨116, _⟩ => ⟨S1024x1024, .f32⟩
  | .hbm, ⟨117, _⟩ => ⟨S1024x1024, .f32⟩
  | .hbm, ⟨118, _⟩ => ⟨S1024x1, .f32⟩
  | .hbm, ⟨119, _⟩ => ⟨S1024x1024, .f32⟩
  | .hbm, ⟨120, _⟩ => ⟨S1024x1024, .f32⟩
  | .hbm, ⟨121, _⟩ => ⟨S1024x1024, .f32⟩
  | .hbm, ⟨122, _⟩ => ⟨S1024x1024, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_1 : Ref sig .tc := ⟨.hbm, 75, rfl⟩
abbrev main_call2_c_2 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_c_3 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_cst : Ref sig .tc := ⟨.hbm, 87, rfl⟩
abbrev main_call2_v14 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_c_1 : Ref sig .tc := ⟨.hbm, 99, rfl⟩
abbrev main_call3_c_2 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_c_3 : Ref sig .tc := ⟨.hbm, 107, rfl⟩
abbrev main_call3_v11 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v23 : Ref sig .tc := ⟨.hbm, 113, rfl⟩
abbrev main_v24 : Ref sig .tc := ⟨.hbm, 114, rfl⟩
abbrev main_v25 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩

abbrev nD : Nat := 1
abbrev τ : Topo := Topo.v7x

variable {F : FTy → Type} [FloatOps F]
-- ==== Proof.Moe.Geom.lean ====
/-
# The geometry of the exchange

The 32 devices are the corners of a hypercube. Each half of the columns (`sl`: 0 the columns below 512, 1 the others)
has its own order of the five directions (`msk`), and in step `s` a device exchanges with `peer c sl s`. Before step `s`
a device answers for the rows `[lo c sl s, lo c sl s + sz s)`; the step halves them.

A step's rows travel in two copies (in the last step, one): copy `k < 5` is the first of step `k`, copy `k ≥ 5` the second
of step `k - 5`. `bst c sl k` is the first row, `bsz k` the number of rows of copy `k` as its receiver `c` counts them. The
second half of the kernel sends the finished rows back by the same copies in the opposite order and direction.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Directions and peers -/

/-- Crossing a direction of the cube leads to a device. -/
theorem xr_lt (c : Dev nD) (m : Fin 32) : c.val ^^^ m.val < nD := Nat.xor_lt_two_pow (n := 5) c.isLt m.isLt
/-- The device across direction `m` of the cube. -/
def xr (c : Dev nD) (m : Fin 32) : Dev nD := ⟨c.val ^^^ m.val, xr_lt c m⟩
/-- Crossing a direction twice leads back. -/
theorem xr_xr (c : Dev nD) (m : Fin 32) : xr (xr c m) m = c :=
  Fin.ext (by show (c.val ^^^ m.val) ^^^ m.val = c.val; rw [Nat.xor_assoc, Nat.xor_self, Nat.xor_zero])
/-- Crossing direction `m` is its own inverse. -/
def xrEquiv (m : Fin 32) : Dev nD ≃ Dev nD := ⟨fun c => xr c m, fun c => xr c m, fun c => xr_xr c m, fun c => xr_xr c m⟩

/-- The order in which each half of the columns takes the directions. -/
def msk (sl : Fin 2) (s : ℕ) : Fin 32 :=
  if sl = 0 then (match s with | 0 => 3 | 1 => 1 | 2 => 8 | 3 => 4 | _ => 16)
  else (match s with | 0 => 8 | 1 => 3 | 2 => 1 | 3 => 16 | _ => 4)

def peer (c : Dev nD) (sl : Fin 2) (s : ℕ) : Dev nD := xr c (msk sl s)
/-- A device is its peer's peer. -/
theorem peer_peer (c : Dev nD) (sl : Fin 2) (s : ℕ) : peer (peer c sl s) sl s = c := xr_xr c _

/-! ## Rows -/

/-- How many rows a device answers for before step `s`. -/
def sz : ℕ → ℕ | 0 => 1024 | 1 => 512 | 2 => 256 | 3 => 128 | 4 => 64 | _ => 32

/-- The first of them. -/
def lo (c : Dev nD) (sl : Fin 2) : ℕ → ℕ
  | 0 => 0
  | s + 1 => if c.val < (peer c sl s).val then lo c sl s else lo c sl s + sz (s + 1)

/-- The step a copy belongs to. -/
def stg (k : Fin 9) : ℕ := if k.val < 5 then k.val else k.val - 5
/-- The halving after which the receiver's rows of a copy are a whole range of some device. -/
def blv (k : Fin 9) : ℕ := if k.val < 4 then k.val + 2 else if k.val = 4 then 5 else k.val - 3
/-- The number of rows of a copy. -/
def bsz (k : Fin 9) : ℕ := sz (blv k)
/-- The first row of copy `k`, at its receiver `c`. -/
def bst (c : Dev nD) (sl : Fin 2) (k : Fin 9) : ℕ :=
  if k.val < 4 then lo (peer c sl (k.val + 1)) sl (k.val + 2) else lo c sl (blv k)
/-- Its first row in the receive buffer of the step. -/
def dr (c : Dev nD) (sl : Fin 2) (k : Fin 9) : ℕ := bst c sl k - lo c sl (stg k + 1)

/-- Rows of the receive buffer of step `s`. -/
def rsRows (s : Fin 5) : ℕ := match s with | 0 => 512 | 1 => 256 | 2 => 128 | 3 => 64 | 4 => 32

def stgF (k : Fin 9) : Fin 5 := match k with | 0 => 0 | 1 => 1 | 2 => 2 | 3 => 3 | 4 => 4 | 5 => 0 | 6 => 1 | 7 => 2 | 8 => 3
/-- The step of a copy, as a number. -/
theorem stgF_val (k : Fin 9) : (stgF k).val = stg k := by revert k; decide

/-- The rows of a copy lie in the output. -/
theorem bst_inb (c : Dev nD) (sl : Fin 2) (k : Fin 9) : bst c sl k + bsz k ≤ 1024 := by revert c sl k; decide +kernel
/-- The rows of a copy lie in the receive buffer of its step. -/
theorem dr_inb (c : Dev nD) (sl : Fin 2) (k : Fin 9) : dr c sl k + bsz k ≤ rsRows (stgF k) := by revert c sl k; decide +kernel
/-- The rows a device answers for lie in the output. -/
theorem lo_inb (c : Dev nD) (sl : Fin 2) (s : Fin 6) : lo c sl s + sz s ≤ 1024 := by revert c sl s; decide +kernel

/-- The range before step `s` is this device's and its peer's after it, in some order. -/
theorem lo_split (c : Dev nD) (sl : Fin 2) (s : Fin 5) :
    (lo c sl (s + 1) = lo c sl s ∧ lo (peer c sl s) sl (s + 1) = lo c sl s + sz (s + 1))
      ∨ (lo (peer c sl s) sl (s + 1) = lo c sl s ∧ lo c sl (s + 1) = lo c sl s + sz (s + 1)) := by revert c sl s; decide +kernel
/-- Each step halves the number of rows. -/
theorem sz_split (s : Fin 5) : sz s = sz (s + 1) + sz (s + 1) := by revert s; decide

/-! ## The output rows a device holds -/

/-- An element of the output by its row and its column. -/
def oix (r q : ℕ) : S1024x1024.Idx := fun a => match a with
  | 0 => ⟨r % 1024, Nat.mod_lt _ (by decide)⟩ | 1 => ⟨q % 1024, Nat.mod_lt _ (by decide)⟩

/-- Rows `[a, a + n)` of a half of the columns. -/
def R (a n : ℕ) (sl : Fin 2) : Finset S1024x1024.Idx :=
  Finset.univ.filter fun i => (a ≤ (i 0).val ∧ (i 0).val < a + n) ∧ 512 * sl.val ≤ (i 1).val ∧ (i 1).val < 512 * sl.val + 512

/-- An element is in a range when its row and its column are. -/
theorem mem_R {a n : ℕ} {sl : Fin 2} {i : S1024x1024.Idx} :
    i ∈ R a n sl ↔ (a ≤ (i 0).val ∧ (i 0).val < a + n) ∧ 512 * sl.val ≤ (i 1).val ∧ (i 1).val < 512 * sl.val + 512 := by
  unfold R; rw [Finset.mem_filter]; exact ⟨fun h => h.2, fun h => ⟨Finset.mem_univ _, h⟩⟩

/-- Adjacent ranges of rows join. -/
theorem R_union (a n n' : ℕ) (sl : Fin 2) : R a n sl ∪ R (a + n) n' sl = R a (n + n') sl := by
  ext i; rw [Finset.mem_union, mem_R, mem_R, mem_R]; omega
/-- Adjacent ranges of rows do not meet. -/
theorem R_disj (a n n' : ℕ) (sl : Fin 2) : Disjoint (R a n sl) (R (a + n) n' sl) := by
  rw [Finset.disjoint_left]; intro i h h'; rw [mem_R] at h h'; omega
/-- The two halves of the columns do not meet. -/
theorem R_sl_disj (a n a' n' : ℕ) : Disjoint (R a n 0) (R a' n' 1) := by
  rw [Finset.disjoint_left]; intro i h h'; rw [mem_R] at h h'
  have h1 : (0 : Fin 2).val = 0 := rfl
  have h2 : (1 : Fin 2).val = 1 := rfl
  omega
/-- The two halves of the columns are the whole output. -/
theorem R_all : R 0 1024 0 ∪ R 0 1024 1 = Finset.univ := by
  ext i
  have h1 : (0 : Fin 2).val = 0 := rfl
  have h2 : (1 : Fin 2).val = 1 := rfl
  have h3 : (i 0).val < 1024 := (i 0).isLt
  have h4 : (i 1).val < 1024 := (i 1).isLt
  rw [Finset.mem_union, mem_R, mem_R]
  exact ⟨fun _ => Finset.mem_univ _, fun _ => by omega⟩

/-- The rows device `c` answers for before step `s`. -/
def K (c : Dev nD) (sl : Fin 2) (s : ℕ) : Finset S1024x1024.Idx := R (lo c sl s) (sz s) sl
/-- The rows of copy `k` at its receiver `c`. -/
def B (c : Dev nD) (sl : Fin 2) (k : Fin 9) : Finset S1024x1024.Idx := R (bst c sl k) (bsz k) sl

/-- The rows before a step are the peer's and the device's own after it. -/
theorem K_split (c : Dev nD) (sl : Fin 2) (s : Fin 5) : K c sl s = K (peer c sl s) sl (s + 1) ∪ K c sl (s + 1) := by
  unfold K; rw [sz_split s]
  rcases lo_split c sl s with ⟨h, h'⟩ | ⟨h, h'⟩ <;> rw [h, h']
  · rw [Finset.union_comm, R_union]
  · rw [R_union]
/-- The peer's rows after a step are not the device's own. -/
theorem K_disj (c : Dev nD) (sl : Fin 2) (s : Fin 5) : Disjoint (K (peer c sl s) sl (s + 1)) (K c sl (s + 1)) := by
  unfold K
  rcases lo_split c sl s with ⟨h, h'⟩ | ⟨h, h'⟩ <;> rw [h, h']
  · exact (R_disj _ _ _ _).symm
  · exact R_disj _ _ _ _
/-- Before the first step a device answers for all the rows. -/
theorem K_zero (c : Dev nD) (sl : Fin 2) : K c sl 0 = R 0 1024 sl := rfl

/-- The two copies of step `s` are the rows the receiver keeps. -/
theorem B_hot (c : Dev nD) (sl : Fin 2) (s : Fin 4) : B c sl ⟨s.val, by omega⟩ = K (peer c sl (s.val + 1)) sl (s.val + 2) := by
  unfold B K bst bsz blv; rw [if_pos (by exact s.isLt), if_pos (by exact s.isLt)]
/-- The last step's copy is the rows the receiver ends with. -/
theorem B_last (c : Dev nD) (sl : Fin 2) : B c sl 4 = K c sl 5 := rfl
/-- The second copy of a step is what the receiver keeps after the next step. -/
theorem B_cold (c : Dev nD) (sl : Fin 2) (s : Fin 4) : B c sl ⟨s.val + 5, by omega⟩ = K c sl (s.val + 2) := by
  revert s c sl; unfold B K
  intro c sl s
  congr 1 <;> · revert s c sl; decide +kernel

/-! ## The output and receive buffers as views -/

abbrev outM : Memref sig .tc .vmem S1024x1024 .bf16 := Memref.whole cc0_stg4_0

/-- The receive buffer of step `s`. -/
def rsM (sl : Fin 2) (s : Fin 5) : Memref sig .tc .vmem ⟨2, ![rsRows s, 512]⟩ .bf16 := match sl, s with
  | 0, 0 => Memref.whole cc0_scratch0 | 0, 1 => Memref.whole cc0_scratch1 | 0, 2 => Memref.whole cc0_scratch2
  | 0, 3 => Memref.whole cc0_scratch3 | 0, 4 => Memref.whole cc0_scratch4
  | 1, 0 => Memref.whole cc0_scratch5 | 1, 1 => Memref.whole cc0_scratch6 | 1, 2 => Memref.whole cc0_scratch7
  | 1, 3 => Memref.whole cc0_scratch8 | 1, 4 => Memref.whole cc0_scratch9

/-- The shape of `n` rows of a half of the columns. -/
abbrev Sn (n : ℕ) : Shape := ⟨2, ![n, 512]⟩

/-- A range of rows and columns within the output is a slice of it. -/
theorem o_inb {a n b : ℕ} (h : a + n ≤ 1024) (h' : b + 512 ≤ 1024) :
    ∀ x, (![a, b] : Fin 2 → ℕ) x + (Sn n).size x ≤ S1024x1024.size x := fun x => by
  match x with
  | 0 => exact h
  | 1 => exact h'
/-- A range of rows within a receive buffer is a slice of it. -/
theorem r_inb {a n m : ℕ} (h : a + n ≤ m) :
    ∀ x, (![a, 0] : Fin 2 → ℕ) x + (Sn n).size x ≤ (Sn m).size x := fun x => by
  match x with
  | 0 => exact h
  | 1 => exact Nat.le_refl _

/-- Each half of the columns lies in the output. -/
theorem sl_inb (sl : Fin 2) : 512 * sl.val + 512 ≤ 1024 := by omega

/-- Rows of a half of the columns, as a view of the output. -/
def oSl (a n : ℕ) (sl : Fin 2) (h : a + n ≤ 1024) : Memref sig .tc .vmem (Sn n) .bf16 :=
  outM.slice (Rect.unit (s := S1024x1024) ![a, 512 * sl.val] (Sn n).size (o_inb h (sl_inb sl))) (fun _ => rfl)
/-- The receive buffer's rows of copy `k`. -/
def rSl (c : Dev nD) (sl : Fin 2) (k : Fin 9) : Memref sig .tc .vmem (Sn (bsz k)) .bf16 :=
  (rsM sl (stgF k)).slice (Rect.unit (s := Sn (rsRows (stgF k))) ![dr c sl k, 0] (Sn (bsz k)).size (r_inb (dr_inb c sl k))) (fun _ => rfl)
/-- The output's rows of copy `k` at its receiver `c`. -/
def bSl (c : Dev nD) (sl : Fin 2) (k : Fin 9) : Memref sig .tc .vmem (Sn (bsz k)) .bf16 := oSl (bst c sl k) (bsz k) sl (bst_inb c sl k)

/-- The elements the view covers. -/
theorem oSl_set (a n : ℕ) (sl : Fin 2) (h : a + n ≤ 1024) : (oSl a n sl h).view.set = R a n sl := by
  unfold oSl
  refine (View.set_slice_whole _ _).trans ?_
  ext i
  rw [Rect.mem_set_unit, mem_R]
  constructor
  · intro hi; exact ⟨hi 0, hi 1⟩
  · intro hi x
    match x with
    | 0 => exact hi.1
    | 1 => exact hi.2

end Cert.Moe

end
-- ==== Proof.Moe.Sched.lean ====
/-
# The protocol: who signals which semaphore, and what each landing hands over

Per device: the barrier semaphore, signalled once by each of the five peers; and per copy a semaphore at its sender and one
at its receiver. A peer's barrier signal hands over the peer's two receive buffers that this device will fill. A copy of the
first half of the kernel carries, besides the rows it lands, the sender's permission on the rows it sent: the receiver
gives the finished rows back there by the copy of the second half that runs the other way.
-/
module

public import proofs.«01_k».proof.Proof.Moe.Geom

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a cell: a barrier cell's five signals; a copy's cell has the one duty `0`. -/
abbrev D : Type := Fin 5
abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores -/

/-- The runtime's barrier semaphore. -/
abbrev barS : Sem sig := (SemArray.scalar (sig.barrier 0 rfl) : Sems sig S_).sem

/-- The place of a copy of the second half in its semaphore array. -/
def slot (k : Fin 9) : ℕ := if k.val < 4 then 8 - k.val else if k.val = 4 then 0 else 9 - k.val
/-- There are nine such places. -/
theorem slot_lt (k : Fin 9) : slot k < 9 := by revert k; decide

/-- The sender's semaphore of copy `k` (`rs`: of the first half of the kernel). -/
def sS (rs : Bool) (sl : Fin 2) (k : Fin 9) : DmaSem sig :=
  ⟨if rs then 5 + 20 * sl.val + k.val else 45 + 18 * sl.val + slot k, by have := slot_lt k; show _ < 81; split <;> omega⟩
/-- The receiver's. -/
def sR (rs : Bool) (sl : Fin 2) (k : Fin 9) : DmaSem sig :=
  ⟨if rs then 15 + 20 * sl.val + k.val else 54 + 18 * sl.val + slot k, by have := slot_lt k; show _ < 81; split <;> omega⟩

/-- Which copy a semaphore belongs to, and whether it is the receiver's: (first half, receiver's, columns, copy). -/
def kindOf (q : DmaSem sig) : Option (Bool × Bool × Fin 2 × Fin 9) :=
  ((List.finRange 2).flatMap fun sl => (List.finRange 9).flatMap fun k => [true, false].flatMap fun rs => [(rs, false, sl, k), (rs, true, sl, k)]).find?
    fun x => (if x.2.1 then sR x.1 x.2.2.1 x.2.2.2 else sS x.1 x.2.2.1 x.2.2.2) = q

/-- A sender's semaphore is known to be its copy's. -/
theorem kindOf_sS (rs : Bool) (sl : Fin 2) (k : Fin 9) : kindOf (sS rs sl k) = some (rs, false, sl, k) := by revert rs sl k; decide +kernel
/-- A receiver's semaphore is known to be its copy's. -/
theorem kindOf_sR (rs : Bool) (sl : Fin 2) (k : Fin 9) : kindOf (sR rs sl k) = some (rs, true, sl, k) := by revert rs sl k; decide +kernel
/-- A sender's semaphore is not a staging one. -/
theorem five_le_sS (rs : Bool) (sl : Fin 2) (k : Fin 9) : 5 ≤ (sS rs sl k).val := by revert rs sl k; decide +kernel
/-- A receiver's semaphore is not a staging one. -/
theorem five_le_sR (rs : Bool) (sl : Fin 2) (k : Fin 9) : 5 ≤ (sR rs sl k).val := by revert rs sl k; decide +kernel
/-- A staging semaphore belongs to no copy. -/
theorem kindOf_stage (q : DmaSem sig) (h : q.val < 5) : kindOf q = none := by revert q; decide +kernel

/-- The place of a copy in the order of the kernel's copies. -/
def pos (rs : Bool) (sl : Fin 2) (k : Fin 9) : ℕ :=
  if rs then (if k.val < 4 then 4 * k.val + 2 * sl.val else if k.val = 4 then 16 + sl.val else 4 * (k.val - 5) + 2 * sl.val + 1)
  else (match slot k with
    | 0 => 18 + 2 * sl.val | 1 => 19 + 2 * sl.val | 5 => 22 + 2 * sl.val | 2 => 23 + 2 * sl.val | 6 => 26 + 2 * sl.val | 3 => 27 + 2 * sl.val
    | 7 => 30 + 2 * sl.val | 4 => 31 + 2 * sl.val | _ => 34 + sl.val)

/-- The copy at a place of that order. -/
def cpAt (o : Fin 36) : Bool × Fin 2 × Fin 9 :=
  (((List.finRange 2).flatMap fun sl => (List.finRange 9).flatMap fun k => [(true, sl, k), (false, sl, k)]).find?
    fun x => pos x.1 x.2.1 x.2.2 = o.val).getD (true, 0, 0)

/-- There are 36 copies. -/
theorem pos_lt (rs : Bool) (sl : Fin 2) (k : Fin 9) : pos rs sl k < 36 := by revert rs sl k; decide +kernel
/-- The copy at a copy's place is that copy. -/
theorem cpAt_pos (rs : Bool) (sl : Fin 2) (k : Fin 9) : cpAt ⟨pos rs sl k, pos_lt rs sl k⟩ = (rs, sl, k) := by revert rs sl k; decide +kernel
/-- The place of the copy at a place is that place. -/
theorem pos_cpAt (o : Fin 36) : pos (cpAt o).1 (cpAt o).2.1 (cpAt o).2.2 = o.val := by revert o; decide +kernel

/-- The order in which the barrier signals are issued. -/
def bmsk (d : Fin 5) : Fin 32 := match d with | 0 => 1 | 1 => 3 | 2 => 4 | 3 => 8 | 4 => 16
/-- The step in which each half of the columns uses that direction. -/
def bstep (sl : Fin 2) (d : Fin 5) : Fin 5 :=
  if sl = 0 then (match d with | 0 => 1 | 1 => 0 | 2 => 3 | 3 => 2 | 4 => 4) else (match d with | 0 => 2 | 1 => 1 | 2 => 4 | 3 => 0 | 4 => 3)
/-- A half of the columns uses a signal's direction in that step. -/
theorem msk_bstep (sl : Fin 2) (d : Fin 5) : msk sl (bstep sl d).val = bmsk d := by revert sl d; decide

/-! ## Cells -/

/-- A device's cells: `0` its barrier, the rest its copies' semaphores. -/
def semI (k : Fin 77) : SemLoc sig := if k = 0 then .reg barS else .dma ⟨k.val + 4, by show _ < 81; omega⟩
abbrev kcell (ck : Dev nD × Fin 77) : GSem nD τ sig := ((ck.1 : Thread nD τ), semI ck.2)
abbrev barCell (c : Dev nD) : GSem nD τ sig := ((c : Thread nD τ), .reg barS)
abbrev dCell (c : Dev nD) (q : DmaSem sig) : GSem nD τ sig := ((c : Thread nD τ), .dma q)

/-- A copy's semaphore's place among the cells. -/
def ixq (q : DmaSem sig) : Fin 77 := ⟨q.val - 4, by have : q.val < 81 := q.isLt; omega⟩
/-- The cell at a semaphore's place is that semaphore. -/
theorem semI_ixq (q : DmaSem sig) (h : 5 ≤ q.val) : semI (ixq q) = .dma q := by
  unfold semI ixq
  rw [if_neg (fun e => by have := congrArg Fin.val e; simp only [Fin.val_zero] at this; omega)]
  congr 1; exact Fin.ext (by show q.val - 4 + 4 = q.val; omega)
/-- The first cell is the barrier's. -/
theorem semI_zero : semI 0 = .reg barS := if_pos rfl

/-- The credit of a copy. -/
def N (k : Fin 9) : ℕ := RefSig.tileCredit (Sn (bsz k)) .bf16
/-- A copy's credit is positive. -/
theorem N_pos (k : Fin 9) : 0 < N k := by revert k; decide +kernel

/-! ## Contents -/

/-- The contents of the whole output buffer. -/
abbrev OutC (F : FTy → Type) : Type := S1024x1024.Idx → Elt F .bf16

/-- What device `c` holds of a half of the columns after `s` steps of the first half, where `P` are the devices' own terms: its sum and its peer's. -/
def St (P : Dev nD → OutC F) (sl : Fin 2) : ℕ → Dev nD → OutC F
  | 0, c => P c
  | s + 1, c => fun i => FloatOps.addf (φ := .bf16) (St P sl s c i) (St P sl s (peer c sl s) i)

/-- The device that finishes block `b` of 32 rows. -/
def owner (sl : Fin 2) (b : ℕ) : Dev nD := ((List.finRange 32).find? fun c => lo c sl 5 = 32 * b).getD 0
/-- A device owns the block it ends with. -/
theorem owner_lo (c : Dev nD) (sl : Fin 2) : owner sl (lo c sl 5 / 32) = c := by revert c sl; decide +kernel
/-- The rows a device ends with start at a block. -/
theorem lo_five (c : Dev nD) (sl : Fin 2) : 32 * (lo c sl 5 / 32) = lo c sl 5 := by revert c sl; decide +kernel

/-- The finished rows of a half of the columns: each from the device that finished it. -/
def Fn (P : Dev nD → OutC F) (sl : Fin 2) : OutC F := fun i => St P sl 5 (owner sl ((i 0).val / 32)) i

omit [FloatOps F] in
/-- An element of the output is a float of its format. -/
theorem elt_bf16 : Elt F .bf16 = F .bf16 := rfl

/-- In the rows a device ends with, its sum is the finished one. -/
theorem Fn_own (P : Dev nD → OutC F) (sl : Fin 2) (c : Dev nD) : ∀ i ∈ K c sl 5, St P sl 5 c i = Fn P sl i := by
  intro i hi
  unfold K at hi; rw [mem_R] at hi
  have h1 : sz 5 = 32 := rfl
  have h2 := lo_five c sl
  have h3 : (i 0).val / 32 = lo c sl 5 / 32 := by omega
  unfold Fn; rw [h3, owner_lo]

/-! ## Permissions -/

/-- Elements of device `c`'s output. -/
def oPt (c : Dev nD) (S : Finset S1024x1024.Idx) (q : PosShare TreeShare) (f : OutC F) : sProp 𝕄 :=
  (outM.view.loc (c : Thread nD τ)) ↦[S]{q} f

omit [FloatOps F] in
instance oPt_storable (c : Dev nD) (S) (q) (f : OutC F) : BI.Storable (upEmb : UEmb _ 𝕄) (oPt c S q f) := by unfold oPt; infer_instance

omit [FloatOps F] in
/-- Only the elements owned matter. -/
theorem oPt_congr (c : Dev nD) {S : Finset S1024x1024.Idx} {q : PosShare TreeShare} {f g : OutC F} (h : ∀ i ∈ S, f i = g i) : oPt c S q f = oPt c S q g :=
  pointsTo_congr h

/-- The receive buffer's rows of copy `k`, at any contents. -/
def rAny (c : Dev nD) (sl : Fin 2) (k : Fin 9) : sProp 𝕄 :=
  iprop(∃ f, ((rSl c sl k).view.loc (c : Thread nD τ)) ↦[(rSl c sl k).view.set]{fullShare} f)
/-- The receive buffer of a step, at any contents. -/
def rWhole (c : Dev nD) (sl : Fin 2) (s : Fin 5) : sProp 𝕄 :=
  iprop(∃ f, ((rsM sl s).view.loc (c : Thread nD τ)) ↦[(rsM sl s).view.set]{fullShare} f)

omit [FloatOps F] in
instance rWhole_storable (c : Dev nD) (sl : Fin 2) (s : Fin 5) : BI.Storable (upEmb : UEmb _ 𝕄) (rWhole (F := F) c sl s) := by unfold rWhole; infer_instance

/-- The rows copy `k` brings to `c`: its peer's sums of the step, of the rows the copy covers. -/
def got (P : Dev nD → OutC F) (c : Dev nD) (sl : Fin 2) (k : Fin 9) : (Sn (bsz k)).Idx → Elt F .bf16 :=
  (bSl c sl k).view.read (Elt F) (St P sl (stg k) (peer c sl (stg k)))

/-- The half of a permission that the copies of a level of the second half lend to the copy engine. -/
def hs (s : ℕ) : PosShare TreeShare := if s % 2 = 0 then PosShare.left fullShare else PosShare.right fullShare

/-- What a copy of the first half brings its receiver `c`: the rows, and its peer's permission on them. -/
def rsPay (P : Dev nD → OutC F) (c : Dev nD) (sl : Fin 2) (k : Fin 9) : sProp 𝕄 :=
  iprop(owns (Ix := Unit) (Name := ℕ) (U := UU) (Lvl := ℕ) (c : Thread nD τ) (rSl c sl k) fullShare (got P c sl k) ∗ ∃ f, oPt (peer c sl (stg k)) (B c sl k) fullShare f)
/-- What a copy of the second half brings its receiver `c`: finished rows in its own output. -/
def agPay (P : Dev nD → OutC F) (c : Dev nD) (sl : Fin 2) (k : Fin 9) : sProp 𝕄 := oPt c (B (peer c sl (stg k)) sl k) fullShare (Fn P sl)
/-- What its departure gives its sender back. -/
def agBack (P : Dev nD → OutC F) (c : Dev nD) (sl : Fin 2) (k : Fin 9) : sProp 𝕄 := oPt c (B c sl k) (hs (stg k)) (Fn P sl)
/-- What the barrier signal across direction `d` hands `c`. -/
def barPay (c : Dev nD) (d : D) : sProp 𝕄 := iprop(rWhole (F := F) (xr c (bmsk d)) 0 (bstep 0 d) ∗ rWhole (xr c (bmsk d)) 1 (bstep 1 d))

/-- What a copy's semaphore hands over. -/
def dPay (P : Dev nD → OutC F) (c : Dev nD) : Option (Bool × Bool × Fin 2 × Fin 9) → sProp 𝕄
  | some (true, true, sl, k) => rsPay P c sl k
  | some (false, true, sl, k) => agPay P c sl k
  | some (false, false, sl, k) => agBack P c sl k
  | _ => iprop(emp)

/-- The schedule: one round per cell; the barrier's five units, a copy's credit on each of its two cells. -/
def Rd (P : Dev nD → OutC F) : Rounds.Schedule (GSem nD τ sig) D 𝕄 where
  duties g r := if r = 0 ∧ g.1.2 = .tc then (match g.2 with | .reg _ => Finset.univ | .dma q => (match kindOf q with | some _ => {0} | none => ∅)) else ∅
  unitless _ := False
  amount g _ _ := match g.2 with | .reg _ => 1 | .dma q => (match kindOf q with | some x => N x.2.2.2 | none => 1)
  payload g _ d := match g.2 with | .reg _ => barPay g.1.1 d | .dma q => dPay P g.1.1 (kindOf q)
  amount_pos g _ _ _ := by
    rcases g with ⟨t, s⟩
    cases s with
    | reg _ => exact Nat.one_pos
    | dma q =>
      show 0 < (match kindOf q with | some x => N x.2.2.2 | none => 1)
      split
      · exact N_pos _
      · exact Nat.one_pos

instance Rd_payload_storable (P : Dev nD → OutC F) (g : GSem nD τ sig) (r : ℕ) (d : D) :
    BI.Storable (upEmb : UEmb _ 𝕄) ((Rd (F := F) P).payload g r d) := by
  rcases g with ⟨t, s⟩
  cases s with
  | reg _ => show BI.Storable upEmb (barPay t.1 d); unfold barPay; infer_instance
  | dma q =>
    show BI.Storable upEmb (dPay P t.1 (kindOf q))
    generalize kindOf q = x
    unfold dPay rsPay agPay agBack
    split <;> infer_instance

section Sched
variable (P : Dev nD → OutC F) (c : Dev nD)

/-- The barrier has all five duties. -/
theorem duties_bar : (Rd P).duties (barCell c) 0 = Finset.univ := by dsimp only [Rd]; exact if_pos ⟨rfl, rfl⟩
/-- A sender's semaphore has one duty. -/
theorem duties_S (rs : Bool) (sl : Fin 2) (k : Fin 9) : (Rd P).duties (dCell c (sS rs sl k)) 0 = {0} := by
  dsimp only [Rd]; rw [if_pos ⟨rfl, rfl⟩]
  rw [kindOf_sS]
/-- A receiver's semaphore has one duty. -/
theorem duties_R (rs : Bool) (sl : Fin 2) (k : Fin 9) : (Rd P).duties (dCell c (sR rs sl k)) 0 = {0} := by
  dsimp only [Rd]; rw [if_pos ⟨rfl, rfl⟩]
  rw [kindOf_sR]
/-- There are no duties after the first round. -/
theorem duties_later (g : GSem nD τ sig) : ∀ r, 1 ≤ r → (Rd P).duties g r = ∅ :=
  fun r hr => if_neg fun h => by have := h.1; omega
/-- A semaphore of no copy has no duties. -/
theorem duties_none (q : DmaSem sig) (h : kindOf q = none) : ∀ r, 0 ≤ r → (Rd P).duties (dCell c q) r = ∅ := fun r _ => by
  dsimp only [Rd]; rw [h]; exact ite_self _

/-- A barrier signal is of amount one. -/
theorem amount_bar (d : D) : (Rd P).amount (barCell c) 0 d = 1 := rfl
/-- A sender's semaphore is raised by the copy's credit. -/
theorem amount_S (rs : Bool) (sl : Fin 2) (k : Fin 9) (d : D) : (Rd P).amount (dCell c (sS rs sl k)) 0 d = N k := by
  show (match kindOf (sS rs sl k) with | some x => N x.2.2.2 | none => 1) = _
  rw [kindOf_sS]
/-- A receiver's semaphore is raised by the copy's credit. -/
theorem amount_R (rs : Bool) (sl : Fin 2) (k : Fin 9) (d : D) : (Rd P).amount (dCell c (sR rs sl k)) 0 d = N k := by
  show (match kindOf (sR rs sl k) with | some x => N x.2.2.2 | none => 1) = _
  rw [kindOf_sR]

/-- The barrier expects five. -/
theorem expect_bar : (Rd P).expect (barCell c) 0 = 5 := by
  unfold Schedule.expect Schedule.amountOf
  rw [duties_bar, Finset.sum_congr rfl fun d _ => amount_bar P c d]; rfl
/-- A sender's semaphore expects the copy's credit. -/
theorem expect_S (rs : Bool) (sl : Fin 2) (k : Fin 9) : (Rd P).expect (dCell c (sS rs sl k)) 0 = N k := by
  unfold Schedule.expect Schedule.amountOf; rw [duties_S, Finset.sum_singleton, amount_S]
/-- A receiver's semaphore expects the copy's credit. -/
theorem expect_R (rs : Bool) (sl : Fin 2) (k : Fin 9) : (Rd P).expect (dCell c (sR rs sl k)) 0 = N k := by
  unfold Schedule.expect Schedule.amountOf; rw [duties_R, Finset.sum_singleton, amount_R]

/-- A barrier signal hands over the room of its sender. -/
theorem payload_bar (d : D) : (Rd P).payload (barCell c) 0 d = barPay c d := rfl
/-- What a sender's semaphore hands over. -/
theorem payload_S (rs : Bool) (sl : Fin 2) (k : Fin 9) (d : D) : (Rd P).payload (dCell c (sS rs sl k)) 0 d = dPay P c (some (rs, false, sl, k)) := by
  show dPay P c (kindOf (sS rs sl k)) = _
  rw [kindOf_sS]
/-- What a receiver's semaphore hands over. -/
theorem payload_R (rs : Bool) (sl : Fin 2) (k : Fin 9) (d : D) : (Rd P).payload (dCell c (sR rs sl k)) 0 d = dPay P c (some (rs, true, sl, k)) := by
  show dPay P c (kindOf (sR rs sl k)) = _
  rw [kindOf_sR]

/-- All that a wait on a sender's semaphore gives. -/
theorem rest_S (rs : Bool) (sl : Fin 2) (k : Fin 9) : bigSep ((Rd P).duties (dCell c (sS rs sl k)) 0 \ ∅) (fun d => (Rd P).payload (dCell c (sS rs sl k)) 0 d)
    = dPay P c (some (rs, false, sl, k)) := by
  rw [Finset.sdiff_empty, duties_S, bigSep_singleton, payload_S]
/-- All that a wait on a receiver's semaphore gives. -/
theorem rest_R (rs : Bool) (sl : Fin 2) (k : Fin 9) : bigSep ((Rd P).duties (dCell c (sR rs sl k)) 0 \ ∅) (fun d => (Rd P).payload (dCell c (sR rs sl k)) 0 d)
    = dPay P c (some (rs, true, sl, k)) := by
  rw [Finset.sdiff_empty, duties_R, bigSep_singleton, payload_R]
/-- All that the wait on the barrier gives. -/
theorem rest_bar : bigSep ((Rd P).duties (barCell c) 0 \ ∅) (fun d => (Rd P).payload (barCell c) 0 d)
    = iprop(barPay c 0 ∗ barPay c 1 ∗ barPay c 2 ∗ barPay c 3 ∗ barPay c 4) := by
  rw [Finset.sdiff_empty, duties_bar]
  exact bigSep_univ_eq_bigSepL [0, 1, 2, 3, 4] (by decide) (by decide) _

end Sched

/-! ## What a device owes, and the levels -/

/-- The obligation at a place of the program's order: the five barrier signals, then the copies. -/
def ob (c : Dev nD) (i : Fin 41) : CellTallies nD τ sig Unit :=
  if h : i.val < 5 then tallyAt (barCell (xr c (bmsk ⟨i.val, h⟩))) () 1
  else let x := cpAt ⟨i.val - 5, by omega⟩; tallyAt (dCell (peer c x.2.1 (stg x.2.2)) (sR x.1 x.2.1 x.2.2)) () (N x.2.2)
/-- What is owed with the first `n` paid. -/
def Owe (c : Dev nD) (n : ℕ) : CellTallies nD τ sig Unit := ∑ i ∈ Finset.univ.filter (fun i : Fin 41 => n ≤ i.val), ob c i

/-- What is owed is the next obligation and what is owed after it. -/
theorem Owe_peel (c : Dev nD) (i : Fin 41) : Owe c i.val = Owe c (i.val + 1) + ob c i := by
  unfold Owe
  have : (Finset.univ.filter fun j : Fin 41 => i.val ≤ j.val) = insert i (Finset.univ.filter fun j : Fin 41 => i.val + 1 ≤ j.val) := by
    ext j; simp only [Finset.mem_filter, Finset.mem_univ, true_and, Finset.mem_insert, Fin.ext_iff]; omega
  rw [this, Finset.sum_insert (by simp), add_comm]
/-- In the end nothing is owed. -/
theorem Owe_end (c : Dev nD) : Owe c 41 = 0 := by
  unfold Owe; rw [Finset.filter_false_of_mem (fun j _ => by have := j.isLt; omega)]; exact Finset.sum_empty

/-- The obligation of a barrier signal. -/
theorem ob_bar (c : Dev nD) (d : Fin 5) : ob c ⟨d.val, by omega⟩ = tallyAt (barCell (xr c (bmsk d))) () 1 := by
  unfold ob; rw [dif_pos (show d.val < 5 from d.isLt)]
/-- The obligation of a copy. -/
theorem ob_copy (c : Dev nD) (rs : Bool) (sl : Fin 2) (k : Fin 9) :
    ob c ⟨5 + pos rs sl k, by have := pos_lt rs sl k; omega⟩ = tallyAt (dCell (peer c sl (stg k)) (sR rs sl k)) () (N k) := by
  unfold ob; rw [dif_neg (by simp)]
  have : (⟨5 + pos rs sl k - 5, by have := pos_lt rs sl k; omega⟩ : Fin 36) = ⟨pos rs sl k, pos_lt rs sl k⟩ := Fin.ext (by simp)
  simp only [this, cpAt_pos]

def L (g : GSem nD τ sig) : Finset Unit := if g.1.2 = .tc then {()} else ∅
/-- Levels: staging and senders' cells 0, barrier cells 5, a receiver's cell after its copy's place in the program's order. -/
def lv (g : GSem nD τ sig) (_ : Unit) : ℕ := match g.2 with
  | .reg _ => 5
  | .dma q => (match kindOf q with | some (rs, true, sl, k) => 6 + pos rs sl k | _ => 0)

/-- There are levels only on the devices' main cores. -/
theorem L_of_ne (g : GSem nD τ sig) (h : g.1.2 ≠ .tc) : L g = ∅ := if_neg h
/-- A device's cell has one level. -/
theorem L_tc (c : Dev nD) (sm : SemLoc sig) : L ((c : Thread nD τ), sm) = {()} := if_pos rfl
/-- The level of a barrier. -/
theorem lv_bar (c : Dev nD) : lv (barCell c) () = 5 := rfl
/-- The level of a sender's cell. -/
theorem lv_S (c : Dev nD) (rs : Bool) (sl : Fin 2) (k : Fin 9) : lv (dCell c (sS rs sl k)) () = 0 := by
  show (match kindOf (sS rs sl k) with | some (rs, true, sl, k) => 6 + pos rs sl k | _ => 0) = 0
  rw [kindOf_sS]
/-- The level of a receiver's cell. -/
theorem lv_R (c : Dev nD) (rs : Bool) (sl : Fin 2) (k : Fin 9) : lv (dCell c (sR rs sl k)) () = 6 + pos rs sl k := by
  show (match kindOf (sR rs sl k) with | some (rs, true, sl, k) => 6 + pos rs sl k | _ => 0) = _
  rw [kindOf_sR]
/-- The level of a staging cell. -/
theorem lv_stage (c : Dev nD) (q : DmaSem sig) (h : q.val < 5) : lv (dCell c q) () = 0 := by
  show (match kindOf q with | some (rs, true, sl, k) => 6 + pos rs sl k | _ => 0) = 0
  rw [kindOf_stage q h]

/-- What is still owed after `n` lies on the tensor cores' cells, above the level of the `n`-th obligation. -/
theorem Owe_pos {c : Dev nD} {n : ℕ} {g : GSem nD τ sig} {u : Unit} (h : 0 < Owe c n g u) :
    g.1.2 = .tc ∧ (5 ≤ lv g u ∧ (5 ≤ n → n + 1 ≤ lv g u)) := by
  unfold Owe at h
  rw [Finset.sum_apply, Finsupp.finset_sum_apply] at h
  obtain ⟨i, hi, hpos⟩ := Finset.exists_ne_zero_of_sum_ne_zero (Nat.pos_iff_ne_zero.mp h)
  have hn := (Finset.mem_filter.mp hi).2
  unfold ob at hpos
  split at hpos
  · rename_i h5
    rw [tallyAt_apply] at hpos
    by_cases hg : g = barCell (xr c (bmsk ⟨i.val, h5⟩)) ∧ u = ()
    · obtain ⟨rfl, rfl⟩ := hg
      exact ⟨rfl, by rw [lv_bar], fun _ => by omega⟩
    · rw [if_neg hg] at hpos; exact absurd rfl hpos
  · rename_i h5
    rw [tallyAt_apply] at hpos
    generalize hx : cpAt ⟨i.val - 5, by omega⟩ = x at hpos
    have hp := pos_cpAt ⟨i.val - 5, by omega⟩
    rw [hx] at hp
    by_cases hg : g = dCell (peer c x.2.1 (stg x.2.2)) (sR x.1 x.2.1 x.2.2) ∧ u = ()
    · obtain ⟨rfl, rfl⟩ := hg
      refine ⟨rfl, ?_⟩
      rw [lv_R, hp]
      constructor <;> intros <;> simp only at * <;> omega
    · rw [if_neg hg] at hpos; exact absurd rfl hpos

omit [FloatOps F] in
/-- A wait below everything still owed may be made. -/
theorem mayWait (c : Dev nD) (sm : SemLoc sig) (n l : ℕ) (hl : lv ((c : Thread nD τ), sm) () ≤ l) (hn : ∀ m, (5 ≤ m ∧ (5 ≤ n → n + 1 ≤ m)) → l < m) :
    (levAts L lv : sProp 𝕄) ⊢ MayWait (c : Thread nD τ) sm () (Owe c n) :=
  MayOwe.of_cut (L := L) (lev := lv) l (fun p hp => by rw [Finset.mem_singleton.mp hp, L_tc]; exact Finset.mem_singleton_self _)
    (fun g u hg => by
      rcases g with ⟨⟨d, k⟩, sm'⟩
      have := (Owe_pos hg).1
      simp only at this; subst this
      exact Finset.mem_singleton_self _)
    (fun p hp => by rw [Finset.mem_singleton.mp hp]; exact hl)
    (fun g u hg => hn _ (Owe_pos hg).2)

end Cert.Moe

end
-- ==== Proof.Moe.Ops.lean ====
/-
# The exchange's steps: a copy sent, a copy waited for, a signal, the sum of two ranges of rows

One lemma per kind of step, over any copy of either half of the kernel.
-/
module

public import proofs.«01_k».proof.Proof.Moe.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## The bookkeeping of a device -/

section State
variable (P : Dev nD → OutC F) (Kn : Dev nD × Fin 77 → ℕ)

/-- The levels, given to every device. -/
def levs : sProp 𝕄 := levAts L lv
instance levs_persistent : BI.Persistent (levs (F := F)) := by unfold levs; infer_instance

/-- What every device knows: each cell's invariant, and that its round is reached; and the levels. -/
def records : sProp 𝕄 :=
  iprop(levs (F := F) ∗ bigSep Finset.univ fun ck : Dev nD × Fin 77 => iprop(cellInv ER (Rd P) (Kn ck) (kcell ck) ∗ reached ER (kcell ck) 0))

instance records_persistent : BI.Persistent (records P Kn) := by unfold records; infer_instance

/-- A device may wait on a cell whose level is below that of all it still owes. -/
theorem rec_wait (c : Dev nD) (sm : SemLoc sig) (n l : ℕ) (hl : lv ((c : Thread nD τ), sm) () ≤ l) (hn : ∀ m, (5 ≤ m ∧ (5 ≤ n → n + 1 ≤ m)) → l < m) :
    records P Kn ⊢ (MayWait (c : Thread nD τ) sm () (Owe c n) : sProp 𝕄) := by
  unfold records levs
  exact BI.Entails.trans BI.sep_and (BI.Entails.trans and_elimL (mayWait c sm n l hl hn))
/-- Every cell's invariant, and that its round is reached, are known. -/
theorem rec_cell (ck : Dev nD × Fin 77) : records P Kn ⊢ iprop(cellInv ER (Rd P) (Kn ck) (kcell ck) ∗ reached ER (kcell ck) 0) := by
  unfold records; exact BI.Entails.trans BI.sep_and (BI.Entails.trans and_elimR (bigSep_elim (Finset.mem_univ ck)))
/-- The same of a barrier cell. -/
theorem rec_bar (c : Dev nD) : records P Kn ⊢ iprop(cellInv ER (Rd P) (Kn (c, 0)) (barCell c) ∗ reached ER (barCell c) 0) := rec_cell P Kn (c, 0)
/-- The same of the cell of a copy's semaphore. -/
theorem rec_dma (c : Dev nD) (q : DmaSem sig) (h : 5 ≤ q.val) :
    records P Kn ⊢ iprop(cellInv ER (Rd P) (Kn (c, ixq q)) (dCell c q) ∗ reached ER (dCell c q) 0) := by
  have := rec_cell P Kn (c, ixq q)
  unfold kcell at this; rwa [semI_ixq q h] at this

/-- What a device needs to make a copy and to wait for the one that answers it. -/
def ready (c : Dev nD) (x : Bool × Fin 2 × Fin 9) : sProp 𝕄 :=
  iprop(dutyTok ER (dCell c (sS x.1 x.2.1 x.2.2)) 0 0 ∗ dutyTok ER (dCell (peer c x.2.1 (stg x.2.2)) (sR x.1 x.2.1 x.2.2)) 0 0
    ∗ atPos ER (dCell c (sS x.1 x.2.1 x.2.2)) 0 ∅ 0 ∗ atPos ER (dCell c (sR x.1 x.2.1 x.2.2)) 0 ∅ 0
    ∗ cred (tallyAt (dCell c (sR x.1 x.2.1 x.2.2)) () (N x.2.2)))

/-- The copies still to be made, `n` done. -/
def todo (c : Dev nD) (n : ℕ) : sProp 𝕄 := bigSep (Finset.univ.filter fun o : Fin 36 => n ≤ o.val) fun o => ready (F := F) c (cpAt o)

/-- The next copy can be taken from those still to be made. -/
theorem todo_peel (c : Dev nD) (o : Fin 36) : (todo c o.val : sProp 𝕄) ⊢ iprop(ready c (cpAt o) ∗ todo c (o.val + 1)) := by
  unfold todo
  have : (Finset.univ.filter fun j : Fin 36 => o.val ≤ j.val) = insert o (Finset.univ.filter fun j : Fin 36 => o.val + 1 ≤ j.val) := by
    ext j; simp only [Finset.mem_filter, Finset.mem_univ, true_and, Finset.mem_insert, Fin.ext_iff]; omega
  rw [this, bigSep_insert (by simp)]; exact BI.Entails.refl _

/-- What a device owes with its first `n` obligations met. -/
def due (c : Dev nD) (n : ℕ) : sProp 𝕄 := iprop(∃ W, owes (c : Thread nD τ) (Owe c n) W)

/-- A device with `n` copies made. -/
def out (c : Dev nD) (n : ℕ) : sProp 𝕄 := iprop(due c (5 + n) ∗ todo c n)

/-- A copy under way, its answer awaited. -/
def flight (c : Dev nD) (rs : Bool) (sl : Fin 2) (k : Fin 9) : sProp 𝕄 :=
  iprop((cred (tallyAt (dCell c (sS rs sl k)) () (N k)) ∗ atPos ER (dCell c (sS rs sl k)) 0 ∅ 0)
    ∗ (atPos ER (dCell c (sR rs sl k)) 0 ∅ 0 ∗ cred (tallyAt (dCell c (sR rs sl k)) () (N k))))
/-- Its departure over, its answer awaited. -/
def flight' (c : Dev nD) (rs : Bool) (sl : Fin 2) (k : Fin 9) : sProp 𝕄 :=
  iprop(atPos ER (dCell c (sR rs sl k)) 0 ∅ 0 ∗ cred (tallyAt (dCell c (sR rs sl k)) () (N k)))

/-- What a device can be done with: a copy's semaphore, or a copy's rows of a receive buffer. -/
abbrev Ent : Type := DmaSem sig ⊕ (Fin 2 × Fin 9)
instance : Coe (DmaSem sig) Ent := ⟨Sum.inl⟩

/-- What a device is done with: semaphores at zero, and rows of receive buffers at any contents. -/
def zs (c : Dev nD) : List Ent → sProp 𝕄
  | [] => iprop(emp)
  | .inl q :: l => iprop(semVal (dCell c q) 0 ∗ zs c l)
  | .inr x :: l => iprop(rAny (F := F) c x.1 x.2 ∗ zs c l)

end State

/-! ## The views' permissions -/

omit [FloatOps F] in
/-- Rows of a half of the columns of the output are owned as the view of them is. -/
theorem oPt_view (c : Dev nD) (a n : ℕ) (sl : Fin 2) (h : a + n ≤ 1024) (q : PosShare TreeShare) (f : OutC F) :
    (oPt c (R a n sl) q f : sProp 𝕄) = ((oSl a n sl h).view.loc (c : Thread nD τ) ↦[(oSl a n sl h).view.set]{q} f) :=
  congrArg (fun S : Finset S1024x1024.Idx => (outM.view.loc (c : Thread nD τ) ↦[S]{q} f : sProp 𝕄)) (oSl_set a n sl h).symm
omit [FloatOps F] in
/-- The same for the rows of a copy. -/
theorem oPt_block (c p : Dev nD) (sl : Fin 2) (k : Fin 9) (q : PosShare TreeShare) (f : OutC F) :
    (oPt c (B p sl k) q f : sProp 𝕄) = ((bSl p sl k).view.loc (c : Thread nD τ) ↦[(bSl p sl k).view.set]{q} f) :=
  oPt_view c _ _ sl _ q f

/-- The program's slice of the output, its offsets known. -/
theorem o_eq {off : Fin 2 → ℕ} {p : Dev nD} {sl : Fin 2} {k : Fin 9} (inb : ∀ a, off a + (Sn (bsz k)).size a ≤ S1024x1024.size a)
    (h : off = ![bst p sl k, 512 * sl.val]) :
    outM.slice (Rect.unit (s := S1024x1024) off (Sn (bsz k)).size inb) (fun _ => rfl) = bSl p sl k := by subst h; rfl
/-- The program's slice of a receive buffer, its offsets known. -/
theorem r_eq {off : Fin 2 → ℕ} {p : Dev nD} {sl : Fin 2} {k : Fin 9} (inb : ∀ a, off a + (Sn (bsz k)).size a ≤ (Sn (rsRows (stgF k))).size a)
    (h : off = ![dr p sl k, 0]) :
    (rsM sl (stgF k)).slice (Rect.unit (s := Sn (rsRows (stgF k))) off (Sn (bsz k)).size inb) (fun _ => rfl) = rSl p sl k := by subst h; rfl

section Steps
variable (P : Dev nD → OutC F) (Kn : Dev nD × Fin 77 → ℕ)

/-- A copy whose turn it is can be taken from those still to be made. -/
theorem out_peel (c : Dev nD) (rs : Bool) (sl : Fin 2) (k : Fin 9) : (todo (F := F) c (pos rs sl k) : sProp 𝕄) ⊢ iprop(ready c (rs, sl, k) ∗ todo c (pos rs sl k + 1)) := by
  have := todo_peel (F := F) c ⟨pos rs sl k, pos_lt rs sl k⟩
  rwa [cpAt_pos] at this

/-- A received block: its rows, and the permission on the sender's. -/
def gotR (c : Dev nD) (sl : Fin 2) (k : Fin 9) : sProp 𝕄 :=
  owns (Ix := Unit) (Name := ℕ) (U := UU) (Lvl := ℕ) (c : Thread nD τ) (rSl c sl k) fullShare (got P c sl k)
/-- The peer's rows of a block, at any contents. -/
def dstO (c : Dev nD) (sl : Fin 2) (k : Fin 9) : sProp 𝕄 := iprop(∃ f : OutC F, oPt (peer c sl (stg k)) (B c sl k) fullShare f)

/-- A copy of the first half is sent: the rows, and the permission on them, go to the peer. -/
theorem send_rs {α : Type} {Q : α → sProp 𝕄} {kk : PUnit → Prog (TpuEff nD τ sig (Elt F) Λ₀ .tc) α} (c n : Dev nD) (sl : Fin 2) (k : Fin 9) (o : ℕ) (ho : o = pos true sl k) (hn : n = peer c sl (stg k))
    {src dst : Memref sig .tc .vmem (Sn (bsz k)) .bf16} (hs : src = bSl (peer c sl (stg k)) sl k) (hd : dst = rSl (peer c sl (stg k)) sl k)
    {s r : DmaSem sig} (hS : s = sS true sl k) (hR : r = sR true sl k)
    {hsc : dst.view.ref.isScScratch = false} {hsrc : src.view.WordExact} {hdst : dst.view.WordExact}
    {hsem : DmaTarget.Typed .vmem (.dma r) (.remote (Dev.tc n : Thread nD τ) dst (.dma s) hsc)} :
    records P Kn ⊢ iprop(out c o -∗ oPt c (B (peer c sl (stg k)) sl k) fullShare (St P sl (stg k) c) -∗ rAny (peer c sl (stg k)) sl k
        -∗ ((out c (o + 1) ∗ flight c true sl k) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma src (.remote (Dev.tc n : Thread nD τ) dst (.dma s) hsc) (.dma r) hsrc hdst hsem) kk) Q) := by
  subst ho
  generalize hp : peer c sl (stg k) = p at hn hs hd ⊢
  obtain rfl : p = n := hn.symm
  subst hs hd hS hR
  have hpc : peer p sl (stg k) = c := by rw [← hp, peer_peer]
  unfold out due rAny
  iintro #Hrec ⟨⟨%W, HO⟩, Htodo⟩ Hsrc ⟨%fd, Hdst⟩ Hk
  ihave Ht := (out_peel c true sl k) $$ Htodo
  unfold ready
  icases Ht with ⟨⟨HtS, HtR, HaS, HaR, HcR⟩, Htodo⟩
  ihave #HiS := (rec_dma P Kn c (sS true sl k) (five_le_sS true sl k)) $$ Hrec
  ihave #HiR := (rec_dma P Kn p (sR true sl k) (five_le_sR true sl k)) $$ Hrec
  icases HiS with ⟨#HiS, #HrS⟩
  icases HiR with ⟨#HiR, #HrR⟩
  ihave Hsrc := (Entails.of_eq (oPt_block c p sl k fullShare (St P sl (stg k) c))) $$ Hsrc
  rw [hp]
  iapply (Rounds.wp_send_landing_pointsTo 𝒱₀ ER (Rd P) (c : Thread nD τ) none (κ₁ := Kn (c, ixq (sS true sl k))) (κ₂ := Kn (p, ixq (sR true sl k)))
    (r₁ := 0) (r₂ := 0) (d₁ := 0) (d₂ := 0) (fd := fd) (fs := St P sl (stg k) c) (q := fullShare)
    (by rw [duties_S]; exact Finset.mem_singleton_self _) (by rw [duties_R]; exact Finset.mem_singleton_self _)
    () () (N k) rfl (amount_S P c true sl k 0) (amount_R P p true sl k 0) (O₀ := Owe c (5 + pos true sl k)) (Owe c (5 + pos true sl k + 1))
    (by rw [← hp, ← ob_copy c true sl k]; exact Owe_peel c ⟨5 + pos true sl k, by have := pos_lt true sl k; omega⟩) (W := W)
    (by rw [payload_S]; exact BI.Entails.refl _)
    (by
      rw [payload_R]; unfold dPay rsPay owns
      iintro ⟨Hd, Hs⟩
      isplitl [Hd]
      · iexists ((rSl p sl k).view.write (Elt F) fd ((bSl p sl k).view.read (Elt F) (St P sl (stg k) c)) Finset.univ)
        isplitr
        · ipureintro; unfold got; rw [View.read_write_univ, hpc]
        · iexact Hd
      · iexists (St P sl (stg k) c)
        rw [hpc, oPt_block c p sl k]
        iexact Hs)) $$ [Hsrc Hdst HO HtS HtR]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitl [HO Htodo]
  · isplitl [HO]
    · iexists W; iexact HO
    · iexact Htodo
  · unfold flight
    isplitl [HcS HaS]
    · isplitl [HcS] <;> iassumption
    · isplitl [HaR] <;> iassumption

/-- A copy of the second half is sent: a share of finished rows, to the same rows of the peer's output. -/
theorem send_ag {α : Type} {Q : α → sProp 𝕄} {kk : PUnit → Prog (TpuEff nD τ sig (Elt F) Λ₀ .tc) α} (c n : Dev nD) (sl : Fin 2) (k : Fin 9) (o : ℕ) (ho : o = pos false sl k) (hn : n = peer c sl (stg k))
    {src : Memref sig .tc .vmem (Sn (bsz k)) .bf16} (hs' : src = bSl c sl k)
    {s r : DmaSem sig} (hS : s = sS false sl k) (hR : r = sR false sl k)
    {hsc : src.view.ref.isScScratch = false} {hsrc hdst : src.view.WordExact}
    {hsem : DmaTarget.Typed .vmem (.dma r) (.remote (Dev.tc n : Thread nD τ) src (.dma s) hsc)} :
    records P Kn ⊢ iprop(out c o -∗ oPt c (B c sl k) (hs (stg k)) (Fn P sl) -∗ dstO (F := F) c sl k
        -∗ ((out c (o + 1) ∗ flight c false sl k) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma src (.remote (Dev.tc n : Thread nD τ) src (.dma s) hsc) (.dma r) hsrc hdst hsem) kk) Q) := by
  subst ho; unfold dstO
  generalize hp : peer c sl (stg k) = p at hn ⊢
  obtain rfl : p = n := hn.symm
  subst hs' hS hR
  have hpc : peer p sl (stg k) = c := by rw [← hp, peer_peer]
  unfold out due
  iintro #Hrec ⟨⟨%W, HO⟩, Htodo⟩ Hsrc ⟨%fd, Hdst⟩ Hk
  ihave Ht := (out_peel c false sl k) $$ Htodo
  unfold ready
  icases Ht with ⟨⟨HtS, HtR, HaS, HaR, HcR⟩, Htodo⟩
  ihave #HiS := (rec_dma P Kn c (sS false sl k) (five_le_sS false sl k)) $$ Hrec
  ihave #HiR := (rec_dma P Kn p (sR false sl k) (five_le_sR false sl k)) $$ Hrec
  icases HiS with ⟨#HiS, #HrS⟩
  icases HiR with ⟨#HiR, #HrR⟩
  ihave Hsrc := (Entails.of_eq (oPt_block c c sl k (hs (stg k)) (Fn P sl))) $$ Hsrc
  ihave Hdst := (Entails.of_eq (oPt_block p c sl k fullShare fd)) $$ Hdst
  rw [hp]
  iapply (Rounds.wp_send_pointsTo 𝒱₀ ER (Rd P) (c : Thread nD τ) none (κ₁ := Kn (c, ixq (sS false sl k))) (κ₂ := Kn (p, ixq (sR false sl k)))
    (r₁ := 0) (r₂ := 0) (d₁ := 0) (d₂ := 0) (fd := fd) (fs := Fn P sl) (q := hs (stg k))
    (by rw [duties_S]; exact Finset.mem_singleton_self _) (by rw [duties_R]; exact Finset.mem_singleton_self _)
    () () (N k) rfl (amount_S P c false sl k 0) (amount_R P p false sl k 0) (O₀ := Owe c (5 + pos false sl k)) (Owe c (5 + pos false sl k + 1))
    (by rw [← hp, ← ob_copy c false sl k]; exact Owe_peel c ⟨5 + pos false sl k, by have := pos_lt false sl k; omega⟩) (W := W)
    (by
      rw [payload_S]; exact Entails.of_eq (oPt_block c c sl k (hs (stg k)) (Fn P sl)).symm)
    (by
      rw [payload_R]; show _ ⊢ agPay P p sl k; unfold agPay; rw [hpc, oPt_block p c sl k]
      refine Entails.of_eq (pointsTo_congr ?_)
      intro i hi
      refine (congrFun (View.write_read_eq_piecewise (v := (bSl c sl k).view) fd (Fn P sl) Finset.univ) i).trans ?_
      exact Finset.piecewise_eq_of_mem _ _ _ (by rw [View.setOn_univ]; exact hi))) $$ [Hsrc Hdst HO HtS HtR]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  isplitl [HO Htodo]
  · isplitl [HO]
    · iexists W; iexact HO
    · iexact Htodo
  · unfold flight
    isplitl [HcS HaS]
    · isplitl [HcS] <;> iassumption
    · isplitl [HaR] <;> iassumption

/-- The wait for a copy's departure. -/
theorem wait_S {α : Type} {Q : α → sProp 𝕄} {kk : PUnit → Prog (TpuEff nD τ sig (Elt F) Λ₀ .tc) α} (c : Dev nD) (o : ℕ) (rs : Bool) (sl : Fin 2) (k : Fin 9) (l : List Ent) {q : DmaSem sig} (hq : q = sS rs sl k)
    {src dst : Memref sig .tc .vmem (Sn (bsz k)) .bf16} {h1 : src.view.WordExact} {h2 : dst.view.WordExact} :
    records P Kn ⊢ iprop(out c o -∗ flight c rs sl k -∗ zs c l
        -∗ ((out c o ∗ flight' c rs sl k ∗ dPay P c (some (rs, false, sl, k)) ∗ zs c (sS rs sl k :: l))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst h1 h2) kk) Q) := by
  subst hq
  unfold out due flight
  iintro #Hrec ⟨⟨%W, HO⟩, Htodo⟩ ⟨⟨HcS, HaS⟩, HF⟩ Hz Hk
  ihave #HiS := (rec_dma P Kn c (sS rs sl k) (five_le_sS rs sl k)) $$ Hrec
  icases HiS with ⟨#HiS, -⟩
  iapply (Rounds.wp_wait_rest_token 𝒱₀ ER (Rd P) (c : Thread nD τ) none (κ := Kn (c, ixq (sS rs sl k)))
      (wpE_waitDma2_eq 𝒱₀ (c : Thread nD τ) none Set.univ) (Set.mem_univ _) () (O := Owe c (5 + o)) (W := W) (R := 0) (m := 0) (T := ∅)
      (by rw [Nat.zero_add, expect_S]; rfl)) $$ [HcS HO HaS]
  · isplitr; · iexact HiS
    isplitl [HcS]; · iexact HcS
    isplitl [HO]; · iexact HO
    isplitr
    · iapply (rec_wait P Kn c (.dma (sS rs sl k)) (5 + o) 0 (by rw [lv_S]) (fun m hm => by omega)); iexact Hrec
    iexact HaS
  iintro ⟨HO, HaS, -, Hpay⟩
  ihave Hp := (Entails.of_eq (rest_S P c rs sl k)) $$ Hpay
  imod (Rounds.cell_close ER (Rd P) (Set.mem_univ (Kn (c, ixq (sS rs sl k)))) (fun h => h) (R := 0 + 1) (duties_later P (dCell c (sS rs sl k)))) $$ [HaS] with Hz'
  · isplitr; · iexact HiS
    iexact HaS
  iapply Hk
  isplitl [HO Htodo]
  · isplitl [HO]
    · iexists _; iexact HO
    · iexact Htodo
  isplitl [HF]; · unfold flight'; iexact HF
  isplitl [Hp]; · iexact Hp
  rw [zs]
  isplitl [Hz'] <;> iassumption

/-- The wait for the copy that answers it. -/
theorem wait_R {α : Type} {Q : α → sProp 𝕄} {kk : PUnit → Prog (TpuEff nD τ sig (Elt F) Λ₀ .tc) α} (c : Dev nD) (o : ℕ) (rs : Bool) (sl : Fin 2) (k : Fin 9) (ho : pos rs sl k < o) (l : List Ent) {q : DmaSem sig} (hq : q = sR rs sl k)
    {src dst : Memref sig .tc .vmem (Sn (bsz k)) .bf16} {h1 : src.view.WordExact} {h2 : dst.view.WordExact} :
    records P Kn ⊢ iprop(out c o -∗ flight' c rs sl k -∗ zs c l
        -∗ ((out c o ∗ dPay P c (some (rs, true, sl, k)) ∗ zs c (sR rs sl k :: l))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst h1 h2) kk) Q) := by
  subst hq
  unfold out due flight'
  iintro #Hrec ⟨⟨%W, HO⟩, Htodo⟩ ⟨HaR, HcR⟩ Hz Hk
  ihave #HiR := (rec_dma P Kn c (sR rs sl k) (five_le_sR rs sl k)) $$ Hrec
  icases HiR with ⟨#HiR, -⟩
  iapply (Rounds.wp_wait_rest_token 𝒱₀ ER (Rd P) (c : Thread nD τ) none (κ := Kn (c, ixq (sR rs sl k)))
      (wpE_waitDma2_eq 𝒱₀ (c : Thread nD τ) none Set.univ) (Set.mem_univ _) () (O := Owe c (5 + o)) (W := W) (R := 0) (m := 0) (T := ∅)
      (by rw [Nat.zero_add, expect_R]; rfl)) $$ [HcR HO HaR]
  · isplitr; · iexact HiR
    isplitl [HcR]; · iexact HcR
    isplitl [HO]; · iexact HO
    isplitr
    · iapply (rec_wait P Kn c (.dma (sR rs sl k)) (5 + o) (6 + pos rs sl k) (by rw [lv_R]) (fun m hm => by omega)); iexact Hrec
    iexact HaR
  iintro ⟨HO, HaR, -, Hpay⟩
  ihave Hp := (Entails.of_eq (rest_R P c rs sl k)) $$ Hpay
  imod (Rounds.cell_close ER (Rd P) (Set.mem_univ (Kn (c, ixq (sR rs sl k)))) (fun h => h) (R := 0 + 1) (duties_later P (dCell c (sR rs sl k)))) $$ [HaR] with Hz'
  · isplitr; · iexact HiR
    iexact HaR
  iapply Hk
  isplitl [HO Htodo]
  · isplitl [HO]
    · iexists _; iexact HO
    · iexact Htodo
  isplitl [Hp]; · iexact Hp
  rw [zs]
  isplitl [Hz'] <;> iassumption

/-- A barrier signal: the two receive buffers that the peer fills go to it. -/
theorem signal {α : Type} {Q : α → sProp 𝕄} {kk : PUnit → Prog (TpuEff nD τ sig (Elt F) Λ₀ .tc) α} (c n : Dev nD) (d : Fin 5) (hn : n = xr c (bmsk d)) {b : Sem sig} (hb : b = barS) {w : ℕ} (hw : w = 1) :
    records P Kn ⊢ iprop(due c d.val -∗ dutyTok ER (barCell (xr c (bmsk d))) 0 d -∗ rWhole c 0 (bstep 0 d) -∗ rWhole c 1 (bstep 1 d)
        -∗ (due c (d.val + 1) -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (Dev.tc n : Thread nD τ) b w) kk) Q) := by
  subst hn hb hw
  unfold due
  iintro #Hrec ⟨%W, HO⟩ Ht H0 H1 Hk
  ihave #Hi := (rec_bar P Kn (xr c (bmsk d))) $$ Hrec
  icases Hi with ⟨#Hi, #Hr⟩
  iapply (Rounds.wp_signal 𝒱₀ ER (Rd P) (c : Thread nD τ) none (dst := (xr c (bmsk d) : Thread nD τ)) (κ := Kn (xr c (bmsk d), 0))
      (O₀ := Owe c d.val) (d := d) (by rw [duties_bar]; exact Finset.mem_univ _) (amount_bar P (xr c (bmsk d)) d) () (Owe c (d.val + 1))
      (by rw [← ob_bar c d]; exact Owe_peel c ⟨d.val, by omega⟩) (W := W)) $$ [HO Ht H0 H1]
  · isplitr; · iexact Hi
    isplitl [HO]; · iexact HO
    isplitl [Ht]; · iexact Ht
    isplitl [H0 H1]
    · rw [payload_bar]; unfold barPay; rw [xr_xr]
      isplitl [H0] <;> iassumption
    · iexact Hr
  iintro HO
  iapply Hk
  iexists W; iexact HO

/-- The wait for the five signals: the receive buffers this device fills, and its barrier cell done. -/
theorem wait_bar {α : Type} {Q : α → sProp 𝕄} {kk : PUnit → Prog (TpuEff nD τ sig (Elt F) Λ₀ .tc) α} (c : Dev nD) {b : Sem sig} (hb : b = barS) {w : ℕ} (hw : w = 5) :
    records P Kn ⊢ iprop(due c 5 -∗ cred (tallyAt (barCell c) () 5) -∗ atPos ER (barCell c) 0 ∅ 0
        -∗ ((due c 5 ∗ semVal (barCell c) 0 ∗ barPay c 0 ∗ barPay c 1 ∗ barPay c 2 ∗ barPay c 3 ∗ barPay c 4)
            -∗ wp frame (wpE (defs₀ (F := F)) 𝒱₀ (c : Thread nD τ) none) Set.univ (kk ⟨⟩) Q)
        -∗ wp frame (wpE (defs₀ (F := F)) 𝒱₀ (c : Thread nD τ) none) Set.univ (.op (.semWait b w) kk) Q) := by
  subst hb hw
  unfold due
  iintro #Hrec ⟨%W, HO⟩ Hc Ha Hk
  ihave #Hi := (rec_bar P Kn c) $$ Hrec
  icases Hi with ⟨#Hi, -⟩
  iapply (Rounds.wp_wait_rest_token 𝒱₀ ER (Rd P) (c : Thread nD τ) none (κ := Kn (c, 0))
      (wpE_semWait_eq 𝒱₀ (c : Thread nD τ) none Set.univ) (Set.mem_univ _) () (O := Owe c 5) (W := W) (R := 0) (m := 0) (T := ∅)
      (by rw [expect_bar])) $$ [Hc HO Ha]
  · isplitr; · iexact Hi
    isplitl [Hc]; · iexact Hc
    isplitl [HO]; · iexact HO
    isplitr
    · iapply (rec_wait P Kn c (.reg barS) 5 5 (by rw [lv_bar]) (fun m hm => by omega)); iexact Hrec
    iexact Ha
  iintro ⟨HO, Ha, -, Hpay⟩
  ihave Hp := (Entails.of_eq (rest_bar P c)) $$ Hpay
  imod (Rounds.cell_close ER (Rd P) (Set.mem_univ (Kn (c, 0))) (fun h => h) (R := 0 + 1) (duties_later P (barCell c))) $$ [Ha] with Hz
  · isplitr; · iexact Hi
    iexact Ha
  iapply Hk
  isplitl [HO]; · iexists _; iexact HO
  isplitl [Hz]; · iexact Hz
  iexact Hp

/-- Both waits for a copy of the first half. -/
theorem wait_rs {α : Type} {Q : α → sProp 𝕄} {kk : PUnit → Prog (TpuEff nD τ sig (Elt F) Λ₀ .tc) α} (c : Dev nD) (o : ℕ) (sl : Fin 2) (k : Fin 9)
    (ho : pos true sl k < o) (l : List Ent) {q q' : DmaSem sig} (hq : q = sS true sl k) (hq' : q' = sR true sl k)
    {src dst src' dst' : Memref sig .tc .vmem (Sn (bsz k)) .bf16} {h1 : src.view.WordExact} {h2 : dst.view.WordExact} {h1' : src'.view.WordExact} {h2' : dst'.view.WordExact} :
    records P Kn ⊢ iprop(out c o -∗ flight c true sl k -∗ zs c l
        -∗ ((out c o ∗ gotR P c sl k ∗ dstO (F := F) c sl k ∗ zs c (sR true sl k :: sS true sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst h1 h2) fun _ => .op (.waitDma2 q' src' dst' h1' h2') kk) Q) := by
  iintro #Hrec HO HF Hz Hk
  iapply (wait_S P Kn c o true sl k l hq) $$ Hrec HO HF Hz
  iintro ⟨HO, HF, -, Hz⟩
  iapply (wait_R P Kn c o true sl k ho _ hq') $$ Hrec HO HF Hz
  iintro ⟨HO, Hp, Hz⟩
  iapply Hk
  isplitl [HO]; · iexact HO
  unfold dPay rsPay gotR dstO
  icases Hp with ⟨HR, HD⟩
  isplitl [HR]; · iexact HR
  isplitl [HD]; · iexact HD
  iexact Hz

/-- Both waits for a copy of the second half. -/
theorem wait_ag {α : Type} {Q : α → sProp 𝕄} {kk : PUnit → Prog (TpuEff nD τ sig (Elt F) Λ₀ .tc) α} (c : Dev nD) (o : ℕ) (sl : Fin 2) (k : Fin 9)
    (ho : pos false sl k < o) (l : List Ent) {q q' : DmaSem sig} (hq : q = sS false sl k) (hq' : q' = sR false sl k)
    {src dst src' dst' : Memref sig .tc .vmem (Sn (bsz k)) .bf16} {h1 : src.view.WordExact} {h2 : dst.view.WordExact} {h1' : src'.view.WordExact} {h2' : dst'.view.WordExact} :
    records P Kn ⊢ iprop(out c o -∗ flight c false sl k -∗ zs c l
        -∗ ((out c o ∗ agBack P c sl k ∗ agPay P c sl k ∗ zs c (sR false sl k :: sS false sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 q src dst h1 h2) fun _ => .op (.waitDma2 q' src' dst' h1' h2') kk) Q) := by
  iintro #Hrec HO HF Hz Hk
  iapply (wait_S P Kn c o false sl k l hq) $$ Hrec HO HF Hz
  iintro ⟨HO, HF, HB, Hz⟩
  iapply (wait_R P Kn c o false sl k ho _ hq') $$ Hrec HO HF Hz
  iintro ⟨HO, Hp, Hz⟩
  iapply Hk
  isplitl [HO]; · iexact HO
  isplitl [HB]; · unfold dPay; iexact HB
  isplitl [Hp]; · unfold dPay; iexact Hp
  iexact Hz

end Steps

end Cert.Moe

end
-- ==== Proof.Moe.Mem.lean ====
/-
# Loads and stores of the exchange: a block of rows read, a received block read, their sum put back
-/
module

public import proofs.«01_k».proof.Proof.Moe.Ops

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The rows of a block, read. -/
def blk (p : Dev nD) (sl : Fin 2) (k : Fin 9) (f : OutC F) : (Sn (bsz k)).Idx → Elt F .bf16 := (bSl p sl k).view.read (Elt F) f

section
variable (P : Dev nD → OutC F)

/-- A load of a block of the output. -/
theorem load_out {α : Type} {Q : α → sProp 𝕄} (c p : Dev nD) (sl : Fin 2) (k : Fin 9) {off : Fin 2 → ℕ} (ho : off = ![bst p sl k, 512 * sl.val])
    {inb : ∀ a, off a + (Sn (bsz k)).size a ≤ S1024x1024.size a} {hl : outM.view.LoadsAt (Rect.unit (s := S1024x1024) off (Sn (bsz k)).size inb).toLoadRect}
    {kk : ((Sn (bsz k)).Idx → Elt F .bf16) → Prog (TpuEff nD τ sig (Elt F) Λ₀ .tc) α} (q : PosShare TreeShare) (f : OutC F) :
    oPt c (B p sl k) q f ⊢ iprop((oPt c (B p sl k) q f -∗ wp frame (wpE (defs₀ (F := F)) 𝒱₀ (c : Thread nD τ) none) Set.univ (kk (blk p sl k f)) Q)
      -∗ wp frame (wpE (defs₀ (F := F)) 𝒱₀ (c : Thread nD τ) none) Set.univ
          (.op (.load outM (Rect.unit (s := S1024x1024) off (Sn (bsz k)).size inb).toLoadRect hl) kk) Q) := by
  subst ho
  rw [oPt_block c p sl k]
  iintro H Hk
  have h : ((bSl p sl k).view.loc (c : Thread nD τ) ↦[(bSl p sl k).view.set]{q} f : sProp 𝕄)
      ⊢ iprop((((bSl p sl k).view.loc (c : Thread nD τ) ↦[(bSl p sl k).view.set]{q} f) -∗ wp frame (wpE (defs₀ (F := F)) 𝒱₀ (c : Thread nD τ) none) Set.univ (kk (blk p sl k f)) Q) -∗ wp frame (wpE (defs₀ (F := F)) 𝒱₀ (c : Thread nD τ) none) Set.univ _ Q) :=
    wp_load_rect 𝒱₀ (c : Thread nD τ) none Set.univ (m := outM) (r := Rect.unit (s := S1024x1024) ![bst p sl k, 512 * sl.val] (Sn (bsz k)).size inb)
      (hl := hl) (k := kk) (f := f) (q := q) (S := (bSl p sl k).view.set) subset_rfl
  iapply h $$ H
  iintro H
  iapply Hk
  iexact H

/-- A load of a received block. -/
theorem load_rs {α : Type} {Q : α → sProp 𝕄} (c : Dev nD) (sl : Fin 2) (k : Fin 9) {off : Fin 2 → ℕ} (ho : off = ![dr c sl k, 0])
    {inb : ∀ a, off a + (Sn (bsz k)).size a ≤ (Sn (rsRows (stgF k))).size a}
    {hl : (rsM sl (stgF k)).view.LoadsAt (Rect.unit (s := Sn (rsRows (stgF k))) off (Sn (bsz k)).size inb).toLoadRect}
    {kk : ((Sn (bsz k)).Idx → Elt F .bf16) → Prog (TpuEff nD τ sig (Elt F) Λ₀ .tc) α} (X : (Sn (bsz k)).Idx → Elt F .bf16) :
    owns (Ix := Unit) (Name := ℕ) (U := UU) (Lvl := ℕ) (c : Thread nD τ) (rSl c sl k) fullShare X
        ⊢ iprop((owns (Ix := Unit) (Name := ℕ) (U := UU) (Lvl := ℕ) (c : Thread nD τ) (rSl c sl k) fullShare X
            -∗ wp frame (wpE (defs₀ (F := F)) 𝒱₀ (c : Thread nD τ) none) Set.univ (kk X) Q)
      -∗ wp frame (wpE (defs₀ (F := F)) 𝒱₀ (c : Thread nD τ) none) Set.univ
          (.op (.load (rsM sl (stgF k)) (Rect.unit (s := Sn (rsRows (stgF k))) off (Sn (bsz k)).size inb).toLoadRect hl) kk) Q) := by
  subst ho
  unfold owns
  iintro ⟨%f, %hf, H⟩ Hk
  have h : ((rSl c sl k).view.loc (c : Thread nD τ) ↦[(rSl c sl k).view.set]{fullShare} f : sProp 𝕄)
      ⊢ iprop((((rSl c sl k).view.loc (c : Thread nD τ) ↦[(rSl c sl k).view.set]{fullShare} f) -∗ wp frame (wpE (defs₀ (F := F)) 𝒱₀ (c : Thread nD τ) none) Set.univ (kk ((rSl c sl k).view.read (Elt F) f)) Q) -∗ wp frame (wpE (defs₀ (F := F)) 𝒱₀ (c : Thread nD τ) none) Set.univ _ Q) :=
    wp_load_rect 𝒱₀ (c : Thread nD τ) none Set.univ (m := rsM sl (stgF k)) (r := Rect.unit (s := Sn (rsRows (stgF k))) ![dr c sl k, 0] (Sn (bsz k)).size inb)
      (hl := hl) (k := kk) (f := f) (q := fullShare) (S := (rSl c sl k).view.set) subset_rfl
  rw [hf] at h
  iapply h $$ H
  iintro H
  iapply Hk
  iexists f
  isplitr
  · ipureintro; exact hf
  · iexact H

/-- The sum of a block with the one received for it is put back. -/
theorem store_sum {α : Type} {Q : α → sProp 𝕄} (c : Dev nD) (sl : Fin 2) (k : Fin 9) {off : Fin 2 → ℕ} (ho : off = ![bst c sl k, 512 * sl.val])
    {inb : ∀ a, off a + (Sn (bsz k)).size a ≤ S1024x1024.size a} {w : (Sn (bsz k)).Idx → Elt F .bf16}
    (hw : w = fun i => FloatOps.addf (φ := .bf16) (blk c sl k (St P sl (stg k) c) i) (got P c sl k i))
    {hx : (outM.access (Rect.unit (s := S1024x1024) off (Sn (bsz k)).size inb)).Stores Finset.univ} {hm}
    {kk : PUnit → Prog (TpuEff nD τ sig (Elt F) Λ₀ .tc) α} :
    oPt c (B c sl k) fullShare (St P sl (stg k) c)
        ⊢ iprop((oPt c (B c sl k) fullShare (St P sl (stg k + 1) c) -∗ wp frame (wpE (defs₀ (F := F)) 𝒱₀ (c : Thread nD τ) none) Set.univ (kk ⟨⟩) Q)
      -∗ wp frame (wpE (defs₀ (F := F)) 𝒱₀ (c : Thread nD τ) none) Set.univ
          (.op (.store outM (Rect.unit (s := S1024x1024) off (Sn (bsz k)).size inb) w Finset.univ hx hm) kk) Q) := by
  subst ho
  rw [oPt_block c c sl k, oPt_block c c sl k]
  iintro H Hk
  have e : ((bSl c sl k).view.loc (c : Thread nD τ) ↦[(bSl c sl k).view.set]{fullShare} ((bSl c sl k).view.write (Elt F) (St P sl (stg k) c) w Finset.univ) : sProp 𝕄)
      = ((bSl c sl k).view.loc (c : Thread nD τ) ↦[(bSl c sl k).view.set]{fullShare} (St P sl (stg k + 1) c)) := by
    refine pointsTo_congr ?_
    intro i hi
    obtain ⟨x, -, rfl⟩ := Finset.mem_map.mp hi
    refine (View.write_emb_of_mem (v := (bSl c sl k).view) (St P sl (stg k) c) w (Finset.mem_univ x)).trans ?_
    rw [hw]
    rfl
  have h : ((bSl c sl k).view.loc (c : Thread nD τ) ↦[(bSl c sl k).view.set]{fullShare} (St P sl (stg k) c) : sProp 𝕄)
      ⊢ iprop((((bSl c sl k).view.loc (c : Thread nD τ) ↦[(bSl c sl k).view.set]{fullShare} ((bSl c sl k).view.write (Elt F) (St P sl (stg k) c) w Finset.univ)) -∗ wp frame (wpE (defs₀ (F := F)) 𝒱₀ (c : Thread nD τ) none) Set.univ (kk ⟨⟩) Q) -∗ wp frame (wpE (defs₀ (F := F)) 𝒱₀ (c : Thread nD τ) none) Set.univ _ Q) :=
    wp_store 𝒱₀ (c : Thread nD τ) none Set.univ (m := outM) (r := Rect.unit (s := S1024x1024) ![bst c sl k, 512 * sl.val] (Sn (bsz k)).size inb)
      (Mk := Finset.univ) (w := w) (hx := hx) (hm := hm) (k := kk) (f := St P sl (stg k) c) (S := (bSl c sl k).view.set) subset_rfl
  rw [e] at h
  iapply h $$ H
  iintro H
  iapply Hk
  iexact H

/-- The printed sum of two blocks is the sum row by row. -/
theorem pay_sum {s : Shape} (h : s.ShapeCasts s) (v w : FVec F s .bf16) : addf (shapeCast s v h) w = fun i => FloatOps.addf (φ := .bf16) (v i) (w i) := by
  have e : shapeCast s v h = v := funext fun i => congrArg v (Shape.reshapeEquiv_self _ i)
  rw [e]; rfl

/-- A received block is added to this device's: the two are read, and the sum is put back. -/
theorem add_block {α : Type} {Q : α → sProp 𝕄} (c : Dev nD) (sl : Fin 2) (k : Fin 9) {off offr : Fin 2 → ℕ} (ho : off = ![bst c sl k, 512 * sl.val])
    (hr : offr = ![dr c sl k, 0])
    {inb : ∀ a, off a + (Sn (bsz k)).size a ≤ S1024x1024.size a} {inr : ∀ a, offr a + (Sn (bsz k)).size a ≤ (Sn (rsRows (stgF k))).size a}
    {w : ((Sn (bsz k)).Idx → Elt F .bf16) → ((Sn (bsz k)).Idx → Elt F .bf16) → ((Sn (bsz k)).Idx → Elt F .bf16)}
    (hw : ∀ u v, w u v = fun i => FloatOps.addf (φ := .bf16) (u i) (v i)) {hl hl' hlr}
    {hx : (outM.access (Rect.unit (s := S1024x1024) off (Sn (bsz k)).size inb)).Stores Finset.univ} {hm}
    {kk : PUnit → Prog (TpuEff nD τ sig (Elt F) Λ₀ .tc) α} :
    iprop(oPt c (B c sl k) fullShare (St P sl (stg k) c) ∗ gotR P c sl k)
      ⊢ iprop(((oPt c (B c sl k) fullShare (St P sl (stg k + 1) c) ∗ gotR P c sl k) -∗ wp frame (wpE (defs₀ (F := F)) 𝒱₀ (c : Thread nD τ) none) Set.univ (kk ⟨⟩) Q)
      -∗ wp frame (wpE (defs₀ (F := F)) 𝒱₀ (c : Thread nD τ) none) Set.univ
          (.op (.load outM (Rect.unit (s := S1024x1024) off (Sn (bsz k)).size inb).toLoadRect hl) fun u =>
           .op (.load (rsM sl (stgF k)) (Rect.unit (s := Sn (rsRows (stgF k))) offr (Sn (bsz k)).size inr).toLoadRect hlr) fun v =>
           .op (.load outM (Rect.unit (s := S1024x1024) off (Sn (bsz k)).size inb).toLoadRect hl') fun _ =>
           .op (.store outM (Rect.unit (s := S1024x1024) off (Sn (bsz k)).size inb) (w u v) Finset.univ hx hm) kk) Q) := by
  iintro ⟨H, HR⟩ Hk
  unfold gotR
  iapply (load_out c c sl k ho fullShare (St P sl (stg k) c)) $$ H
  iintro H
  iapply (load_rs c sl k hr (got P c sl k)) $$ HR
  iintro HR
  iapply (load_out c c sl k ho fullShare (St P sl (stg k) c)) $$ H
  iintro H
  iapply (store_sum P c sl k ho (hw _ _)) $$ H
  iintro H
  iapply Hk
  isplitl [H] <;> iassumption

/-- An equality of devices by their numbers. -/
theorem dev_eq {n : ℕ} (h : n < nD) {p : Dev nD} (e : n = p.val) : (⟨n, h⟩ : Dev nD) = p := Fin.ext e

end

end Cert.Moe

end
-- ==== Proof.Moe.Steps.lean ====
/-
# The kernel's statements, one at a time

Each statement of the exchange in the form in which the ranges of the kernel use it, and how a permission on rows of the output
is taken apart and put together between them.
-/
module

public import proofs.«01_k».proof.Proof.Moe.Mem

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel at the launch's buffers. -/
abbrev ap {β : Type 1} (f : ∀ (arg0 : Memref sig .tc .vmem S1024x512 .bf16) (harg0 : arg0.IsWhole) (arg1 : Memref sig .tc .vmem S512x128 .bf16) (harg1 : arg1.IsWhole) (arg2 : Memref sig .tc .vmem S1024x2 .i32) (harg2 : arg2.IsWhole) (arg3 : Memref sig .tc .vmem S4x512x1024 .bf16) (harg3 : arg3.IsWhole) (arg4 : Memref sig .tc .vmem S1024x1024 .bf16) (harg4 : arg4.IsWhole) (arg5 : Memref sig .tc .vmem S512x512 .bf16) (harg5 : arg5.IsWhole) (arg6 : Memref sig .tc .vmem S256x512 .bf16) (harg6 : arg6.IsWhole) (arg7 : Memref sig .tc .vmem S128x512 .bf16) (harg7 : arg7.IsWhole) (arg8 : Memref sig .tc .vmem S64x512 .bf16) (harg8 : arg8.IsWhole) (arg9 : Memref sig .tc .vmem S32x512 .bf16) (harg9 : arg9.IsWhole) (arg10 : Memref sig .tc .vmem S512x512 .bf16) (harg10 : arg10.IsWhole) (arg11 : Memref sig .tc .vmem S256x512 .bf16) (harg11 : arg11.IsWhole) (arg12 : Memref sig .tc .vmem S128x512 .bf16) (harg12 : arg12.IsWhole) (arg13 : Memref sig .tc .vmem S64x512 .bf16) (harg13 : arg13.IsWhole) (arg14 : Memref sig .tc .vmem S32x512 .bf16) (harg14 : arg14.IsWhole) (arg15 : DmaSems sig S10) (arg16 : DmaSems sig S10) (arg17 : DmaSems sig S10) (arg18 : DmaSems sig S10) (arg19 : DmaSems sig S9) (arg20 : DmaSems sig S9) (arg21 : DmaSems sig S9) (arg22 : DmaSems sig S9), β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) outM (Memref.isWhole_whole _) (rsM 0 0) (Memref.isWhole_whole _) (rsM 0 1) (Memref.isWhole_whole _) (rsM 0 2) (Memref.isWhole_whole _) (rsM 0 3) (Memref.isWhole_whole _) (rsM 0 4) (Memref.isWhole_whole _) (rsM 1 0) (Memref.isWhole_whole _) (rsM 1 1) (Memref.isWhole_whole _) (rsM 1 2) (Memref.isWhole_whole _) (rsM 1 3) (Memref.isWhole_whole _) (rsM 1 4) (Memref.isWhole_whole _) cc0_scratch10 cc0_scratch11 cc0_scratch12 cc0_scratch13 cc0_scratch14 cc0_scratch15 cc0_scratch16 cc0_scratch17

/-- A program run on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Rows taken apart and put together -/

/-- The first copy of a step is the receiver's next peer's two copies of the next step. -/
theorem B_hot_union (c : Dev nD) (sl : Fin 2) (s : Fin 3) :
    B c sl ⟨s.val, by omega⟩ = B (peer c sl (s.val + 1)) sl ⟨s.val + 1, by omega⟩ ∪ B (peer c sl (s.val + 1)) sl ⟨s.val + 6, by omega⟩ := by
  have h := B_hot c sl ⟨s.val, by omega⟩
  have h1 := B_hot (peer c sl (s.val + 1)) sl ⟨s.val + 1, by omega⟩
  have h2 := B_cold (peer c sl (s.val + 1)) sl ⟨s.val + 1, by omega⟩
  have h3 := K_split (peer c sl (s.val + 1)) sl ⟨s.val + 2, by omega⟩
  exact h.trans (h3.trans (congrArg₂ (· ∪ ·) h1.symm h2.symm))
/-- The second copy of a step is the receiver's own two copies of the next step. -/
theorem B_cold_union (c : Dev nD) (sl : Fin 2) (s : Fin 3) :
    B c sl ⟨s.val + 5, by omega⟩ = B c sl ⟨s.val + 1, by omega⟩ ∪ B c sl ⟨s.val + 6, by omega⟩ := by
  have h := B_cold c sl ⟨s.val, by omega⟩
  have h1 := B_hot c sl ⟨s.val + 1, by omega⟩
  have h2 := B_cold c sl ⟨s.val + 1, by omega⟩
  have h3 := K_split c sl ⟨s.val + 2, by omega⟩
  exact h.trans (h3.trans (congrArg₂ (· ∪ ·) h1.symm h2.symm))
/-- The two copies of a step never meet. -/
theorem B_disj (c : Dev nD) (sl : Fin 2) (s : Fin 4) : Disjoint (B c sl ⟨s.val, by omega⟩) (B c sl ⟨s.val + 5, by omega⟩) := by
  rw [B_hot c sl s, B_cold c sl s]
  exact K_disj c sl ⟨s.val + 1, by omega⟩
/-- Copy 3 is what the last peer receives last. -/
theorem B_last_hot (c : Dev nD) (sl : Fin 2) : B c sl 3 = B (peer c sl 4) sl 4 := B_hot c sl 3
/-- Copy 8 is what the receiver receives last. -/
theorem B_last_cold (c : Dev nD) (sl : Fin 2) : B c sl 8 = B c sl 4 := B_cold c sl 3
/-- After the first step a device answers for the first step's two copies. -/
theorem K_one (c : Dev nD) (sl : Fin 2) : K c sl 1 = B c sl 0 ∪ B c sl 5 :=
  (K_split c sl 1).trans (congrArg₂ (· ∪ ·) (B_hot c sl 0).symm (B_cold c sl 0).symm)

omit [FloatOps F] in
/-- Rows owned together are owned apart. -/
theorem oPt_union (c : Dev nD) {S T U : Finset S1024x1024.Idx} (h : S = T ∪ U) (hd : Disjoint T U) (q : PosShare TreeShare) (f : OutC F) :
    (oPt c S q f : sProp 𝕄) ⊣⊢ iprop(oPt c T q f ∗ oPt c U q f) := by
  subst h; exact pointsTo_union hd
omit [FloatOps F] in
/-- A full share is two half shares. -/
theorem oPt_halves (c : Dev nD) (S : Finset S1024x1024.Idx) (f : OutC F) :
    (oPt c S fullShare f : sProp 𝕄) ⊣⊢ iprop(oPt c S (PosShare.left fullShare) f ∗ oPt c S (PosShare.right fullShare) f) :=
  pointsTo_share (PosShare.mem_left_op_right fullShare)

omit [FloatOps F] in
/-- What the near half of a step brought is the two copies of the next step, for the next peer. -/
theorem hot_split (c : Dev nD) (sl : Fin 2) (k k₁ k₂ : Fin 9) (s : ℕ) (q : PosShare TreeShare) (f : OutC F)
    (h : k.val < 3 ∧ s = k.val + 1 ∧ k₁.val = k.val + 1 ∧ k₂.val = k.val + 6 := by decide) :
    (oPt c (B c sl k) q f : sProp 𝕄) ⊣⊢ iprop(oPt c (B (peer c sl s) sl k₁) q f ∗ oPt c (B (peer c sl s) sl k₂) q f) := by
  obtain ⟨h0, rfl, h1, h2⟩ := h
  have e1 : B (peer c sl (k.val + 1)) sl k₁ = B (peer c sl (k.val + 1)) sl ⟨k.val + 1, by omega⟩ := congrArg _ (Fin.ext h1)
  have e2 : B (peer c sl (k.val + 1)) sl k₂ = B (peer c sl (k.val + 1)) sl ⟨k.val + 6, by omega⟩ := congrArg _ (Fin.ext h2)
  rw [e1, e2]
  exact oPt_union c (B_hot_union c sl ⟨k.val, h0⟩) (B_disj _ sl ⟨k.val + 1, by omega⟩) q f
omit [FloatOps F] in
/-- What the far half brought is the two copies of the next step, kept. -/
theorem cold_split (c : Dev nD) (sl : Fin 2) (k k₁ k₂ : Fin 9) (q : PosShare TreeShare) (f : OutC F)
    (h : (5 ≤ k.val ∧ k.val < 8) ∧ k₁.val = k.val - 4 ∧ k₂.val = k.val + 1 := by decide) :
    (oPt c (B c sl k) q f : sProp 𝕄) ⊣⊢ iprop(oPt c (B c sl k₁) q f ∗ oPt c (B c sl k₂) q f) := by
  obtain ⟨h0, h1, h2⟩ := h
  have e : B c sl k = B c sl ⟨k.val - 5 + 5, by omega⟩ := congrArg _ <| Fin.ext (by show k.val = k.val - 5 + 5; omega)
  have e1 : B c sl k₁ = B c sl ⟨k.val - 5 + 1, by omega⟩ := congrArg _ <| Fin.ext (by show k₁.val = k.val - 5 + 1; omega)
  have e2 : B c sl k₂ = B c sl ⟨k.val - 5 + 6, by omega⟩ := congrArg _ <| Fin.ext (by show k₂.val = k.val - 5 + 6; omega)
  have h3 := oPt_union (F := F) c (B_cold_union c sl ⟨k.val - 5, by omega⟩) (B_disj _ sl ⟨k.val - 5 + 1, by omega⟩) q f
  rw [e, e1, e2]; exact h3
omit [FloatOps F] in
/-- A half of the columns is the two copies of the first step, to send and to keep. -/
theorem first_split (c : Dev nD) (sl : Fin 2) (q : PosShare TreeShare) (f : OutC F) :
    (oPt c (R 0 1024 sl) q f : sProp 𝕄)
      ⊣⊢ iprop((oPt c (B (peer c sl 0) sl 0) q f ∗ oPt c (B (peer c sl 0) sl 5) q f) ∗ (oPt c (B c sl 0) q f ∗ oPt c (B c sl 5) q f)) :=
  (oPt_union c (K_split c sl 0) (K_disj c sl 0) q f).trans
    (sep_congr (oPt_union c (K_one _ sl) (B_disj _ sl 0) q f) (oPt_union c (K_one c sl) (B_disj c sl 0) q f))

/-! ## The statements -/

section
variable (P : Dev nD → OutC F) (Kn : Dev nD × Fin 77 → ℕ)

/-- A block on device `c`, at the sums of step `s`. -/
abbrev bl (c p : Dev nD) (sl : Fin 2) (k : Fin 9) (s : ℕ) : sProp 𝕄 := oPt c (B p sl k) fullShare (St P sl s c)
/-- A finished block on device `c`. -/
abbrev fi (q : PosShare TreeShare) (c p : Dev nD) (sl : Fin 2) (k : Fin 9) : sProp 𝕄 := oPt c (B p sl k) q (Fn P sl)

/-- After the last step but one, what the near half brought is the last peer's. -/
theorem last_hot (c : Dev nD) (sl : Fin 2) (s : ℕ) : (bl P c c sl 3 s : sProp 𝕄) = bl P c (peer c sl 4) sl 4 s := by unfold bl; rw [B_last_hot]
/-- What the far half brought is this device's. -/
theorem last_cold (c : Dev nD) (sl : Fin 2) (s : ℕ) : (bl P c c sl 8 s : sProp 𝕄) = bl P c c sl 4 s := by unfold bl; rw [B_last_cold]
/-- After the last addition a device's own block is finished. -/
theorem done_eq (c : Dev nD) (sl : Fin 2) : (bl P c c sl 4 5 : sProp 𝕄) = fi P fullShare c c sl 4 :=
  oPt_congr c fun i hi => Fn_own P sl c i hi

/-- A program that has ended. -/
theorem ret {α : Type} {Q : α → sProp 𝕄} (c : Dev nD) (a : α) : Q a ⊢ run c (.ret a) Q := by
  unfold run; rw [wp_ret]; exact fupd_intro

/-- A copy of the first half starts. -/
theorem snd {α : Type} {Q : α → sProp 𝕄} {kk : PUnit → Prog (TpuEff nD τ sig (Elt F) Λ₀ .tc) α} (c : Dev nD) (o : ℕ) (sl : Fin 2) (k : Fin 9) (s : ℕ)
    (dv : Dev nD → ℕ) (off offr : Dev nD → Fin 2 → ℕ) (hst : stg k = s := by decide)
    (ho : o = pos true sl k := by decide) (hn : ∀ d, dv d = (peer d sl (stg k)).val := by decide +kernel)
    (hs : ∀ d, off d = ![bst (peer d sl (stg k)) sl k, 512 * sl.val] := by decide +kernel) (hd : ∀ d, offr d = ![dr (peer d sl (stg k)) sl k, 0] := by decide +kernel)
    {h : dv c < nD} {inb : ∀ a, off c a + (Sn (bsz k)).size a ≤ S1024x1024.size a} {inr : ∀ a, offr c a + (Sn (bsz k)).size a ≤ (Sn (rsRows (stgF k))).size a}
    {hsc} {hsrc} {hdst} {hsem} :
    records P Kn ⊢ iprop(out c o -∗ bl P c (peer c sl s) sl k s -∗ rAny (peer c sl s) sl k
        -∗ ((out c (o + 1) ∗ flight c true sl k) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (outM.slice (Rect.unit (s := S1024x1024) (off c) (Sn (bsz k)).size inb) (fun _ => rfl))
            (.remote (Dev.tc (⟨dv c, h⟩ : Dev nD) : Thread nD τ) ((rsM sl (stgF k)).slice (Rect.unit (s := Sn (rsRows (stgF k))) (offr c) (Sn (bsz k)).size inr) (fun _ => rfl)) (.dma (sS true sl k)) hsc)
            (.dma (sR true sl k)) hsrc hdst hsem) kk) Q) := by
  subst hst
  exact send_rs P Kn c _ sl k o ho (dev_eq h (hn c)) (o_eq inb (hs c)) (r_eq inr (hd c)) rfl rfl

/-- A copy of the second half starts. -/
theorem snd' {α : Type} {Q : α → sProp 𝕄} {kk : PUnit → Prog (TpuEff nD τ sig (Elt F) Λ₀ .tc) α} (c : Dev nD) (o : ℕ) (sl : Fin 2) (k : Fin 9) (q : PosShare TreeShare)
    (dv : Dev nD → ℕ) (off : Dev nD → Fin 2 → ℕ) (hq : hs (stg k) = q := by rfl)
    (ho : o = pos false sl k := by decide) (hn : ∀ d, dv d = (peer d sl (stg k)).val := by decide +kernel)
    (hs' : ∀ d, off d = ![bst d sl k, 512 * sl.val] := by decide +kernel)
    {h : dv c < nD} {inb : ∀ a, off c a + (Sn (bsz k)).size a ≤ S1024x1024.size a}
    {hsc} {hsrc} {hdst} {hsem} :
    records P Kn ⊢ iprop(out c o -∗ fi P q c c sl k -∗ dstO (F := F) c sl k
        -∗ ((out c (o + 1) ∗ flight c false sl k) -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (outM.slice (Rect.unit (s := S1024x1024) (off c) (Sn (bsz k)).size inb) (fun _ => rfl))
            (.remote (Dev.tc (⟨dv c, h⟩ : Dev nD) : Thread nD τ) (outM.slice (Rect.unit (s := S1024x1024) (off c) (Sn (bsz k)).size inb) (fun _ => rfl)) (.dma (sS false sl k)) hsc)
            (.dma (sR false sl k)) hsrc hdst hsem) kk) Q) := by
  subst hq
  exact send_ag P Kn c _ sl k o ho (dev_eq h (hn c)) (o_eq inb (hs' c)) rfl rfl

/-- Both waits for a copy of the first half. -/
theorem wt {α : Type} {Q : α → sProp 𝕄} {kk : PUnit → Prog (TpuEff nD τ sig (Elt F) Λ₀ .tc) α} (c : Dev nD) (o : ℕ) (sl : Fin 2) (k : Fin 9) {l : List Ent}
    (ho : pos true sl k < o := by decide)
    {src dst src' dst' : Memref sig .tc .vmem (Sn (bsz k)) .bf16} {h1 h2 h1' h2'} :
    records P Kn ⊢ iprop(out c o -∗ flight c true sl k -∗ zs c l
        -∗ ((out c o ∗ gotR P c sl k ∗ dstO (F := F) c sl k ∗ zs c (sR true sl k :: sS true sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sS true sl k) src dst h1 h2) fun _ => .op (.waitDma2 (sR true sl k) src' dst' h1' h2') kk) Q) :=
  wait_rs P Kn c o sl k ho l rfl rfl
/-- The first of them … -/
theorem wtS {α : Type} {Q : α → sProp 𝕄} {kk : PUnit → Prog (TpuEff nD τ sig (Elt F) Λ₀ .tc) α} (c : Dev nD) (o : ℕ) (sl : Fin 2) (k : Fin 9) {l : List Ent}
    {src dst : Memref sig .tc .vmem (Sn (bsz k)) .bf16} {h1 h2} :
    records P Kn ⊢ iprop(out c o -∗ flight c true sl k -∗ zs c l
        -∗ ((out c o ∗ flight' c true sl k ∗ zs c (sS true sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sS true sl k) src dst h1 h2) kk) Q) := by
  iintro #Hrec HO HF Hz Hk
  iapply (wait_S P Kn c o true sl k l rfl) $$ Hrec HO HF Hz
  iintro ⟨HO, HF, -, Hz⟩
  iapply Hk
  isplitl [HO]; · iexact HO
  isplitl [HF] <;> iassumption
/-- … and the second. -/
theorem wtR {α : Type} {Q : α → sProp 𝕄} {kk : PUnit → Prog (TpuEff nD τ sig (Elt F) Λ₀ .tc) α} (c : Dev nD) (o : ℕ) (sl : Fin 2) (k : Fin 9) {l : List Ent}
    (ho : pos true sl k < o := by decide)
    {src dst : Memref sig .tc .vmem (Sn (bsz k)) .bf16} {h1 h2} :
    records P Kn ⊢ iprop(out c o -∗ flight' c true sl k -∗ zs c l
        -∗ ((out c o ∗ gotR P c sl k ∗ dstO (F := F) c sl k ∗ zs c (sR true sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sR true sl k) src dst h1 h2) kk) Q) := by
  iintro #Hrec HO HF Hz Hk
  iapply (wait_R P Kn c o true sl k ho l rfl) $$ Hrec HO HF Hz
  iintro ⟨HO, Hp, Hz⟩
  iapply Hk
  isplitl [HO]; · iexact HO
  unfold dPay rsPay gotR dstO
  icases Hp with ⟨HR, HD⟩
  isplitl [HR]; · iexact HR
  isplitl [HD] <;> iassumption

/-- Both waits for a copy of the second half. -/
theorem wt' {α : Type} {Q : α → sProp 𝕄} {kk : PUnit → Prog (TpuEff nD τ sig (Elt F) Λ₀ .tc) α} (c : Dev nD) (o : ℕ) (sl : Fin 2) (k : Fin 9) (s : ℕ) (q : PosShare TreeShare) {l : List Ent}
    (ho : pos false sl k < o := by decide) (hst : stg k = s := by decide) (hq : hs (stg k) = q := by rfl)
    {src dst src' dst' : Memref sig .tc .vmem (Sn (bsz k)) .bf16} {h1 h2 h1' h2'} :
    records P Kn ⊢ iprop(out c o -∗ flight c false sl k -∗ zs c l
        -∗ ((out c o ∗ fi P q c c sl k ∗ fi P fullShare c (peer c sl s) sl k ∗ zs c (sR false sl k :: sS false sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sS false sl k) src dst h1 h2) fun _ => .op (.waitDma2 (sR false sl k) src' dst' h1' h2') kk) Q) := by
  subst_vars
  exact wait_ag P Kn c o sl k ho l rfl rfl
/-- The first of them … -/
theorem wtS' {α : Type} {Q : α → sProp 𝕄} {kk : PUnit → Prog (TpuEff nD τ sig (Elt F) Λ₀ .tc) α} (c : Dev nD) (o : ℕ) (sl : Fin 2) (k : Fin 9) (q : PosShare TreeShare) {l : List Ent} (hq : hs (stg k) = q := by rfl)
    {src dst : Memref sig .tc .vmem (Sn (bsz k)) .bf16} {h1 h2} :
    records P Kn ⊢ iprop(out c o -∗ flight c false sl k -∗ zs c l
        -∗ ((out c o ∗ flight' c false sl k ∗ fi P q c c sl k ∗ zs c (sS false sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sS false sl k) src dst h1 h2) kk) Q) := by
  subst_vars
  exact wait_S P Kn c o false sl k l rfl
/-- … and the second. -/
theorem wtR' {α : Type} {Q : α → sProp 𝕄} {kk : PUnit → Prog (TpuEff nD τ sig (Elt F) Λ₀ .tc) α} (c : Dev nD) (o : ℕ) (sl : Fin 2) (k : Fin 9) (s : ℕ) {l : List Ent}
    (ho : pos false sl k < o := by decide) (hst : stg k = s := by decide)
    {src dst : Memref sig .tc .vmem (Sn (bsz k)) .bf16} {h1 h2} :
    records P Kn ⊢ iprop(out c o -∗ flight' c false sl k -∗ zs c l
        -∗ ((out c o ∗ fi P fullShare c (peer c sl s) sl k ∗ zs c (sR false sl k :: l)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (sR false sl k) src dst h1 h2) kk) Q) := by
  subst_vars
  exact wait_R P Kn c o false sl k ho l rfl

/-- A received block is added to this device's. -/
theorem add {α : Type} {Q : α → sProp 𝕄} {kk : PUnit → Prog (TpuEff nD τ sig (Elt F) Λ₀ .tc) α} (c : Dev nD) (sl : Fin 2) (k : Fin 9) (s s' : ℕ)
    (off offr : Dev nD → Fin 2 → ℕ)
    {w : ((Sn (bsz k)).Idx → Elt F .bf16) → ((Sn (bsz k)).Idx → Elt F .bf16) → ((Sn (bsz k)).Idx → Elt F .bf16)}
    (hw : ∀ u v, w u v = fun i => FloatOps.addf (φ := .bf16) (u i) (v i))
    (ho : ∀ d, off d = ![bst d sl k, 512 * sl.val] := by decide +kernel) (hr : ∀ d, offr d = ![dr d sl k, 0] := by decide +kernel) (hst : stg k = s := by decide) (hst' : s + 1 = s' := by rfl)
    {inb : ∀ a, off c a + (Sn (bsz k)).size a ≤ S1024x1024.size a} {inr : ∀ a, offr c a + (Sn (bsz k)).size a ≤ (Sn (rsRows (stgF k))).size a}
    {hl hl' hlr} {hx : (outM.access (Rect.unit (s := S1024x1024) (off c) (Sn (bsz k)).size inb)).Stores Finset.univ} {hm} :
    bl P c c sl k s ⊢ iprop(gotR P c sl k -∗ ((bl P c c sl k s' ∗ gotR P c sl k) -∗ wp frame (wpE (defs₀ (F := F)) 𝒱₀ (c : Thread nD τ) none) Set.univ (kk ⟨⟩) Q)
      -∗ wp frame (wpE (defs₀ (F := F)) 𝒱₀ (c : Thread nD τ) none) Set.univ
          (.op (.load outM (Rect.unit (s := S1024x1024) (off c) (Sn (bsz k)).size inb).toLoadRect hl) fun u =>
           .op (.load (rsM sl (stgF k)) (Rect.unit (s := Sn (rsRows (stgF k))) (offr c) (Sn (bsz k)).size inr).toLoadRect hlr) fun v =>
           .op (.load outM (Rect.unit (s := S1024x1024) (off c) (Sn (bsz k)).size inb).toLoadRect hl') fun _ =>
           .op (.store outM (Rect.unit (s := S1024x1024) (off c) (Sn (bsz k)).size inb) (w u v) Finset.univ hx hm) kk) Q) := by
  subst hst hst'
  iintro H HR
  iapply (add_block P c sl k (ho c) (hr c) hw)
  isplitl [H] <;> iassumption

/-- The same, its own block read before. -/
theorem addV {α : Type} {Q : α → sProp 𝕄} {kk : PUnit → Prog (TpuEff nD τ sig (Elt F) Λ₀ .tc) α} (c : Dev nD) (sl : Fin 2) (k : Fin 9) (s s' : ℕ)
    (off offr : Dev nD → Fin 2 → ℕ)
    {w : ((Sn (bsz k)).Idx → Elt F .bf16) → ((Sn (bsz k)).Idx → Elt F .bf16)}
    (hw : ∀ v, w v = fun i => FloatOps.addf (φ := .bf16) (blk c sl k (St P sl s c) i) (v i))
    (ho : ∀ d, off d = ![bst d sl k, 512 * sl.val] := by decide +kernel) (hr : ∀ d, offr d = ![dr d sl k, 0] := by decide +kernel) (hst : stg k = s := by decide) (hst' : s + 1 = s' := by rfl)
    {inb : ∀ a, off c a + (Sn (bsz k)).size a ≤ S1024x1024.size a} {inr : ∀ a, offr c a + (Sn (bsz k)).size a ≤ (Sn (rsRows (stgF k))).size a}
    {hl' hlr} {hx : (outM.access (Rect.unit (s := S1024x1024) (off c) (Sn (bsz k)).size inb)).Stores Finset.univ} {hm} :
    bl P c c sl k s ⊢ iprop(gotR P c sl k -∗ ((bl P c c sl k s' ∗ gotR P c sl k) -∗ wp frame (wpE (defs₀ (F := F)) 𝒱₀ (c : Thread nD τ) none) Set.univ (kk ⟨⟩) Q)
      -∗ wp frame (wpE (defs₀ (F := F)) 𝒱₀ (c : Thread nD τ) none) Set.univ
          (.op (.load (rsM sl (stgF k)) (Rect.unit (s := Sn (rsRows (stgF k))) (offr c) (Sn (bsz k)).size inr).toLoadRect hlr) fun v =>
           .op (.load outM (Rect.unit (s := S1024x1024) (off c) (Sn (bsz k)).size inb).toLoadRect hl') fun _ =>
           .op (.store outM (Rect.unit (s := S1024x1024) (off c) (Sn (bsz k)).size inb) (w v) Finset.univ hx hm) kk) Q) := by
  subst hst hst'
  iintro H HR Hk
  unfold gotR
  iapply (load_rs c sl k (hr c) (got P c sl k)) $$ HR
  iintro HR
  iapply (load_out c c sl k (ho c) fullShare (St P sl (stg k) c)) $$ H
  iintro H
  iapply (store_sum P c sl k (ho c) (hw _)) $$ H
  iintro H
  iapply Hk
  isplitl [H] <;> iassumption

/-- The sum, computed before, is put back. -/
theorem put {α : Type} {Q : α → sProp 𝕄} {kk : PUnit → Prog (TpuEff nD τ sig (Elt F) Λ₀ .tc) α} (c : Dev nD) (sl : Fin 2) (k : Fin 9) (s s' : ℕ)
    (off : Dev nD → Fin 2 → ℕ) {w : (Sn (bsz k)).Idx → Elt F .bf16}
    (hw : w = fun i => FloatOps.addf (φ := .bf16) (blk c sl k (St P sl s c) i) (got P c sl k i))
    (ho : ∀ d, off d = ![bst d sl k, 512 * sl.val] := by decide +kernel) (hst : stg k = s := by decide) (hst' : s + 1 = s' := by rfl)
    {inb : ∀ a, off c a + (Sn (bsz k)).size a ≤ S1024x1024.size a}
    {hl'} {hx : (outM.access (Rect.unit (s := S1024x1024) (off c) (Sn (bsz k)).size inb)).Stores Finset.univ} {hm} :
    bl P c c sl k s ⊢ iprop((bl P c c sl k s' -∗ wp frame (wpE (defs₀ (F := F)) 𝒱₀ (c : Thread nD τ) none) Set.univ (kk ⟨⟩) Q)
      -∗ wp frame (wpE (defs₀ (F := F)) 𝒱₀ (c : Thread nD τ) none) Set.univ
          (.op (.load outM (Rect.unit (s := S1024x1024) (off c) (Sn (bsz k)).size inb).toLoadRect hl') fun _ =>
           .op (.store outM (Rect.unit (s := S1024x1024) (off c) (Sn (bsz k)).size inb) w Finset.univ hx hm) kk) Q) := by
  subst hst hst'
  iintro H Hk
  iapply (load_out c c sl k (ho c) fullShare (St P sl (stg k) c)) $$ H
  iintro H
  iapply (store_sum P c sl k (ho c) hw) $$ H
  iexact Hk

/-- A load of a received block. -/
theorem ldR {α : Type} {Q : α → sProp 𝕄} (c : Dev nD) (sl : Fin 2) (k : Fin 9) (offr : Dev nD → Fin 2 → ℕ)
    {kk : ((Sn (bsz k)).Idx → Elt F .bf16) → Prog (TpuEff nD τ sig (Elt F) Λ₀ .tc) α}
    (hr : ∀ d, offr d = ![dr d sl k, 0] := by decide +kernel)
    {inr : ∀ a, offr c a + (Sn (bsz k)).size a ≤ (Sn (rsRows (stgF k))).size a} {hl} :
    gotR P c sl k ⊢ iprop((gotR P c sl k -∗ wp frame (wpE (defs₀ (F := F)) 𝒱₀ (c : Thread nD τ) none) Set.univ (kk (got P c sl k)) Q)
      -∗ wp frame (wpE (defs₀ (F := F)) 𝒱₀ (c : Thread nD τ) none) Set.univ
          (.op (.load (rsM sl (stgF k)) (Rect.unit (s := Sn (rsRows (stgF k))) (offr c) (Sn (bsz k)).size inr).toLoadRect hl) kk) Q) :=
  load_rs c sl k (hr c) (got P c sl k)

/-- A received block, once added, is only room again. -/
theorem keep (c : Dev nD) (sl : Fin 2) (k : Fin 9) (l : List Ent) : gotR P c sl k ⊢ iprop(zs c l -∗ zs c (.inr (sl, k) :: l)) := by
  unfold gotR owns
  iintro ⟨%f, -, H⟩ Hz
  rw [zs]
  isplitl [H]
  · unfold rAny; iexists f; iexact H
  · iexact Hz

/-- A load of this device's block. -/
theorem ld {α : Type} {Q : α → sProp 𝕄} (c : Dev nD) (sl : Fin 2) (k : Fin 9) (s : ℕ) (off : Dev nD → Fin 2 → ℕ)
    {kk : ((Sn (bsz k)).Idx → Elt F .bf16) → Prog (TpuEff nD τ sig (Elt F) Λ₀ .tc) α}
    (ho : ∀ d, off d = ![bst d sl k, 512 * sl.val] := by decide +kernel) (hst : stg k = s := by decide)
    {inb : ∀ a, off c a + (Sn (bsz k)).size a ≤ S1024x1024.size a} {hl} :
    bl P c c sl k s ⊢ iprop((bl P c c sl k s -∗ wp frame (wpE (defs₀ (F := F)) 𝒱₀ (c : Thread nD τ) none) Set.univ (kk (blk c sl k (St P sl s c))) Q)
      -∗ wp frame (wpE (defs₀ (F := F)) 𝒱₀ (c : Thread nD τ) none) Set.univ (.op (.load outM (Rect.unit (s := S1024x1024) (off c) (Sn (bsz k)).size inb).toLoadRect hl) kk) Q) := by
  subst hst
  exact load_out c c sl k (ho c) fullShare (St P sl (stg k) c)

end

end Cert.Moe

end
-- ==== Proof.Moe.Start.lean ====
/-
# The kernel before the exchange

The inputs are loaded, the two halves of a device's own contribution are stored, the neighbours are told that the receive
buffers are free, and the copies of the first step start.
-/
module

public import proofs.«01_k».proof.Proof.Moe.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The inputs of a device -/

/-- The contents of a device's four input windows. -/
structure In (F : FTy → Type) where
  x : S1024x512.Idx → Elt F .bf16
  r : S512x128.Idx → Elt F .bf16
  i : S1024x2.Idx → Elt F .i32
  w : S4x512x1024.Idx → Elt F .bf16

abbrev inX : Memref sig .tc .vmem S1024x512 .bf16 := Memref.whole cc0_stg0_0
abbrev inR : Memref sig .tc .vmem S512x128 .bf16 := Memref.whole cc0_stg1_0
abbrev inI : Memref sig .tc .vmem S1024x2 .i32 := Memref.whole cc0_stg2_0
abbrev inW : Memref sig .tc .vmem S4x512x1024 .bf16 := Memref.whole cc0_stg3_0

/-- Device `c` holds its input windows. -/
def ins (c : Dev nD) (I : In F) : sProp 𝕄 :=
  iprop(((inX.view.loc (c : Thread nD τ)) ↦{fullShare} I.x) ∗ ((inR.view.loc (c : Thread nD τ)) ↦{fullShare} I.r)
    ∗ ((inI.view.loc (c : Thread nD τ)) ↦{fullShare} I.i) ∗ ((inW.view.loc (c : Thread nD τ)) ↦{fullShare} I.w))

/-- What the kernel's loads of its inputs read. -/
def rdX (I : In F) : S1024x512.Idx → Elt F .bf16 :=
  inX.view.readAt (Elt F) (Rect.unit (s := S1024x512) ![0, 0] S1024x512.size inb_S1024x512_S1024x512_0_0).toLoadRect I.x
def rdR (I : In F) : S512x128.Idx → Elt F .bf16 :=
  inR.view.readAt (Elt F) (Rect.unit (s := S512x128) ![0, 0] S512x128.size inb_S512x128_S512x128_0_0).toLoadRect I.r
def rdI (I : In F) (off : Fin 2 → ℕ) (inb : ∀ a, off a + S1024x1.size a ≤ S1024x2.size a) : S1024x1.Idx → Elt F .i32 :=
  inI.view.readAt (Elt F) (Rect.unit (s := S1024x2) off S1024x1.size inb).toLoadRect I.i
def rdW (I : In F) (off : Fin 3 → ℕ) (inb : ∀ a, off a + S1x512x512.size a ≤ S4x512x1024.size a) : S1x512x512.Idx → Elt F .bf16 :=
  inW.view.readAt (Elt F) (Rect.unit (s := S4x512x1024) off S1x512x512.size inb).toLoadRect I.w

/-- The kernel's values, from the inputs `I` on the device of number `w`: the tokens, their scores, the two routes, -/
def vTok (I : In F) : FVec F S1024x512 .bf16 := k0_pay1 (rdX I)
def vScr (I : In F) : FVec F S1024x128 .f32 := k0_pay2 (rdX I) (rdR I)
def vI0 (I : In F) : Vec F S1024x1 .i32 := rdI I ![0, 0] inb_S1024x2_S1024x1_0_0
def vI1 (I : In F) : Vec F S1024x1 .i32 := rdI I ![0, 1] inb_S1024x2_S1024x1_0_1
/-- the tokens weighted for each of the device's four experts, -/
def vW0 (I : In F) (w : BitVec 32) : FVec F S1024x512 .bf16 := k0_pay7 w (vTok I) (vScr I) (vI0 I) (vI1 I)
def vW1 (I : In F) (w : BitVec 32) : FVec F S1024x512 .bf16 :=
  k0_pay10 (vTok I) (k0_pay4 (vI1 I)) (k0_pay5 (vScr I) (vI0 I) (vI1 I)) (k0_pay6 (vScr I) (vI0 I) (vI1 I)) (Scalar.addi (Scalar.muli w 4#32) 1#32) (k0_pay8 w (vI0 I)) (k0_pay9 (F := F))
def vW2 (I : In F) (w : BitVec 32) : FVec F S1024x512 .bf16 :=
  k0_pay11 w (vTok I) (k0_pay3 (vI0 I)) (k0_pay4 (vI1 I)) (k0_pay5 (vScr I) (vI0 I) (vI1 I)) (k0_pay6 (vScr I) (vI0 I) (vI1 I))
def vW3 (I : In F) (w : BitVec 32) : FVec F S1024x512 .bf16 :=
  k0_pay12 w (vTok I) (k0_pay3 (vI0 I)) (k0_pay4 (vI1 I)) (k0_pay5 (vScr I) (vI0 I) (vI1 I)) (k0_pay6 (vScr I) (vI0 I) (vI1 I))
/-- and the two halves of the columns of the device's contribution. -/
def contA (I : In F) (w : BitVec 32) : FVec F S1024x512 .bf16 :=
  k0_pay14 (vW1 I w) (vW2 I w) (vW3 I w) (k0_pay13 (vW0 I w) (rdW I ![0, 0, 0] inb_S4x512x1024_S1x512x512_0_0_0))
    (rdW I ![1, 0, 0] inb_S4x512x1024_S1x512x512_1_0_0) (rdW I ![2, 0, 0] inb_S4x512x1024_S1x512x512_2_0_0) (rdW I ![3, 0, 0] inb_S4x512x1024_S1x512x512_3_0_0)
def contB (I : In F) (w : BitVec 32) : FVec F S1024x512 .bf16 :=
  k0_pay15 (vW0 I w) (vW1 I w) (vW2 I w) (vW3 I w) (rdW I ![0, 0, 512] inb_S4x512x1024_S1x512x512_0_0_512)
    (rdW I ![1, 0, 512] inb_S4x512x1024_S1x512x512_1_0_512) (rdW I ![2, 0, 512] inb_S4x512x1024_S1x512x512_2_0_512) (rdW I ![3, 0, 512] inb_S4x512x1024_S1x512x512_3_0_512)

/-- An element's place in its half of the columns. -/
def halfIx (i : S1024x1024.Idx) : S1024x512.Idx := fun a => match a with
  | 0 => i 0 | 1 => ⟨(i 1).val % 512, Nat.mod_lt _ (by decide)⟩

/-- The device's number as the kernel computes it. -/
abbrev w2 (c : Dev nD) : BitVec 32 := Scalar.remsi (Scalar.divsi (Dev.word c) 1#32) 32#32

/-- Every device's contribution, from all the inputs. -/
def Pof (Is : Dev nD → In F) (c : Dev nD) : OutC F := fun i =>
  if (i 1).val < 512 then contA (Is c) (w2 c) (halfIx i) else contB (Is c) (w2 c) (halfIx i)

/-- The row of an element of a half of the columns. -/
theorem emb_row (sl : Fin 2) (x : S1024x512.Idx) : ((oSl 0 1024 sl (Nat.le_refl _)).view.emb x (0 : Fin 2)).val = (x 0).val := by
  show 0 + 1 * (x 0).val = _; omega
/-- The column of an element of a half of the columns. -/
theorem emb_col (sl : Fin 2) (x : S1024x512.Idx) : ((oSl 0 1024 sl (Nat.le_refl _)).view.emb x (1 : Fin 2)).val = 512 * sl.val + (x 1).val := by
  show 512 * sl.val + 1 * (x 1).val = _; omega
/-- An element's place in its half of the columns is where it came from. -/
theorem halfIx_emb (sl : Fin 2) (x : S1024x512.Idx) : halfIx ((oSl 0 1024 sl (Nat.le_refl _)).view.emb x) = x := by
  have h1 : (x 1).val < 512 := (x 1).isLt
  funext a
  match a with
  | 0 => exact Fin.ext (emb_row sl x)
  | 1 => exact Fin.ext (by show ((oSl 0 1024 sl (Nat.le_refl _)).view.emb x (1 : Fin 2)).val % 512 = _; rw [emb_col]; omega)
/-- What a device stores is its contribution. -/
theorem Pof_A (Is : Dev nD → In F) (c : Dev nD) (x) : contA (Is c) (w2 c) x = Pof Is c ((oSl 0 1024 0 (Nat.le_refl _)).view.emb x) := by
  have h1 : (x 1).val < 512 := (x 1).isLt
  have h2 : (0 : Fin 2).val = 0 := rfl
  unfold Pof; rw [if_pos (by rw [emb_col]; omega), halfIx_emb]
/-- The same for the second half. -/
theorem Pof_B (Is : Dev nD → In F) (c : Dev nD) (x) : contB (Is c) (w2 c) x = Pof Is c ((oSl 0 1024 1 (Nat.le_refl _)).view.emb x) := by
  have h2 : (1 : Fin 2).val = 1 := rfl
  unfold Pof; rw [if_neg (by rw [emb_col]; omega), halfIx_emb]

/-- The tokens are loaded. -/
theorem ld_x {α : Type} {Q : α → sProp 𝕄} (c : Dev nD) (I : In F) {hl} {kk : (S1024x512.Idx → Elt F .bf16) → Prog (TpuEff nD τ sig (Elt F) Λ₀ .tc) α} :
    ins c I ⊢ iprop((ins c I -∗ wp frame (wpE (defs₀ (F := F)) 𝒱₀ (c : Thread nD τ) none) Set.univ (kk (rdX I)) Q)
      -∗ wp frame (wpE (defs₀ (F := F)) 𝒱₀ (c : Thread nD τ) none) Set.univ
        (.op (.load inX (Rect.unit (s := S1024x512) ![0, 0] S1024x512.size inb_S1024x512_S1024x512_0_0).toLoadRect hl) kk) Q) := by
  unfold ins
  iintro ⟨H, H'⟩ Hk
  iapply (wp_load 𝒱₀ (c : Thread nD τ) none Set.univ (m := inX) (Finset.subset_univ _)) $$ H; iintro H
  iapply Hk; isplitl [H]; · iexact H
  iexact H'
/-- The router's weights are loaded. -/
theorem ld_r {α : Type} {Q : α → sProp 𝕄} (c : Dev nD) (I : In F) {hl} {kk : (S512x128.Idx → Elt F .bf16) → Prog (TpuEff nD τ sig (Elt F) Λ₀ .tc) α} :
    ins c I ⊢ iprop((ins c I -∗ wp frame (wpE (defs₀ (F := F)) 𝒱₀ (c : Thread nD τ) none) Set.univ (kk (rdR I)) Q)
      -∗ wp frame (wpE (defs₀ (F := F)) 𝒱₀ (c : Thread nD τ) none) Set.univ
        (.op (.load inR (Rect.unit (s := S512x128) ![0, 0] S512x128.size inb_S512x128_S512x128_0_0).toLoadRect hl) kk) Q) := by
  unfold ins
  iintro ⟨H0, H, H'⟩ Hk
  iapply (wp_load 𝒱₀ (c : Thread nD τ) none Set.univ (m := inR) (Finset.subset_univ _)) $$ H; iintro H
  iapply Hk; isplitl [H0]; · iexact H0
  isplitl [H]; · iexact H
  iexact H'
/-- A column of the routes is loaded. -/
theorem ld_i {α : Type} {Q : α → sProp 𝕄} (c : Dev nD) (I : In F) {off : Fin 2 → ℕ} {inb : ∀ a, off a + S1024x1.size a ≤ S1024x2.size a} {hl} {kk : (S1024x1.Idx → Elt F .i32) → Prog (TpuEff nD τ sig (Elt F) Λ₀ .tc) α} :
    ins c I ⊢ iprop((ins c I -∗ wp frame (wpE (defs₀ (F := F)) 𝒱₀ (c : Thread nD τ) none) Set.univ (kk (rdI I off inb)) Q)
      -∗ wp frame (wpE (defs₀ (F := F)) 𝒱₀ (c : Thread nD τ) none) Set.univ
        (.op (.load inI (Rect.unit (s := S1024x2) off S1024x1.size inb).toLoadRect hl) kk) Q) := by
  unfold ins
  iintro ⟨H0, H1, H, H'⟩ Hk
  iapply (wp_load 𝒱₀ (c : Thread nD τ) none Set.univ (m := inI) (Finset.subset_univ _)) $$ H; iintro H
  iapply Hk; isplitl [H0]; · iexact H0
  isplitl [H1]; · iexact H1
  isplitl [H]; · iexact H
  iexact H'
/-- Half of the columns of an expert's weights is loaded. -/
theorem ld_w {α : Type} {Q : α → sProp 𝕄} (c : Dev nD) (I : In F) {off : Fin 3 → ℕ} {inb : ∀ a, off a + S1x512x512.size a ≤ S4x512x1024.size a} {hl} {kk : (S1x512x512.Idx → Elt F .bf16) → Prog (TpuEff nD τ sig (Elt F) Λ₀ .tc) α} :
    ins c I ⊢ iprop((ins c I -∗ wp frame (wpE (defs₀ (F := F)) 𝒱₀ (c : Thread nD τ) none) Set.univ (kk (rdW I off inb)) Q)
      -∗ wp frame (wpE (defs₀ (F := F)) 𝒱₀ (c : Thread nD τ) none) Set.univ
        (.op (.load inW (Rect.unit (s := S4x512x1024) off S1x512x512.size inb).toLoadRect hl) kk) Q) := by
  unfold ins
  iintro ⟨H0, H1, H2, H⟩ Hk
  iapply (wp_load 𝒱₀ (c : Thread nD τ) none Set.univ (m := inW) (Finset.subset_univ _)) $$ H; iintro H
  iapply Hk; isplitl [H0]; · iexact H0
  isplitl [H1]; · iexact H1
  isplitl [H2]; · iexact H2
  iexact H

/-! ## A half of the columns is stored -/

/-- A half of the columns is overwritten: what was there is loaded and left unused, and the new contents are stored. -/
theorem store_half {α : Type} {Q : α → sProp 𝕄} (c : Dev nD) (sl : Fin 2) {off : Fin 2 → ℕ} (ho : off = ![0, 512 * sl.val])
    {inb : ∀ a, off a + S1024x512.size a ≤ S1024x1024.size a} {w : S1024x512.Idx → Elt F .bf16} (f g : OutC F)
    (hw : ∀ x, w x = g ((oSl 0 1024 sl (Nat.le_refl _)).view.emb x)) {hl}
    {hx : (outM.access (Rect.unit (s := S1024x1024) off S1024x512.size inb)).Stores Finset.univ} {hm}
    {kk : PUnit → Prog (TpuEff nD τ sig (Elt F) Λ₀ .tc) α} :
    oPt c (R 0 1024 sl) fullShare f
        ⊢ iprop((oPt c (R 0 1024 sl) fullShare g -∗ wp frame (wpE (defs₀ (F := F)) 𝒱₀ (c : Thread nD τ) none) Set.univ (kk ⟨⟩) Q)
      -∗ wp frame (wpE (defs₀ (F := F)) 𝒱₀ (c : Thread nD τ) none) Set.univ
          (.op (.load outM (Rect.unit (s := S1024x1024) off S1024x512.size inb).toLoadRect hl) fun _ =>
           .op (.store outM (Rect.unit (s := S1024x1024) off S1024x512.size inb) w Finset.univ hx hm) kk) Q) := by
  subst ho
  have e0 : ∀ h : OutC F, (oPt c (R 0 1024 sl) fullShare h : sProp 𝕄) = ((oSl 0 1024 sl (Nat.le_refl _)).view.loc (c : Thread nD τ) ↦[(oSl 0 1024 sl (Nat.le_refl _)).view.set]{fullShare} h) := by
    intro h; rw [oSl_set]; rfl
  rw [e0, e0]
  iintro H Hk
  have e : ((oSl 0 1024 sl (Nat.le_refl _)).view.loc (c : Thread nD τ) ↦[(oSl 0 1024 sl (Nat.le_refl _)).view.set]{fullShare} ((oSl 0 1024 sl (Nat.le_refl _)).view.write (Elt F) f w Finset.univ) : sProp 𝕄)
      = ((oSl 0 1024 sl (Nat.le_refl _)).view.loc (c : Thread nD τ) ↦[(oSl 0 1024 sl (Nat.le_refl _)).view.set]{fullShare} g) := by
    refine pointsTo_congr ?_
    intro i hi
    obtain ⟨x, -, rfl⟩ := Finset.mem_map.mp hi
    refine (View.write_emb_of_mem (v := (oSl 0 1024 sl (Nat.le_refl _)).view) f w (Finset.mem_univ x)).trans ?_
    exact hw x
  have hl' : ((oSl 0 1024 sl (Nat.le_refl _)).view.loc (c : Thread nD τ) ↦[(oSl 0 1024 sl (Nat.le_refl _)).view.set]{fullShare} f : sProp 𝕄)
      ⊢ iprop((((oSl 0 1024 sl (Nat.le_refl _)).view.loc (c : Thread nD τ) ↦[(oSl 0 1024 sl (Nat.le_refl _)).view.set]{fullShare} f) -∗ wp frame (wpE (defs₀ (F := F)) 𝒱₀ (c : Thread nD τ) none) Set.univ _ Q) -∗ wp frame (wpE (defs₀ (F := F)) 𝒱₀ (c : Thread nD τ) none) Set.univ _ Q) :=
    wp_load_rect 𝒱₀ (c : Thread nD τ) none Set.univ (m := outM) (r := Rect.unit (s := S1024x1024) ![0, 512 * sl.val] S1024x512.size inb)
      (hl := hl) (k := fun _ => .op (.store outM (Rect.unit (s := S1024x1024) ![0, 512 * sl.val] S1024x512.size inb) w Finset.univ hx hm) kk) (f := f) (q := fullShare) (S := (oSl 0 1024 sl (Nat.le_refl _)).view.set) subset_rfl
  have h : ((oSl 0 1024 sl (Nat.le_refl _)).view.loc (c : Thread nD τ) ↦[(oSl 0 1024 sl (Nat.le_refl _)).view.set]{fullShare} f : sProp 𝕄)
      ⊢ iprop((((oSl 0 1024 sl (Nat.le_refl _)).view.loc (c : Thread nD τ) ↦[(oSl 0 1024 sl (Nat.le_refl _)).view.set]{fullShare} ((oSl 0 1024 sl (Nat.le_refl _)).view.write (Elt F) f w Finset.univ)) -∗ wp frame (wpE (defs₀ (F := F)) 𝒱₀ (c : Thread nD τ) none) Set.univ (kk ⟨⟩) Q) -∗ wp frame (wpE (defs₀ (F := F)) 𝒱₀ (c : Thread nD τ) none) Set.univ _ Q) :=
    wp_store 𝒱₀ (c : Thread nD τ) none Set.univ (m := outM) (r := Rect.unit (s := S1024x1024) ![0, 512 * sl.val] S1024x512.size inb)
      (Mk := Finset.univ) (w := w) (hx := hx) (hm := hm) (k := kk) (f := f) (S := (oSl 0 1024 sl (Nat.le_refl _)).view.set) subset_rfl
  rw [e] at h
  iapply hl' $$ H
  iintro H
  iapply h $$ H
  iintro H
  iapply Hk
  iexact H

/-! ## The rooms for the copies -/

omit [FloatOps F] in
/-- Two ranges of rows of a receive buffer that do not meet. -/
theorem room_two (c : Dev nD) (sl : Fin 2) (s : Fin 5) (a n b m : ℕ) (ha : a + n ≤ rsRows s) (hb : b + m ≤ rsRows s) (hd : a + n ≤ b ∨ b + m ≤ a) :
    (rWhole c sl s : sProp 𝕄)
      ⊢ iprop((∃ f, ((rsM sl s).slice (Rect.unit (s := Sn (rsRows s)) ![a, 0] (Sn n).size (r_inb ha)) (fun _ => rfl)).view.loc (c : Thread nD τ)
            ↦[((rsM sl s).slice (Rect.unit (s := Sn (rsRows s)) ![a, 0] (Sn n).size (r_inb ha)) (fun _ => rfl)).view.set]{fullShare} f)
        ∗ (∃ f, ((rsM sl s).slice (Rect.unit (s := Sn (rsRows s)) ![b, 0] (Sn m).size (r_inb hb)) (fun _ => rfl)).view.loc (c : Thread nD τ)
            ↦[((rsM sl s).slice (Rect.unit (s := Sn (rsRows s)) ![b, 0] (Sn m).size (r_inb hb)) (fun _ => rfl)).view.set]{fullShare} f)) := by
  unfold rWhole
  have h1 : ((rsM sl s).view.slice (Rect.unit (s := Sn (rsRows s)) ![a, 0] (Sn n).size (r_inb ha))).set ⊆ (rsM sl s).view.set := View.set_slice_subset _ _
  have hdj : Disjoint ((rsM sl s).view.slice (Rect.unit (s := Sn (rsRows s)) ![a, 0] (Sn n).size (r_inb ha))).set
      ((rsM sl s).view.slice (Rect.unit (s := Sn (rsRows s)) ![b, 0] (Sn m).size (r_inb hb))).set :=
    View.disjoint_slice_of_sep _ _ _ (0 : Fin 2) rfl rfl hd
  have h2 : ((rsM sl s).view.slice (Rect.unit (s := Sn (rsRows s)) ![b, 0] (Sn m).size (r_inb hb))).set
      ⊆ (rsM sl s).view.set \ ((rsM sl s).view.slice (Rect.unit (s := Sn (rsRows s)) ![a, 0] (Sn n).size (r_inb ha))).set :=
    Finset.subset_sdiff.mpr ⟨View.set_slice_subset _ _, hdj.symm⟩
  iintro ⟨%f, H⟩
  icases ((pointsTo_split_subset (f := f) (q := fullShare) h1).1) $$ H with ⟨H1, H⟩
  icases ((pointsTo_split_subset (f := f) (q := fullShare) h2).1) $$ H with ⟨H2, -⟩
  isplitl [H1]
  · iexists f; iexact H1
  · iexists f; iexact H2

/-- The two copies of a step do not meet in its receive buffer. -/
theorem dr_sep (c : Dev nD) (sl : Fin 2) (s : Fin 4) :
    dr c sl ⟨s.val, by omega⟩ + bsz ⟨s.val, by omega⟩ ≤ dr c sl ⟨s.val + 5, by omega⟩
      ∨ dr c sl ⟨s.val + 5, by omega⟩ + bsz ⟨s.val + 5, by omega⟩ ≤ dr c sl ⟨s.val, by omega⟩ := by revert c sl s; decide +kernel

omit [FloatOps F] in
/-- The receive buffer of a step has the rooms of the step's two copies. -/
theorem room0 (c : Dev nD) (sl : Fin 2) : (rWhole c sl 0 : sProp 𝕄) ⊢ iprop(rAny c sl 0 ∗ rAny c sl 5) :=
  room_two c sl 0 _ _ _ _ (dr_inb c sl 0) (dr_inb c sl 5) (dr_sep c sl 0)
omit [FloatOps F] in
/-- The same for step 1. -/
theorem room1 (c : Dev nD) (sl : Fin 2) : (rWhole c sl 1 : sProp 𝕄) ⊢ iprop(rAny c sl 1 ∗ rAny c sl 6) :=
  room_two c sl 1 _ _ _ _ (dr_inb c sl 1) (dr_inb c sl 6) (dr_sep c sl 1)
omit [FloatOps F] in
/-- The same for step 2. -/
theorem room2 (c : Dev nD) (sl : Fin 2) : (rWhole c sl 2 : sProp 𝕄) ⊢ iprop(rAny c sl 2 ∗ rAny c sl 7) :=
  room_two c sl 2 _ _ _ _ (dr_inb c sl 2) (dr_inb c sl 7) (dr_sep c sl 2)
omit [FloatOps F] in
/-- The same for step 3. -/
theorem room3 (c : Dev nD) (sl : Fin 2) : (rWhole c sl 3 : sProp 𝕄) ⊢ iprop(rAny c sl 3 ∗ rAny c sl 8) :=
  room_two c sl 3 _ _ _ _ (dr_inb c sl 3) (dr_inb c sl 8) (dr_sep c sl 3)
omit [FloatOps F] in
/-- The same for step 4, which has one copy. -/
theorem room4 (c : Dev nD) (sl : Fin 2) : (rWhole c sl 4 : sProp 𝕄) ⊢ rAny c sl 4 := by
  unfold rWhole rAny
  iintro ⟨%f, H⟩
  have h1 : (rSl c sl 4).view.set ⊆ (rsM sl 4).view.set := View.set_slice_subset _ _
  icases ((pointsTo_split_subset (f := f) (q := fullShare) h1).1) $$ H with ⟨H1, -⟩
  iexists f; iexact H1

/-- The rooms of all the copies device `c` sends in one half of the columns. -/
def rooms (c : Dev nD) (sl : Fin 2) : sProp 𝕄 :=
  iprop(rAny (peer c sl 0) sl 0 ∗ rAny (peer c sl 0) sl 5 ∗ rAny (peer c sl 1) sl 1 ∗ rAny (peer c sl 1) sl 6
    ∗ rAny (peer c sl 2) sl 2 ∗ rAny (peer c sl 2) sl 7 ∗ rAny (peer c sl 3) sl 3 ∗ rAny (peer c sl 3) sl 8 ∗ rAny (peer c sl 4) sl 4)

omit [FloatOps F] in
/-- The peers' receive buffers have the rooms of all the copies. -/
theorem rooms_of (c : Dev nD) (sl : Fin 2) :
    iprop(rWhole (peer c sl 0) sl 0 ∗ rWhole (peer c sl 1) sl 1 ∗ rWhole (peer c sl 2) sl 2 ∗ rWhole (peer c sl 3) sl 3 ∗ rWhole (peer c sl 4) sl 4)
      ⊢ (rooms c sl : sProp 𝕄) := by
  unfold rooms
  iintro ⟨H0, H1, H2, H3, H4⟩
  icases (room0 (F := F) (peer c sl 0) sl) $$ H0 with ⟨A0, B0⟩
  icases (room1 (F := F) (peer c sl 1) sl) $$ H1 with ⟨A1, B1⟩
  icases (room2 (F := F) (peer c sl 2) sl) $$ H2 with ⟨A2, B2⟩
  icases (room3 (F := F) (peer c sl 3) sl) $$ H3 with ⟨A3, B3⟩
  ihave A4 := (room4 (F := F) (peer c sl 4) sl) $$ H4
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  iexact A4

omit [FloatOps F] in
/-- What the five neighbours' signals hand over: the rooms for this device's copies. -/
theorem bar_rooms (c : Dev nD) : (iprop(barPay c 0 ∗ barPay c 1 ∗ barPay c 2 ∗ barPay c 3 ∗ barPay c 4) : sProp 𝕄) ⊢ iprop(rooms c 0 ∗ rooms c 1) := by
  have h : ∀ d : Fin 5, (barPay c d : sProp 𝕄) = iprop(rWhole (peer c 0 (bstep 0 d).val) 0 (bstep 0 d) ∗ rWhole (peer c 1 (bstep 1 d).val) 1 (bstep 1 d)) := by
    intro d; unfold barPay peer; rw [msk_bstep, msk_bstep]
  iintro ⟨H0, H1, H2, H3, H4⟩
  icases (Entails.of_eq (h 0)) $$ H0 with ⟨A1, B2⟩
  icases (Entails.of_eq (h 1)) $$ H1 with ⟨A0, B1⟩
  icases (Entails.of_eq (h 2)) $$ H2 with ⟨A3, B4⟩
  icases (Entails.of_eq (h 3)) $$ H3 with ⟨A2, B0⟩
  icases (Entails.of_eq (h 4)) $$ H4 with ⟨A4, B3⟩
  isplitl [A0 A1 A2 A3 A4]
  · iapply (rooms_of (F := F) c 0)
    isplitl [A0]; · iexact A0
    isplitl [A1]; · iexact A1
    isplitl [A2]; · iexact A2
    isplitl [A3]; · iexact A3
    iexact A4
  · iapply (rooms_of (F := F) c 1)
    isplitl [B0]; · iexact B0
    isplitl [B1]; · iexact B1
    isplitl [B2]; · iexact B2
    isplitl [B3]; · iexact B3
    iexact B4

/-! ## The ranges of the kernel before the exchange -/

/-- The tokens of the signals. -/
def sigToks (c : Dev nD) : sProp 𝕄 :=
  iprop(dutyTok ER (barCell (xr c (bmsk 0))) 0 0 ∗ dutyTok ER (barCell (xr c (bmsk 1))) 0 1 ∗ dutyTok ER (barCell (xr c (bmsk 2))) 0 2
    ∗ dutyTok ER (barCell (xr c (bmsk 3))) 0 3 ∗ dutyTok ER (barCell (xr c (bmsk 4))) 0 4)
/-- A device's own receive buffers. -/
def bufs (c : Dev nD) (sl : Fin 2) : sProp 𝕄 := iprop(rWhole c sl 0 ∗ rWhole c sl 1 ∗ rWhole c sl 2 ∗ rWhole c sl 3 ∗ rWhole c sl 4)

section
variable (P : Dev nD → OutC F) (Kn : Dev nD × Fin 77 → ℕ)

/-- A neighbour is told that the receive buffers of the steps shared with it are free. -/
theorem sgn {α : Type} {Q : α → sProp 𝕄} {kk : PUnit → Prog (TpuEff nD τ sig (Elt F) Λ₀ .tc) α} (c n : Dev nD) (d : Fin 5) (i : ℕ) (s0 s1 : Fin 5)
    (hn : n = xr c (bmsk d)) (hi : d.val = i := by decide) (h0 : bstep 0 d = s0 := by decide) (h1 : bstep 1 d = s1 := by decide) {b : Sem sig} (hb : b = barS := by rfl) {w : ℕ} (hw : w = 1 := by rfl) :
    records P Kn ⊢ iprop(due c i -∗ dutyTok ER (barCell (xr c (bmsk d))) 0 d -∗ rWhole c 0 s0 -∗ rWhole c 1 s1
        -∗ (due c (i + 1) -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (Dev.tc n : Thread nD τ) b w) kk) Q) := by
  subst hi h0 h1
  exact signal P Kn c n d hn hb hw

/-- Before the first step a block holds the device's own contribution. -/
theorem bl_zero (c p : Dev nD) (sl : Fin 2) (k : Fin 9) : oPt c (B p sl k) fullShare (P c) ⊢ bl P c p sl k 0 := BI.Entails.refl _

/-- The five neighbours are told that the receive buffers are free; the tokens, the router and the first routes are loaded. -/
theorem part1 (c : Dev nD) (I : In F) (Q) :
    records P Kn ⊢ iprop(due c 0 -∗ sigToks (F := F) c -∗ bufs (F := F) c 0 -∗ bufs (F := F) c 1 -∗ ins c I
      -∗ ((due c 5 ∗ ins c I) -∗ Q ⟨c, w2 c, SemArray.scalar (sig.barrier 0 rfl), k0_pay1 (rdX I), k0_pay2 (rdX I) (rdR I), rdI I ![0, 0] inb_S1024x2_S1024x1_0_0⟩)
      -∗ run c (ap (k0_part1 (F := F))) Q) := by
  unfold ap run; rw [k0_part1_eq_skeleton]; unfold k0_part1_skel
  simp only [semSignalWord, Prog.lift, Prog.bind_op, Prog.bind_ret, Prog.pure_eq_ret, wp_deviceId]
  unfold sigToks bufs
  iintro #Hrec HO ⟨T0, T1, T2, T3, T4⟩ ⟨A0, A1, A2, A3, A4⟩ ⟨B0, B1, B2, B3, B4⟩ HI Hk
  iapply (sgn P Kn c (⟨k0_dev1 c, k0_dev1_lt c⟩ : Dev nD) 0 0 1 2 (dev_eq _ (by revert c; decide +kernel))) $$ Hrec HO T0 A1 B2; iintro HO
  iapply (sgn P Kn c (⟨k0_dev2 c, k0_dev2_lt c⟩ : Dev nD) 1 1 0 1 (dev_eq _ (by revert c; decide +kernel))) $$ Hrec HO T1 A0 B1; iintro HO
  iapply (sgn P Kn c (⟨k0_dev3 c, k0_dev3_lt c⟩ : Dev nD) 2 2 3 4 (dev_eq _ (by revert c; decide +kernel))) $$ Hrec HO T2 A3 B4; iintro HO
  iapply (sgn P Kn c (⟨k0_dev4 c, k0_dev4_lt c⟩ : Dev nD) 3 3 2 0 (dev_eq _ (by revert c; decide +kernel))) $$ Hrec HO T3 A2 B0; iintro HO
  iapply (sgn P Kn c (⟨k0_dev5 c, k0_dev5_lt c⟩ : Dev nD) 4 4 4 3 (dev_eq _ (by revert c; decide +kernel))) $$ Hrec HO T4 A4 B3; iintro HO
  iapply (ld_x c I) $$ HI; iintro HI
  iapply (ld_r c I) $$ HI; iintro HI
  iapply (ld_i c I) $$ HI; iintro HI
  iapply ret; iapply Hk
  isplitl [HO]; · iexact HO
  iexact HI

/-- The second routes are loaded. -/
theorem part2 (c : Dev nD) (I : In F) (v2 : BitVec 32) (v20 : FVec F S1024x512 .bf16) (v23 : FVec F S1024x128 .f32) (v24 : Vec F S1024x1 .i32) (Q) :
    ins c I ⊢ iprop((ins c I -∗ Q ⟨k0_pay3 v24, k0_pay4 (rdI I ![0, 1] inb_S1024x2_S1024x1_0_1), k0_pay5 v23 v24 (rdI I ![0, 1] inb_S1024x2_S1024x1_0_1), k0_pay6 v23 v24 (rdI I ![0, 1] inb_S1024x2_S1024x1_0_1),
          k0_pay7 v2 v20 v23 v24 (rdI I ![0, 1] inb_S1024x2_S1024x1_0_1), Scalar.addi (Scalar.muli v2 4#32) 1#32, k0_pay8 v2 v24, k0_pay9 (F := F)⟩)
      -∗ run c (ap (k0_part2 (F := F)) v2 v20 v23 v24) Q) := by
  unfold ap run; rw [k0_part2_eq_skeleton]; unfold k0_part2_skel
  simp only [Prog.lift, Prog.bind_op, Prog.bind_ret, Prog.pure_eq_ret]
  iintro HI Hk
  iapply (ld_i c I) $$ HI; iintro HI
  iapply ret; iapply Hk
  iexact HI

/-- The first expert's weights for the first half of the columns are loaded. -/
theorem part3 (c : Dev nD) (I : In F) (v2 v20 v25 v27 v46 v48 v63 v65 v67 v68) (Q) :
    ins c I ⊢ iprop((ins c I -∗ Q ⟨k0_pay10 v20 v27 v46 v48 v65 v67 v68, k0_pay11 v2 v20 v25 v27 v46 v48, k0_pay12 v2 v20 v25 v27 v46 v48, k0_pay13 v63 (rdW I ![0, 0, 0] inb_S4x512x1024_S1x512x512_0_0_0)⟩)
      -∗ run c (ap (k0_part3 (F := F)) v2 v20 v25 v27 v46 v48 v63 v65 v67 v68) Q) := by
  unfold ap run; rw [k0_part3_eq_skeleton]; unfold k0_part3_skel
  simp only [Prog.lift, Prog.bind_op, Prog.bind_ret, Prog.pure_eq_ret]
  iintro HI Hk
  iapply (ld_w c I) $$ HI; iintro HI
  iapply ret; iapply Hk
  iexact HI

/-- The first half of the columns is stored, and the five neighbours' signals are awaited. -/
theorem part4 (c : Dev nD) (I : In F) (v2 : BitVec 32) (v78 v93 v108 v113) (f : OutC F)
    (hw : ∀ x, k0_pay14 v78 v93 v108 v113 (rdW I ![1, 0, 0] inb_S4x512x1024_S1x512x512_1_0_0) (rdW I ![2, 0, 0] inb_S4x512x1024_S1x512x512_2_0_0) (rdW I ![3, 0, 0] inb_S4x512x1024_S1x512x512_3_0_0) x
      = P c ((oSl 0 1024 0 (Nat.le_refl _)).view.emb x)) (Q) :
    records P Kn ⊢ iprop(due c 5 -∗ cred (tallyAt (barCell c) () 5) -∗ atPos ER (barCell c) 0 ∅ 0 -∗ ins c I -∗ oPt c (R 0 1024 0) fullShare f
      -∗ (∀ r, (due c 5 ∗ semVal (barCell c) 0 ∗ rooms (F := F) c 0 ∗ rooms (F := F) c 1 ∗ ins c I
        ∗ bl P c (peer c 0 0) 0 0 0 ∗ bl P c (peer c 0 0) 0 5 0 ∗ bl P c c 0 0 0 ∗ bl P c c 0 5 0) -∗ Q r)
      -∗ run c (ap (k0_part4 (F := F)) v2 (SemArray.scalar (sig.barrier 0 rfl)) v78 v93 v108 v113) Q) := by
  unfold ap run; rw [k0_part4_eq_skeleton]; unfold k0_part4_skel
  simp only [semWaitWord, Prog.lift, Prog.bind_op, Prog.bind_ret, Prog.pure_eq_ret]
  iintro #Hrec HO Hc Ha HI HB Hk
  iapply (ld_w c I) $$ HI; iintro HI
  iapply (ld_w c I) $$ HI; iintro HI
  iapply (ld_w c I) $$ HI; iintro HI
  iapply (store_half c 0 rfl f (P c) hw) $$ HB; iintro HB
  iapply (wait_bar P Kn c rfl rfl) $$ Hrec HO Hc Ha; iintro ⟨HO, Hz, Hp⟩
  icases (bar_rooms (F := F) c) $$ Hp with ⟨R0, R1⟩
  icases ((first_split c 0 fullShare (P c)).1) $$ HB with ⟨⟨B0, B1⟩, B2, B3⟩
  iapply ret; iapply Hk $$ %_
  isplitl [HO]; · iexact HO
  isplitl [Hz]; · iexact Hz
  isplitl [R0]; · iexact R0
  isplitl [R1]; · iexact R1
  isplitl [HI]; · iexact HI
  isplitl [B0]; · iexact B0
  isplitl [B1]; · iexact B1
  isplitl [B2]; · iexact B2
  iexact B3

/-- The two copies of the first step start in the first half of the columns; the weights for the second half are loaded. -/
theorem part5 (c : Dev nD) (I : In F) (v63 v78 v93 v108) (v128 v131 v136 : BitVec 32) (Q) :
    records P Kn ⊢ iprop(out c 0 -∗ bl P c (peer c 0 0) 0 0 0 -∗ bl P c (peer c 0 0) 0 5 0 -∗ rAny (F := F) (peer c 0 0) 0 0 -∗ rAny (F := F) (peer c 0 0) 0 5 -∗ ins c I
      -∗ ((out c 2 ∗ flight c true 0 0 ∗ flight c true 0 5 ∗ ins c I) -∗ Q (k0_pay15 v63 v78 v93 v108 (rdW I ![0, 0, 512] inb_S4x512x1024_S1x512x512_0_0_512) (rdW I ![1, 0, 512] inb_S4x512x1024_S1x512x512_1_0_512)
          (rdW I ![2, 0, 512] inb_S4x512x1024_S1x512x512_2_0_512) (rdW I ![3, 0, 512] inb_S4x512x1024_S1x512x512_3_0_512)))
      -∗ run c (ap (k0_part5 (F := F)) c v63 v78 v93 v108 v128 v131 v136) Q) := by
  unfold ap run; rw [k0_part5_eq_skeleton]; unfold k0_part5_skel
  simp only [Prog.lift, Prog.bind_op, Prog.bind_ret, Prog.pure_eq_ret]
  iintro #Hrec HO HA HB HX HY HI Hk
  iapply (snd P Kn c 0 0 0 0 k0_dev6 k0_off2 (fun d => k0_off1 d 3#32 1#32)) $$ Hrec HO HA HX; iintro ⟨HO, HA⟩
  iapply (snd P Kn c 1 0 5 0 k0_dev7 k0_off4 (fun d => k0_off3 d 3#32 1#32)) $$ Hrec HO HB HY; iintro ⟨HO, HB⟩
  iapply (ld_w c I) $$ HI; iintro HI
  iapply (ld_w c I) $$ HI; iintro HI
  iapply (ld_w c I) $$ HI; iintro HI
  iapply (ld_w c I) $$ HI; iintro HI
  iapply ret; iapply Hk
  isplitl [HO]; · iexact HO
  isplitl [HA]; · iexact HA
  isplitl [HB]; · iexact HB
  iexact HI

/-- The second half of the columns is stored, and its two copies of the first step start. -/
theorem part6 (c : Dev nD) (v2 : BitVec 32) (v173 : FVec F S1024x512 .bf16) (f : OutC F)
    (hw : ∀ x, v173 x = P c ((oSl 0 1024 1 (Nat.le_refl _)).view.emb x)) (Q) :
    records P Kn ⊢ iprop(out c 2 -∗ rAny (F := F) (peer c 1 0) 1 0 -∗ rAny (F := F) (peer c 1 0) 1 5 -∗ oPt c (R 0 1024 1) fullShare f
      -∗ (∀ r, (out c 4 ∗ flight c true 1 0 ∗ flight c true 1 5 ∗ bl P c c 1 0 0 ∗ bl P c c 1 5 0) -∗ Q r)
      -∗ run c (ap (k0_part6 (F := F)) c v2 v173) Q) := by
  unfold ap run; rw [k0_part6_eq_skeleton]; unfold k0_part6_skel
  simp only [Prog.lift, Prog.bind_op, Prog.bind_ret, Prog.pure_eq_ret]
  iintro #Hrec HO HX HY HB Hk
  iapply (store_half c 1 rfl f (P c) hw) $$ HB; iintro HB
  icases ((first_split c 1 fullShare (P c)).1) $$ HB with ⟨⟨B0, B1⟩, B2, B3⟩
  ihave B0 := (bl_zero P c (peer c 1 0) 1 0) $$ B0
  ihave B1 := (bl_zero P c (peer c 1 0) 1 5) $$ B1
  iapply (snd P Kn c 2 1 0 0 k0_dev8 k0_off5 (fun d => k0_off1 d 8#32 3#32)) $$ Hrec HO B0 HX; iintro ⟨HO, HA⟩
  iapply (snd P Kn c 3 1 5 0 k0_dev9 k0_off6 (fun d => k0_off3 d 8#32 3#32)) $$ Hrec HO B1 HY; iintro ⟨HO, HB⟩
  iapply ret; iapply Hk $$ %_
  isplitl [HO]; · iexact HO
  isplitl [HA]; · iexact HA
  isplitl [HB]; · iexact HB
  isplitl [B2]; · iexact B2
  iexact B3

end

end Cert.Moe

end
-- ==== Proof.Moe.Rs.lean ====
/-
# The first half of the exchange, range by range

What each range of the kernel's statements needs, and what it leaves.
-/
module

public import proofs.«01_k».proof.Proof.Moe.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (P : Dev nD → OutC F) (Kn : Dev nD × Fin 77 → ℕ)

/-- Range 7: copy 0 of the first half of the columns arrives, then its rows are added. -/
theorem part7 (c : Dev nD) (v2 v128 v133 : BitVec 32) (Q) (l : List Ent) :
    records P Kn ⊢ iprop(out c 4 -∗ flight c true 0 0 -∗ bl P c c 0 0 0 -∗ zs c l
      -∗ (∀ r, (out c 4 ∗ bl P c (peer c 0 1) 0 1 1 ∗ bl P c (peer c 0 1) 0 6 1 ∗ dstO (F := F) c 0 0 ∗ zs c (.inr (0, 0) :: sR true 0 0 :: sS true 0 0 :: l)) -∗ Q r)
      -∗ run c (ap (k0_part7 (F := F)) c v2 v128 v133) Q) := by
  unfold ap run; rw [k0_part7_eq_skeleton]; unfold k0_part7_skel
  simp only [Prog.lift, Prog.bind_op, Prog.bind_ret, Prog.pure_eq_ret]
  iintro #Hrec HO HF H Hz Hk
  iapply (wt P Kn c 4 0 0) $$ Hrec HO HF Hz; iintro ⟨HO, HR, HD, Hz⟩
  iapply (add P c 0 0 0 1 (fun d => k0_off7 d 256#32 0#32) (fun d => k0_off8 d 3#32 1#32 256#32 0#32) fun _ _ => pay_sum _ _ _) $$ H HR; iintro ⟨H, HR⟩
  ihave Hz := (keep P c 0 0 _) $$ HR Hz
  icases ((hot_split c 0 0 1 6 1 _ _).1) $$ H with ⟨HA, HB⟩
  iapply ret; iapply Hk $$ %_
  isplitl [HO]; · iexact HO
  isplitl [HA]; · iexact HA
  isplitl [HB]; · iexact HB
  isplitl [HD]; · iexact HD
  iexact Hz

/-- Range 8: copy 1 of the first half of the columns starts, then copy 6 of the first half of the columns starts, then copy 5 of the first half of the columns arrives. -/
theorem part8 (c : Dev nD) (v128 v218 v228 v231 v236 : BitVec 32) (Q) (l : List Ent) :
    records P Kn ⊢ iprop(out c 4 -∗ bl P c (peer c 0 1) 0 1 1 -∗ bl P c (peer c 0 1) 0 6 1 -∗ rAny (F := F) (peer c 0 1) 0 1 -∗ rAny (F := F) (peer c 0 1) 0 6 -∗ flight c true 0 5 -∗ bl P c c 0 5 0 -∗ zs c l
      -∗ ((out c 6 ∗ flight c true 0 1 ∗ flight c true 0 6 ∗ gotR P c 0 5 ∗ dstO (F := F) c 0 5 ∗ bl P c c 0 5 0 ∗ zs c (sR true 0 5 :: sS true 0 5 :: l)) -∗ Q (blk c 0 5 (St P 0 0 c)))
      -∗ run c (ap (k0_part8 (F := F)) c v128 v218 v228 v231 v236) Q) := by
  unfold ap run; rw [k0_part8_eq_skeleton]; unfold k0_part8_skel
  simp only [Prog.lift, Prog.bind_op, Prog.bind_ret, Prog.pure_eq_ret]
  iintro #Hrec HO HA HB HX HY HF H Hz Hk
  iapply (snd P Kn c 4 0 1 1 k0_dev10 k0_off10 (fun d => k0_off9 d 1#32 8#32)) $$ Hrec HO HA HX; iintro ⟨HO, HA⟩
  iapply (snd P Kn c 5 0 6 1 k0_dev11 k0_off12 (fun d => k0_off11 d 1#32 8#32)) $$ Hrec HO HB HY; iintro ⟨HO, HB⟩
  iapply (wt P Kn c 6 0 5) $$ Hrec HO HF Hz; iintro ⟨HO, HR, HD, Hz⟩
  iapply (ld P c 0 5 0 (fun d => k0_off7 d 0#32 256#32)) $$ H; iintro H
  iapply ret; iapply Hk
  isplitl [HO]; · iexact HO
  isplitl [HA]; · iexact HA
  isplitl [HB]; · iexact HB
  isplitl [HR]; · iexact HR
  isplitl [HD]; · iexact HD
  isplitl [H]; · iexact H
  iexact Hz

/-- Range 9: its rows are added, then copy 0 of the second half of the columns arrives, then its rows are added. -/
theorem part9 (c : Dev nD) (v2 v133 v175 v180 v218 : BitVec 32) (Q) (l : List Ent) :
    records P Kn ⊢ iprop(out c 6 -∗ bl P c c 0 5 0 -∗ gotR P c 0 5 -∗ flight c true 1 0 -∗ bl P c c 1 0 0 -∗ zs c l
      -∗ (∀ r, (out c 6 ∗ bl P c c 0 1 1 ∗ bl P c c 0 6 1 ∗ bl P c (peer c 1 1) 1 1 1 ∗ bl P c (peer c 1 1) 1 6 1 ∗ dstO (F := F) c 1 0 ∗ zs c (.inr (1, 0) :: sR true 1 0 :: sS true 1 0 :: .inr (0, 5) :: l)) -∗ Q r)
      -∗ run c (ap (k0_part9 (F := F)) c v2 v133 v175 v180 v218 (blk c 0 5 (St P 0 0 c))) Q) := by
  unfold ap run; rw [k0_part9_eq_skeleton]; unfold k0_part9_skel
  simp only [Prog.lift, Prog.bind_op, Prog.bind_ret, Prog.pure_eq_ret]
  iintro #Hrec HO H HR HF H' Hz Hk
  iapply (addV P c 0 5 0 1 (fun d => k0_off7 d 0#32 256#32) (fun d => k0_off8 d 3#32 1#32 0#32 256#32) fun _ => pay_sum _ _ _) $$ H HR; iintro ⟨H, HR⟩
  ihave Hz := (keep P c 0 5 _) $$ HR Hz
  icases ((cold_split c 0 5 1 6 _ _).1) $$ H with ⟨HA, HB⟩
  iapply (wt P Kn c 6 1 0) $$ Hrec HO HF Hz; iintro ⟨HO, HR, HD, Hz⟩
  iapply (add P c 1 0 0 1 (fun d => k0_off13 d 256#32 0#32) (fun d => k0_off8 d 8#32 3#32 256#32 0#32) fun _ _ => pay_sum _ _ _) $$ H' HR; iintro ⟨H', HR⟩
  ihave Hz := (keep P c 1 0 _) $$ HR Hz
  icases ((hot_split c 1 0 1 6 1 _ _).1) $$ H' with ⟨HC, HE⟩
  iapply ret; iapply Hk $$ %_
  isplitl [HO]; · iexact HO
  isplitl [HA]; · iexact HA
  isplitl [HB]; · iexact HB
  isplitl [HC]; · iexact HC
  isplitl [HE]; · iexact HE
  isplitl [HD]; · iexact HD
  iexact Hz

/-- Range 10: copy 1 of the second half of the columns starts, then copy 6 of the second half of the columns starts, then this device's copy 5 of the second half of the columns has left. -/
theorem part10 (c : Dev nD) (v180 v300 : BitVec 32) (v301 : BitVec 1) (Q) (l : List Ent) :
    records P Kn ⊢ iprop(out c 6 -∗ bl P c (peer c 1 1) 1 1 1 -∗ bl P c (peer c 1 1) 1 6 1 -∗ rAny (F := F) (peer c 1 1) 1 1 -∗ rAny (F := F) (peer c 1 1) 1 6 -∗ flight c true 1 5 -∗ zs c l
      -∗ (∀ r, (out c 8 ∗ flight c true 1 1 ∗ flight c true 1 6 ∗ flight' c true 1 5 ∗ zs c (sS true 1 5 :: l)) -∗ Q r)
      -∗ run c (ap (k0_part10 (F := F)) c v180 v300 v301) Q) := by
  unfold ap run; rw [k0_part10_eq_skeleton]; unfold k0_part10_skel
  simp only [Prog.lift, Prog.bind_op, Prog.bind_ret, Prog.pure_eq_ret]
  iintro #Hrec HO HA HB HX HY HF Hz Hk
  iapply (snd P Kn c 6 1 1 1 k0_dev12 k0_off14 (fun d => k0_off9 d 3#32 1#32)) $$ Hrec HO HA HX; iintro ⟨HO, HA⟩
  iapply (snd P Kn c 7 1 6 1 k0_dev13 k0_off15 (fun d => k0_off11 d 3#32 1#32)) $$ Hrec HO HB HY; iintro ⟨HO, HB⟩
  iapply (wtS P Kn c 8 1 5) $$ Hrec HO HF Hz; iintro ⟨HO, HF, Hz⟩
  iapply ret; iapply Hk $$ %_
  isplitl [HO]; · iexact HO
  isplitl [HA]; · iexact HA
  isplitl [HB]; · iexact HB
  isplitl [HF]; · iexact HF
  iexact Hz

/-- Range 11: copy 5 of the second half of the columns arrives, then its rows are added, then copy 1 of the first half of the columns arrives. -/
theorem part11 (c : Dev nD) (v2 v175 v180 v228 v233 v290 : BitVec 32) (Q) (l : List Ent) :
    records P Kn ⊢ iprop(out c 8 -∗ flight' c true 1 5 -∗ bl P c c 1 5 0 -∗ flight c true 0 1 -∗ zs c l
      -∗ (∀ r, (out c 8 ∗ dstO (F := F) c 1 5 ∗ bl P c c 1 1 1 ∗ bl P c c 1 6 1 ∗ gotR P c 0 1 ∗ dstO (F := F) c 0 1 ∗ zs c (sR true 0 1 :: sS true 0 1 :: .inr (1, 5) :: sR true 1 5 :: l)) -∗ Q r)
      -∗ run c (ap (k0_part11 (F := F)) c v2 v175 v180 v228 v233 v290) Q) := by
  unfold ap run; rw [k0_part11_eq_skeleton]; unfold k0_part11_skel
  simp only [Prog.lift, Prog.bind_op, Prog.bind_ret, Prog.pure_eq_ret]
  iintro #Hrec HO HF H HF2 Hz Hk
  iapply (wtR P Kn c 8 1 5) $$ Hrec HO HF Hz; iintro ⟨HO, HR, HD, Hz⟩
  iapply (add P c 1 5 0 1 (fun d => k0_off13 d 0#32 256#32) (fun d => k0_off8 d 8#32 3#32 0#32 256#32) fun _ _ => pay_sum _ _ _) $$ H HR; iintro ⟨H, HR⟩
  ihave Hz := (keep P c 1 5 _) $$ HR Hz
  icases ((cold_split c 1 5 1 6 _ _).1) $$ H with ⟨HA, HB⟩
  iapply (wt P Kn c 8 0 1) $$ Hrec HO HF2 Hz; iintro ⟨HO, HR, HD2, Hz⟩
  iapply ret; iapply Hk $$ %_
  isplitl [HO]; · iexact HO
  isplitl [HD]; · iexact HD
  isplitl [HA]; · iexact HA
  isplitl [HB]; · iexact HB
  isplitl [HR]; · iexact HR
  isplitl [HD2]; · iexact HD2
  iexact Hz

/-- Range 12: its rows are added, then copy 2 of the first half of the columns starts. -/
theorem part12 (c : Dev nD) (v2 v233 v360 : BitVec 32) (Q) (l : List Ent) :
    records P Kn ⊢ iprop(out c 8 -∗ bl P c c 0 1 1 -∗ gotR P c 0 1 -∗ rAny (F := F) (peer c 0 2) 0 2 -∗ zs c l
      -∗ (∀ r, (out c 9 ∗ flight c true 0 2 ∗ bl P c (peer c 0 2) 0 7 2 ∗ zs c (.inr (0, 1) :: l)) -∗ Q r)
      -∗ run c (ap (k0_part12 (F := F)) c v2 v233 v360) Q) := by
  unfold ap run; rw [k0_part12_eq_skeleton]; unfold k0_part12_skel
  simp only [Prog.lift, Prog.bind_op, Prog.bind_ret, Prog.pure_eq_ret]
  iintro #Hrec HO H HR HX Hz Hk
  iapply (add P c 0 1 1 2 (fun d => k0_off16 d 128#32 0#32) (fun d => k0_off17 d 3#32 1#32 8#32 128#32 0#32) fun _ _ => pay_sum _ _ _) $$ H HR; iintro ⟨H, HR⟩
  ihave Hz := (keep P c 0 1 _) $$ HR Hz
  icases ((hot_split c 0 1 2 7 2 _ _).1) $$ H with ⟨HA, HB⟩
  iapply (snd P Kn c 8 0 2 2 k0_dev14 k0_off19 (fun d => k0_off18 d 8#32 4#32)) $$ Hrec HO HA HX; iintro ⟨HO, HA⟩
  iapply ret; iapply Hk $$ %_
  isplitl [HO]; · iexact HO
  isplitl [HA]; · iexact HA
  isplitl [HB]; · iexact HB
  iexact Hz

/-- Range 13: copy 7 of the first half of the columns starts, then copy 6 of the first half of the columns arrives, then its rows are added, then this device's copy 1 of the second half of the columns has left. -/
theorem part13 (c : Dev nD) (v228 v233 v300 v362 : BitVec 32) (Q) (l : List Ent) :
    records P Kn ⊢ iprop(out c 9 -∗ bl P c (peer c 0 2) 0 7 2 -∗ rAny (F := F) (peer c 0 2) 0 7 -∗ flight c true 0 6 -∗ bl P c c 0 6 1 -∗ flight c true 1 1 -∗ zs c l
      -∗ (∀ r, (out c 10 ∗ flight c true 0 7 ∗ dstO (F := F) c 0 6 ∗ bl P c c 0 2 2 ∗ bl P c c 0 7 2 ∗ flight' c true 1 1 ∗ zs c (sS true 1 1 :: .inr (0, 6) :: sR true 0 6 :: sS true 0 6 :: l)) -∗ Q r)
      -∗ run c (ap (k0_part13 (F := F)) c v228 v233 v300 v362) Q) := by
  unfold ap run; rw [k0_part13_eq_skeleton]; unfold k0_part13_skel
  simp only [Prog.lift, Prog.bind_op, Prog.bind_ret, Prog.pure_eq_ret]
  iintro #Hrec HO HB HX HF H HF2 Hz Hk
  iapply (snd P Kn c 9 0 7 2 k0_dev15 k0_off21 (fun d => k0_off20 d 8#32 4#32)) $$ Hrec HO HB HX; iintro ⟨HO, HB⟩
  iapply (wt P Kn c 10 0 6) $$ Hrec HO HF Hz; iintro ⟨HO, HR, HD, Hz⟩
  iapply (add P c 0 6 1 2 (fun d => k0_off16 d 0#32 128#32) (fun d => k0_off17 d 3#32 1#32 8#32 0#32 128#32) fun _ _ => pay_sum _ _ _) $$ H HR; iintro ⟨H, HR⟩
  ihave Hz := (keep P c 0 6 _) $$ HR Hz
  icases ((cold_split c 0 6 2 7 _ _).1) $$ H with ⟨HA, HC⟩
  iapply (wtS P Kn c 10 1 1) $$ Hrec HO HF2 Hz; iintro ⟨HO, HF2, Hz⟩
  iapply ret; iapply Hk $$ %_
  isplitl [HO]; · iexact HO
  isplitl [HB]; · iexact HB
  isplitl [HD]; · iexact HD
  isplitl [HA]; · iexact HA
  isplitl [HC]; · iexact HC
  isplitl [HF2]; · iexact HF2
  iexact Hz

/-- Range 14: copy 1 of the second half of the columns arrives, then its rows are added, then copy 2 of the second half of the columns starts. -/
theorem part14 (c : Dev nD) (v2 v305 : BitVec 32) (Q) (l : List Ent) :
    records P Kn ⊢ iprop(out c 10 -∗ flight' c true 1 1 -∗ bl P c c 1 1 1 -∗ rAny (F := F) (peer c 1 2) 1 2 -∗ zs c l
      -∗ (∀ r, (out c 11 ∗ dstO (F := F) c 1 1 ∗ flight c true 1 2 ∗ bl P c (peer c 1 2) 1 7 2 ∗ zs c (.inr (1, 1) :: sR true 1 1 :: l)) -∗ Q r)
      -∗ run c (ap (k0_part14 (F := F)) c v2 v305) Q) := by
  unfold ap run; rw [k0_part14_eq_skeleton]; unfold k0_part14_skel
  simp only [Prog.lift, Prog.bind_op, Prog.bind_ret, Prog.pure_eq_ret]
  iintro #Hrec HO HF H HX Hz Hk
  iapply (wtR P Kn c 10 1 1) $$ Hrec HO HF Hz; iintro ⟨HO, HR, HD, Hz⟩
  iapply (add P c 1 1 1 2 (fun d => k0_off22 d 128#32 0#32) (fun d => k0_off17 d 8#32 3#32 1#32 128#32 0#32) fun _ _ => pay_sum _ _ _) $$ H HR; iintro ⟨H, HR⟩
  ihave Hz := (keep P c 1 1 _) $$ HR Hz
  icases ((hot_split c 1 1 2 7 2 _ _).1) $$ H with ⟨HA, HB⟩
  iapply (snd P Kn c 10 1 2 2 k0_dev16 k0_off23 (fun d => k0_off18 d 1#32 16#32)) $$ Hrec HO HA HX; iintro ⟨HO, HA⟩
  iapply ret; iapply Hk $$ %_
  isplitl [HO]; · iexact HO
  isplitl [HD]; · iexact HD
  isplitl [HA]; · iexact HA
  isplitl [HB]; · iexact HB
  iexact Hz

/-- Range 15: copy 7 of the second half of the columns starts, then copy 6 of the second half of the columns arrives, then its rows are added. -/
theorem part15 (c : Dev nD) (v300 v305 v434 v444 v447 v462 : BitVec 32) (Q) (l : List Ent) :
    records P Kn ⊢ iprop(out c 11 -∗ bl P c (peer c 1 2) 1 7 2 -∗ rAny (F := F) (peer c 1 2) 1 7 -∗ flight c true 1 6 -∗ bl P c c 1 6 1 -∗ zs c l
      -∗ (∀ r, (out c 12 ∗ flight c true 1 7 ∗ dstO (F := F) c 1 6 ∗ bl P c c 1 2 2 ∗ bl P c c 1 7 2 ∗ zs c (.inr (1, 6) :: sR true 1 6 :: sS true 1 6 :: l)) -∗ Q r)
      -∗ run c (ap (k0_part15 (F := F)) c v300 v305 v434 v444 v447 v462) Q) := by
  unfold ap run; rw [k0_part15_eq_skeleton]; unfold k0_part15_skel
  simp only [Prog.lift, Prog.bind_op, Prog.bind_ret, Prog.pure_eq_ret]
  iintro #Hrec HO HB HX HF H Hz Hk
  iapply (snd P Kn c 11 1 7 2 k0_dev17 k0_off24 (fun d => k0_off20 d 1#32 16#32)) $$ Hrec HO HB HX; iintro ⟨HO, HB⟩
  iapply (wt P Kn c 12 1 6) $$ Hrec HO HF Hz; iintro ⟨HO, HR, HD, Hz⟩
  iapply (add P c 1 6 1 2 (fun d => k0_off22 d 0#32 128#32) (fun d => k0_off17 d 8#32 3#32 1#32 0#32 128#32) fun _ _ => pay_sum _ _ _) $$ H HR; iintro ⟨H, HR⟩
  ihave Hz := (keep P c 1 6 _) $$ HR Hz
  icases ((cold_split c 1 6 2 7 _ _).1) $$ H with ⟨HA, HC⟩
  iapply ret; iapply Hk $$ %_
  isplitl [HO]; · iexact HO
  isplitl [HB]; · iexact HB
  isplitl [HD]; · iexact HD
  isplitl [HA]; · iexact HA
  isplitl [HC]; · iexact HC
  iexact Hz

/-- Range 16: copy 2 of the first half of the columns arrives, then its rows are added. -/
theorem part16 (c : Dev nD) (v2 v372 v377 : BitVec 32) (Q) (l : List Ent) :
    records P Kn ⊢ iprop(out c 12 -∗ flight c true 0 2 -∗ bl P c c 0 2 2 -∗ zs c l
      -∗ (∀ r, (out c 12 ∗ dstO (F := F) c 0 2 ∗ bl P c (peer c 0 3) 0 3 3 ∗ bl P c (peer c 0 3) 0 8 3 ∗ zs c (.inr (0, 2) :: sR true 0 2 :: sS true 0 2 :: l)) -∗ Q r)
      -∗ run c (ap (k0_part16 (F := F)) c v2 v372 v377) Q) := by
  unfold ap run; rw [k0_part16_eq_skeleton]; unfold k0_part16_skel
  simp only [Prog.lift, Prog.bind_op, Prog.bind_ret, Prog.pure_eq_ret]
  iintro #Hrec HO HF H Hz Hk
  iapply (wt P Kn c 12 0 2) $$ Hrec HO HF Hz; iintro ⟨HO, HR, HD, Hz⟩
  iapply (add P c 0 2 2 3 (fun d => k0_off25 d 64#32 0#32) (fun d => k0_off26 d 3#32 1#32 8#32 4#32 64#32 0#32) fun _ _ => pay_sum _ _ _) $$ H HR; iintro ⟨H, HR⟩
  ihave Hz := (keep P c 0 2 _) $$ HR Hz
  icases ((hot_split c 0 2 3 8 3 _ _).1) $$ H with ⟨HA, HB⟩
  iapply ret; iapply Hk $$ %_
  isplitl [HO]; · iexact HO
  isplitl [HD]; · iexact HD
  isplitl [HA]; · iexact HA
  isplitl [HB]; · iexact HB
  iexact Hz

/-- Range 17: copy 3 of the first half of the columns starts, then copy 8 of the first half of the columns starts, then copy 7 of the first half of the columns arrives. -/
theorem part17 (c : Dev nD) (v372 v377 v506 v516 v519 v524 c1 : BitVec 32) (Q) (l : List Ent) :
    records P Kn ⊢ iprop(out c 12 -∗ bl P c (peer c 0 3) 0 3 3 -∗ bl P c (peer c 0 3) 0 8 3 -∗ rAny (F := F) (peer c 0 3) 0 3 -∗ rAny (F := F) (peer c 0 3) 0 8 -∗ flight c true 0 7 -∗ bl P c c 0 7 2 -∗ zs c l
      -∗ ((out c 14 ∗ flight c true 0 3 ∗ flight c true 0 8 ∗ gotR P c 0 7 ∗ dstO (F := F) c 0 7 ∗ bl P c c 0 7 2 ∗ zs c (sR true 0 7 :: sS true 0 7 :: l)) -∗ Q (k0_pay25 (blk c 0 7 (St P 0 2 c))))
      -∗ run c (ap (k0_part17 (F := F)) c v372 v377 v506 v516 v519 v524 c1) Q) := by
  unfold ap run; rw [k0_part17_eq_skeleton]; unfold k0_part17_skel
  simp only [Prog.lift, Prog.bind_op, Prog.bind_ret, Prog.pure_eq_ret]
  iintro #Hrec HO HA HB HX HY HF H Hz Hk
  iapply (snd P Kn c 12 0 3 3 k0_dev18 k0_off28 (fun d => k0_off27 d 4#32 16#32)) $$ Hrec HO HA HX; iintro ⟨HO, HA⟩
  iapply (snd P Kn c 13 0 8 3 k0_dev19 k0_off30 (fun d => k0_off29 d 4#32 16#32)) $$ Hrec HO HB HY; iintro ⟨HO, HB⟩
  iapply (wt P Kn c 14 0 7) $$ Hrec HO HF Hz; iintro ⟨HO, HR, HD, Hz⟩
  iapply (ld P c 0 7 2 (fun d => k0_off25 d 0#32 64#32)) $$ H; iintro H
  iapply ret; iapply Hk
  isplitl [HO]; · iexact HO
  isplitl [HA]; · iexact HA
  isplitl [HB]; · iexact HB
  isplitl [HR]; · iexact HR
  isplitl [HD]; · iexact HD
  isplitl [H]; · iexact H
  iexact Hz

/-- Range 18: its rows are added, then copy 2 of the second half of the columns arrives, then its rows are added. -/
theorem part18 (c : Dev nD) (v2 v444 v449 v506 : BitVec 32) (Q) (l : List Ent) :
    records P Kn ⊢ iprop(out c 14 -∗ bl P c c 0 7 2 -∗ gotR P c 0 7 -∗ flight c true 1 2 -∗ bl P c c 1 2 2 -∗ zs c l
      -∗ (∀ r, (out c 14 ∗ bl P c c 0 3 3 ∗ bl P c c 0 8 3 ∗ dstO (F := F) c 1 2 ∗ bl P c (peer c 1 3) 1 3 3 ∗ bl P c (peer c 1 3) 1 8 3 ∗ zs c (.inr (1, 2) :: sR true 1 2 :: sS true 1 2 :: .inr (0, 7) :: l)) -∗ Q r)
      -∗ run c (ap (k0_part18 (F := F)) c v2 v444 v449 v506 (k0_pay25 (blk c 0 7 (St P 0 2 c)))) Q) := by
  unfold ap run; rw [k0_part18_eq_skeleton]; unfold k0_part18_skel
  simp only [Prog.lift, Prog.bind_op, Prog.bind_ret, Prog.pure_eq_ret]
  iintro #Hrec HO H HR HF H' Hz Hk
  iapply (addV P c 0 7 2 3 (fun d => k0_off25 d 0#32 64#32) (fun d => k0_off26 d 3#32 1#32 8#32 4#32 0#32 64#32) fun _ => pay_sum _ _ _) $$ H HR; iintro ⟨H, HR⟩
  ihave Hz := (keep P c 0 7 _) $$ HR Hz
  icases ((cold_split c 0 7 3 8 _ _).1) $$ H with ⟨HA, HB⟩
  iapply (wt P Kn c 14 1 2) $$ Hrec HO HF Hz; iintro ⟨HO, HR, HD, Hz⟩
  iapply (add P c 1 2 2 3 (fun d => k0_off31 d 64#32 0#32) (fun d => k0_off26 d 8#32 3#32 1#32 16#32 64#32 0#32) fun _ _ => pay_sum _ _ _) $$ H' HR; iintro ⟨H', HR⟩
  ihave Hz := (keep P c 1 2 _) $$ HR Hz
  icases ((hot_split c 1 2 3 8 3 _ _).1) $$ H' with ⟨HC, HE⟩
  iapply ret; iapply Hk $$ %_
  isplitl [HO]; · iexact HO
  isplitl [HA]; · iexact HA
  isplitl [HB]; · iexact HB
  isplitl [HD]; · iexact HD
  isplitl [HC]; · iexact HC
  isplitl [HE]; · iexact HE
  iexact Hz

/-- Range 19: copy 3 of the second half of the columns starts, then copy 8 of the second half of the columns starts, then this device's copy 7 of the second half of the columns has left. -/
theorem part19 (c : Dev nD) (v444 v449 v588 : BitVec 32) (v589 : BitVec 1) (v591 : BitVec 32) (Q) (l : List Ent) :
    records P Kn ⊢ iprop(out c 14 -∗ bl P c (peer c 1 3) 1 3 3 -∗ bl P c (peer c 1 3) 1 8 3 -∗ rAny (F := F) (peer c 1 3) 1 3 -∗ rAny (F := F) (peer c 1 3) 1 8 -∗ flight c true 1 7 -∗ zs c l
      -∗ (∀ r, (out c 16 ∗ flight c true 1 3 ∗ flight c true 1 8 ∗ flight' c true 1 7 ∗ zs c (sS true 1 7 :: l)) -∗ Q r)
      -∗ run c (ap (k0_part19 (F := F)) c v444 v449 v588 v589 v591) Q) := by
  unfold ap run; rw [k0_part19_eq_skeleton]; unfold k0_part19_skel
  simp only [Prog.lift, Prog.bind_op, Prog.bind_ret, Prog.pure_eq_ret]
  iintro #Hrec HO HA HB HX HY HF Hz Hk
  iapply (snd P Kn c 14 1 3 3 k0_dev20 k0_off32 (fun d => k0_off27 d 16#32 4#32)) $$ Hrec HO HA HX; iintro ⟨HO, HA⟩
  iapply (snd P Kn c 15 1 8 3 k0_dev21 k0_off33 (fun d => k0_off29 d 16#32 4#32)) $$ Hrec HO HB HY; iintro ⟨HO, HB⟩
  iapply (wtS P Kn c 16 1 7) $$ Hrec HO HF Hz; iintro ⟨HO, HF, Hz⟩
  iapply ret; iapply Hk $$ %_
  isplitl [HO]; · iexact HO
  isplitl [HA]; · iexact HA
  isplitl [HB]; · iexact HB
  isplitl [HF]; · iexact HF
  iexact Hz

/-- Range 20: copy 7 of the second half of the columns arrives, then its rows are added, then copy 3 of the first half of the columns arrives. -/
theorem part20 (c : Dev nD) (v2 v449 v516 v521 v578 : BitVec 32) (Q) (l : List Ent) :
    records P Kn ⊢ iprop(out c 16 -∗ flight' c true 1 7 -∗ bl P c c 1 7 2 -∗ flight c true 0 3 -∗ bl P c c 0 3 3 -∗ zs c l
      -∗ (∀ a b, (out c 16 ∗ dstO (F := F) c 1 7 ∗ bl P c c 1 3 3 ∗ bl P c c 1 8 3 ∗ gotR P c 0 3 ∗ dstO (F := F) c 0 3 ∗ bl P c c 0 3 3 ∗ zs c (sR true 0 3 :: sS true 0 3 :: .inr (1, 7) :: sR true 1 7 :: l)) -∗ Q ⟨a, b, k0_pay29 (blk c 0 3 (St P 0 3 c))⟩)
      -∗ run c (ap (k0_part20 (F := F)) c v2 v449 v516 v521 v578) Q) := by
  unfold ap run; rw [k0_part20_eq_skeleton]; unfold k0_part20_skel
  simp only [Prog.lift, Prog.bind_op, Prog.bind_ret, Prog.pure_eq_ret]
  iintro #Hrec HO HF H HF2 H' Hz Hk
  iapply (wtR P Kn c 16 1 7) $$ Hrec HO HF Hz; iintro ⟨HO, HR, HD, Hz⟩
  iapply (add P c 1 7 2 3 (fun d => k0_off31 d 0#32 64#32) (fun d => k0_off26 d 8#32 3#32 1#32 16#32 0#32 64#32) fun _ _ => pay_sum _ _ _) $$ H HR; iintro ⟨H, HR⟩
  ihave Hz := (keep P c 1 7 _) $$ HR Hz
  icases ((cold_split c 1 7 3 8 _ _).1) $$ H with ⟨HA, HB⟩
  iapply (wt P Kn c 16 0 3) $$ Hrec HO HF2 Hz; iintro ⟨HO, HR, HD2, Hz⟩
  iapply (ld P c 0 3 3 (fun d => k0_off34 d 32#32 0#32)) $$ H'; iintro H'
  iapply ret; iapply Hk $$ %_ %_
  isplitl [HO]; · iexact HO
  isplitl [HD]; · iexact HD
  isplitl [HA]; · iexact HA
  isplitl [HB]; · iexact HB
  isplitl [HR]; · iexact HR
  isplitl [HD2]; · iexact HD2
  isplitl [H']; · iexact H'
  iexact Hz

/-- Range 21: its rows are added, then copy 4 of the first half of the columns starts, then copy 8 of the first half of the columns arrives. -/
theorem part21 (c : Dev nD) (v2 v516 v521 v648 v650 : BitVec 32) (Q) (l : List Ent) :
    records P Kn ⊢ iprop(out c 16 -∗ bl P c c 0 3 3 -∗ gotR P c 0 3 -∗ rAny (F := F) (peer c 0 4) 0 4 -∗ flight c true 0 8 -∗ zs c l
      -∗ (∀ r, (out c 17 ∗ flight c true 0 4 ∗ gotR P c 0 8 ∗ dstO (F := F) c 0 8 ∗ zs c (sR true 0 8 :: sS true 0 8 :: .inr (0, 3) :: l)) -∗ Q r)
      -∗ run c (ap (k0_part21 (F := F)) c v2 v516 v521 v648 v650 (k0_pay29 (blk c 0 3 (St P 0 3 c)))) Q) := by
  unfold ap run; rw [k0_part21_eq_skeleton]; unfold k0_part21_skel
  simp only [Prog.lift, Prog.bind_op, Prog.bind_ret, Prog.pure_eq_ret]
  iintro #Hrec HO H HR HX HF Hz Hk
  iapply (addV P c 0 3 3 4 (fun d => k0_off34 d 32#32 0#32) (fun d => k0_off35 d 3#32 1#32 8#32 4#32 16#32 32#32 0#32) fun _ => pay_sum _ _ _) $$ H HR; iintro ⟨H, HR⟩
  ihave Hz := (keep P c 0 3 _) $$ HR Hz
  ihave H := (Entails.of_eq (last_hot P c 0 4)) $$ H
  iapply (snd P Kn c 16 0 4 4 k0_dev22 k0_off36 (fun _ => ![0, 0])) $$ Hrec HO H HX; iintro ⟨HO, H⟩
  iapply (wt P Kn c 17 0 8) $$ Hrec HO HF Hz; iintro ⟨HO, HR, HD, Hz⟩
  iapply ret; iapply Hk $$ %_
  isplitl [HO]; · iexact HO
  isplitl [H]; · iexact H
  isplitl [HR]; · iexact HR
  isplitl [HD]; · iexact HD
  iexact Hz

/-- Range 22: its rows are added, then copy 3 of the second half of the columns arrives, then its rows are added. -/
theorem part22 (c : Dev nD) (v2 v521 v588 v593 v650 : BitVec 32) (Q) (l : List Ent) :
    records P Kn ⊢ iprop(out c 17 -∗ bl P c c 0 8 3 -∗ gotR P c 0 8 -∗ flight c true 1 3 -∗ bl P c c 1 3 3 -∗ zs c l
      -∗ (∀ r, (out c 17 ∗ bl P c c 0 4 4 ∗ dstO (F := F) c 1 3 ∗ bl P c (peer c 1 4) 1 4 4 ∗ zs c (.inr (1, 3) :: sR true 1 3 :: sS true 1 3 :: .inr (0, 8) :: l)) -∗ Q r)
      -∗ run c (ap (k0_part22 (F := F)) c v2 v521 v588 v593 v650) Q) := by
  unfold ap run; rw [k0_part22_eq_skeleton]; unfold k0_part22_skel
  simp only [Prog.lift, Prog.bind_op, Prog.bind_ret, Prog.pure_eq_ret]
  iintro #Hrec HO H HR HF H' Hz Hk
  iapply (add P c 0 8 3 4 (fun d => k0_off34 d 0#32 32#32) (fun d => k0_off35 d 3#32 1#32 8#32 4#32 16#32 0#32 32#32) fun _ _ => pay_sum _ _ _) $$ H HR; iintro ⟨H, HR⟩
  ihave Hz := (keep P c 0 8 _) $$ HR Hz
  iapply (wt P Kn c 17 1 3) $$ Hrec HO HF Hz; iintro ⟨HO, HR, HD, Hz⟩
  iapply (add P c 1 3 3 4 (fun d => k0_off37 d 32#32 0#32) (fun d => k0_off35 d 8#32 3#32 1#32 16#32 4#32 32#32 0#32) fun _ _ => pay_sum _ _ _) $$ H' HR; iintro ⟨H', HR⟩
  ihave Hz := (keep P c 1 3 _) $$ HR Hz
  ihave H := (Entails.of_eq (last_cold P c 0 4)) $$ H; ihave H' := (Entails.of_eq (last_hot P c 1 4)) $$ H'
  iapply ret; iapply Hk $$ %_
  isplitl [HO]; · iexact HO
  isplitl [H]; · iexact H
  isplitl [HD]; · iexact HD
  isplitl [H']; · iexact H'
  iexact Hz

/-- Range 23: copy 4 of the second half of the columns starts, then copy 8 of the second half of the columns arrives, then its rows are added. -/
theorem part23 (c : Dev nD) (v2 v588 v593 v709 c4 : BitVec 32) (Q) (l : List Ent) :
    records P Kn ⊢ iprop(out c 17 -∗ bl P c (peer c 1 4) 1 4 4 -∗ rAny (F := F) (peer c 1 4) 1 4 -∗ flight c true 1 8 -∗ bl P c c 1 8 3 -∗ zs c l
      -∗ (∀ a b, (out c 18 ∗ flight c true 1 4 ∗ dstO (F := F) c 1 8 ∗ bl P c c 1 8 3 ∗ zs c (.inr (1, 8) :: sR true 1 8 :: sS true 1 8 :: l)) -∗ Q ⟨a, b, k0_pay33 (blk c 1 8 (St P 1 3 c)) (got P c 1 8)⟩)
      -∗ run c (ap (k0_part23 (F := F)) c v2 v588 v593 v709 c4) Q) := by
  unfold ap run; rw [k0_part23_eq_skeleton]; unfold k0_part23_skel
  simp only [Prog.lift, Prog.bind_op, Prog.bind_ret, Prog.pure_eq_ret]
  iintro #Hrec HO HA HX HF H Hz Hk
  iapply (snd P Kn c 17 1 4 4 k0_dev23 k0_off38 (fun _ => ![0, 0])) $$ Hrec HO HA HX; iintro ⟨HO, HA⟩
  iapply (wt P Kn c 18 1 8) $$ Hrec HO HF Hz; iintro ⟨HO, HR, HD, Hz⟩
  iapply (ld P c 1 8 3 (fun d => k0_off37 d 0#32 32#32)) $$ H; iintro H
  iapply (ldR P c 1 8 (fun d => k0_off35 d 8#32 3#32 1#32 16#32 4#32 0#32 32#32)) $$ HR; iintro HR
  ihave Hz := (keep P c 1 8 _) $$ HR Hz
  iapply ret; iapply Hk $$ %_ %_
  isplitl [HO]; · iexact HO
  isplitl [HA]; · iexact HA
  isplitl [HD]; · iexact HD
  isplitl [H]; · iexact H
  iexact Hz

/-- Range 24: copy 4 of the first half of the columns arrives, then its rows are added, then copy 4 of the first half of the columns on its way back starts. -/
theorem part24 (c : Dev nD) (v2 v660 v665 v709 : BitVec 32) (Q) (l : List Ent) :
    records P Kn ⊢ iprop(out c 18 -∗ bl P c c 1 8 3 -∗ flight c true 0 4 -∗ bl P c c 0 4 4 -∗ zs c l
      -∗ (∀ r, (out c 19 ∗ bl P c c 1 4 4 ∗ flight c false 0 4 ∗ fi P (PosShare.right fullShare) c c 0 4 ∗ zs c (.inr (0, 4) :: sR true 0 4 :: sS true 0 4 :: l)) -∗ Q r)
      -∗ run c (ap (k0_part24 (F := F)) c v2 v660 v665 v709 (k0_pay33 (blk c 1 8 (St P 1 3 c)) (got P c 1 8))) Q) := by
  unfold ap run; rw [k0_part24_eq_skeleton]; unfold k0_part24_skel
  simp only [Prog.lift, Prog.bind_op, Prog.bind_ret, Prog.pure_eq_ret]
  iintro #Hrec HO H HF H' Hz Hk
  iapply (put P c 1 8 3 4 (fun d => k0_off37 d 0#32 32#32) (pay_sum _ _ _)) $$ H; iintro H
  ihave H := (Entails.of_eq (last_cold P c 1 4)) $$ H
  iapply (wt P Kn c 18 0 4) $$ Hrec HO HF Hz; iintro ⟨HO, HR, HD, Hz⟩
  iapply (add P c 0 4 4 5 (fun d => k0_off34 d 0#32 32#32) (fun d => k0_off39 d 3#32 1#32 8#32 4#32 16#32) fun _ _ => pay_sum _ _ _) $$ H' HR; iintro ⟨H', HR⟩
  ihave Hz := (keep P c 0 4 _) $$ HR Hz
  ihave H' := (Entails.of_eq (done_eq P c 0)) $$ H'
  icases ((oPt_halves c (B c 0 4) (Fn P 0)).1) $$ H' with ⟨HL, H'⟩
  iapply (snd' P Kn c 18 0 4 (PosShare.left fullShare) k0_dev24 k0_off40) $$ Hrec HO HL HD; iintro ⟨HO, HL⟩
  iapply ret; iapply Hk $$ %_
  isplitl [HO]; · iexact HO
  isplitl [H]; · iexact H
  isplitl [HL]; · iexact HL
  isplitl [H']; · iexact H'
  iexact Hz

end

end Cert.Moe

end
-- ==== Proof.Moe.Ag.lean ====
/-
# The second half of the exchange, range by range

What each range of the kernel's statements needs, and what it leaves.
-/
module

public import proofs.«01_k».proof.Proof.Moe.Rs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (P : Dev nD → OutC F) (Kn : Dev nD × Fin 77 → ℕ)

/-- The rows the peer finishes in the last step are those of copy 3. -/
theorem lastF_hot (c : Dev nD) (sl : Fin 2) : (fi P fullShare c (peer c sl 4) sl 4 : sProp 𝕄) = fi P fullShare c c sl 3 := by unfold fi; rw [B_last_hot]
/-- The rows of copy 8 are those of copy 4. -/
theorem lastF_cold (c : Dev nD) (sl : Fin 2) (q : PosShare TreeShare) : (fi P q c c sl 8 : sProp 𝕄) = fi P q c c sl 4 := by unfold fi; rw [B_last_cold]

/-- Range 25: copy 8 of the first half of the columns on its way back starts, then copy 4 of the second half of the columns arrives, then its rows are added. -/
theorem part25 (c : Dev nD) (v2 v719 v724 c4 : BitVec 32) (Q) (l : List Ent) :
    records P Kn ⊢ iprop(out c 19 -∗ fi P (PosShare.right fullShare) c c 0 4 -∗ dstO (F := F) c 0 8 -∗ flight c true 1 4 -∗ bl P c c 1 4 4 -∗ zs c l
      -∗ (∀ r, (out c 20 ∗ flight c false 0 8 ∗ dstO (F := F) c 1 4 ∗ fi P fullShare c c 1 4 ∗ zs c (.inr (1, 4) :: sR true 1 4 :: sS true 1 4 :: l)) -∗ Q r)
      -∗ run c (ap (k0_part25 (F := F)) c v2 v719 v724 c4) Q) := by
  unfold ap run; rw [k0_part25_eq_skeleton]; unfold k0_part25_skel
  simp only [Prog.lift, Prog.bind_op, Prog.bind_ret, Prog.pure_eq_ret]
  iintro #Hrec HO HR HD HF H Hz Hk
  ihave HR := (Entails.of_eq (lastF_cold P c 0 (PosShare.right fullShare)).symm) $$ HR
  iapply (snd' P Kn c 19 0 8 (PosShare.right fullShare) k0_dev25 k0_off40) $$ Hrec HO HR HD; iintro ⟨HO, HR⟩
  iapply (wt P Kn c 20 1 4) $$ Hrec HO HF Hz; iintro ⟨HO, HG, HD, Hz⟩
  iapply (add P c 1 4 4 5 (fun d => k0_off37 d 0#32 32#32) (fun d => k0_off39 d 8#32 3#32 1#32 16#32 4#32) fun _ _ => pay_sum _ _ _) $$ H HG; iintro ⟨H, HG⟩
  ihave Hz := (keep P c 1 4 _) $$ HG Hz
  ihave H := (Entails.of_eq (done_eq P c 1)) $$ H
  iapply ret; iapply Hk $$ %_
  isplitl [HO]; · iexact HO
  isplitl [HR]; · iexact HR
  isplitl [HD]; · iexact HD
  isplitl [H]; · iexact H
  iexact Hz

/-- Range 26: copy 4 of the second half of the columns on its way back starts, then copy 8 of the second half of the columns on its way back starts, then copy 4 of the first half of the columns on its way back arrives. -/
theorem part26 (c : Dev nD) (v2 v521 v665 v772 v810 : BitVec 32) (Q) (l : List Ent) :
    records P Kn ⊢ iprop(out c 20 -∗ fi P fullShare c c 1 4 -∗ dstO (F := F) c 1 4 -∗ dstO (F := F) c 1 8 -∗ flight c false 0 4 -∗ zs c l
      -∗ (∀ r, (out c 22 ∗ flight c false 1 4 ∗ flight c false 1 8 ∗ fi P (PosShare.left fullShare) c c 0 4 ∗ fi P fullShare c c 0 3 ∗ zs c (sR false 0 4 :: sS false 0 4 :: l)) -∗ Q r)
      -∗ run c (ap (k0_part26 (F := F)) c v2 v521 v665 v772 v810) Q) := by
  unfold ap run; rw [k0_part26_eq_skeleton]; unfold k0_part26_skel
  simp only [Prog.lift, Prog.bind_op, Prog.bind_ret, Prog.pure_eq_ret]
  iintro #Hrec HO H HD HE HF Hz Hk
  icases ((oPt_halves c (B c 1 4) (Fn P 1)).1) $$ H with ⟨HA, HB⟩
  iapply (snd' P Kn c 20 1 4 (PosShare.left fullShare) k0_dev26 k0_off41) $$ Hrec HO HA HD; iintro ⟨HO, HA⟩
  ihave HB := (Entails.of_eq (lastF_cold P c 1 (PosShare.right fullShare)).symm) $$ HB
  iapply (snd' P Kn c 21 1 8 (PosShare.right fullShare) k0_dev27 k0_off41) $$ Hrec HO HB HE; iintro ⟨HO, HB⟩
  iapply (wt' P Kn c 22 0 4 4 (PosShare.left fullShare)) $$ Hrec HO HF Hz; iintro ⟨HO, HC, HG, Hz⟩
  ihave HG := (Entails.of_eq (lastF_hot P c 0)) $$ HG
  iapply ret; iapply Hk $$ %_
  isplitl [HO]; · iexact HO
  isplitl [HA]; · iexact HA
  isplitl [HB]; · iexact HB
  isplitl [HC]; · iexact HC
  isplitl [HG]; · iexact HG
  iexact Hz

/-- Range 27: copy 3 of the first half of the columns on its way back starts, then copy 7 of the first half of the columns on its way back starts, then copy 4 of the second half of the columns on its way back arrives. -/
theorem part27 (c : Dev nD) (v2 v593 v724 v809 v837 : BitVec 32) (Q) (l : List Ent) :
    records P Kn ⊢ iprop(out c 22 -∗ fi P (PosShare.left fullShare) c c 0 4 -∗ fi P fullShare c c 0 3 -∗ dstO (F := F) c 0 3 -∗ dstO (F := F) c 0 7 -∗ flight c false 1 4 -∗ zs c l
      -∗ (∀ r, (out c 24 ∗ flight c false 0 3 ∗ flight c false 0 7 ∗ fi P (PosShare.left fullShare) c c 1 4 ∗ fi P fullShare c c 1 3 ∗ zs c (sR false 1 4 :: sS false 1 4 :: l)) -∗ Q r)
      -∗ run c (ap (k0_part27 (F := F)) c v2 v593 v724 v809 v837) Q) := by
  unfold ap run; rw [k0_part27_eq_skeleton]; unfold k0_part27_skel
  simp only [Prog.lift, Prog.bind_op, Prog.bind_ret, Prog.pure_eq_ret]
  iintro #Hrec HO HL H HD HE HF Hz Hk
  icases ((oPt_halves c (B c 0 3) (Fn P 0)).1) $$ H with ⟨HA, HB⟩
  iapply (snd' P Kn c 22 0 3 (PosShare.right fullShare) k0_dev28 k0_off42) $$ Hrec HO HB HD; iintro ⟨HO, HB⟩
  ihave HL := (Entails.of_eq (lastF_cold P c 0 (PosShare.left fullShare)).symm) $$ HL
  ihave HA := ((cold_split c 0 7 3 8 _ _).2) $$ [HA HL]; · isplitl [HA] <;> iassumption
  iapply (snd' P Kn c 23 0 7 (PosShare.left fullShare) k0_dev29 k0_off43) $$ Hrec HO HA HE; iintro ⟨HO, HA⟩
  iapply (wt' P Kn c 24 1 4 4 (PosShare.left fullShare)) $$ Hrec HO HF Hz; iintro ⟨HO, HC, HG, Hz⟩
  ihave HG := (Entails.of_eq (lastF_hot P c 1)) $$ HG
  iapply ret; iapply Hk $$ %_
  isplitl [HO]; · iexact HO
  isplitl [HB]; · iexact HB
  isplitl [HA]; · iexact HA
  isplitl [HC]; · iexact HC
  isplitl [HG]; · iexact HG
  iexact Hz

/-- Range 28: copy 3 of the second half of the columns on its way back starts, then copy 7 of the second half of the columns on its way back starts, then copy 8 of the first half of the columns on its way back arrives. -/
theorem part28 (c : Dev nD) (v2 v781 v868 : BitVec 32) (Q) (l : List Ent) :
    records P Kn ⊢ iprop(out c 24 -∗ fi P (PosShare.left fullShare) c c 1 4 -∗ fi P fullShare c c 1 3 -∗ dstO (F := F) c 1 3 -∗ dstO (F := F) c 1 7 -∗ flight c false 0 8 -∗ zs c l
      -∗ (∀ r, (out c 26 ∗ flight c false 1 3 ∗ flight c false 1 7 ∗ fi P (PosShare.right fullShare) c c 0 8 ∗ fi P fullShare c (peer c 0 3) 0 8 ∗ zs c (sR false 0 8 :: sS false 0 8 :: l)) -∗ Q r)
      -∗ run c (ap (k0_part28 (F := F)) c v2 v781 v868) Q) := by
  unfold ap run; rw [k0_part28_eq_skeleton]; unfold k0_part28_skel
  simp only [Prog.lift, Prog.bind_op, Prog.bind_ret, Prog.pure_eq_ret]
  iintro #Hrec HO HL H HD HE HF Hz Hk
  icases ((oPt_halves c (B c 1 3) (Fn P 1)).1) $$ H with ⟨HA, HB⟩
  iapply (snd' P Kn c 24 1 3 (PosShare.right fullShare) k0_dev30 k0_off44) $$ Hrec HO HB HD; iintro ⟨HO, HB⟩
  ihave HL := (Entails.of_eq (lastF_cold P c 1 (PosShare.left fullShare)).symm) $$ HL
  ihave HA := ((cold_split c 1 7 3 8 _ _).2) $$ [HA HL]; · isplitl [HA] <;> iassumption
  iapply (snd' P Kn c 25 1 7 (PosShare.left fullShare) k0_dev31 k0_off45) $$ Hrec HO HA HE; iintro ⟨HO, HA⟩
  iapply (wt' P Kn c 26 0 8 3 (PosShare.right fullShare)) $$ Hrec HO HF Hz; iintro ⟨HO, HC, HG, Hz⟩
  iapply ret; iapply Hk $$ %_
  isplitl [HO]; · iexact HO
  isplitl [HB]; · iexact HB
  isplitl [HA]; · iexact HA
  isplitl [HC]; · iexact HC
  isplitl [HG]; · iexact HG
  iexact Hz

/-- Range 29: copy 3 of the first half of the columns on its way back arrives, then copy 2 of the first half of the columns on its way back starts, then copy 6 of the first half of the columns on its way back starts. -/
theorem part29 (c : Dev nD) (v2 v377 v521 v837 : BitVec 32) (Q) (l : List Ent) :
    records P Kn ⊢ iprop(out c 26 -∗ flight c false 0 3 -∗ fi P (PosShare.right fullShare) c c 0 8 -∗ fi P fullShare c (peer c 0 3) 0 8 -∗ dstO (F := F) c 0 2 -∗ dstO (F := F) c 0 6 -∗ zs c l
      -∗ (∀ r, (out c 28 ∗ flight c false 0 2 ∗ flight c false 0 6 ∗ zs c (sR false 0 3 :: sS false 0 3 :: l)) -∗ Q r)
      -∗ run c (ap (k0_part29 (F := F)) c v2 v377 v521 v837) Q) := by
  unfold ap run; rw [k0_part29_eq_skeleton]; unfold k0_part29_skel
  simp only [Prog.lift, Prog.bind_op, Prog.bind_ret, Prog.pure_eq_ret]
  iintro #Hrec HO HF H8 HG HD HE Hz Hk
  iapply (wt' P Kn c 26 0 3 3 (PosShare.right fullShare)) $$ Hrec HO HF Hz; iintro ⟨HO, H3, HJ, Hz⟩
  ihave HJ := ((hot_split c 0 2 3 8 3 _ _).2) $$ [HJ HG]; · isplitl [HJ] <;> iassumption
  ihave H7 := ((cold_split c 0 7 3 8 _ _).2) $$ [H3 H8]; · isplitl [H3] <;> iassumption
  icases ((oPt_halves c (B c 0 2) (Fn P 0)).1) $$ HJ with ⟨HA, HB⟩
  iapply (snd' P Kn c 26 0 2 (PosShare.left fullShare) k0_dev32 k0_off46) $$ Hrec HO HA HD; iintro ⟨HO, HA⟩
  ihave HB := ((cold_split c 0 6 2 7 _ _).2) $$ [HB H7]; · isplitl [HB] <;> iassumption
  iapply (snd' P Kn c 27 0 6 (PosShare.right fullShare) k0_dev33 k0_off47) $$ Hrec HO HB HE; iintro ⟨HO, HB⟩
  iapply ret; iapply Hk $$ %_
  isplitl [HO]; · iexact HO
  isplitl [HA]; · iexact HA
  isplitl [HB]; · iexact HB
  iexact Hz

/-- Range 30: copy 8 of the second half of the columns on its way back arrives, then copy 3 of the second half of the columns on its way back arrives. -/
theorem part30 (c : Dev nD) (v2 v449 v593 v818 v868 : BitVec 32) (Q) (l : List Ent) :
    records P Kn ⊢ iprop(out c 28 -∗ flight c false 1 8 -∗ flight c false 1 3 -∗ zs c l
      -∗ (∀ r, (out c 28 ∗ fi P fullShare c c 1 2 ∗ fi P (PosShare.right fullShare) c c 1 7 ∗ zs c (sR false 1 3 :: sS false 1 3 :: sR false 1 8 :: sS false 1 8 :: l)) -∗ Q r)
      -∗ run c (ap (k0_part30 (F := F)) c v2 v449 v593 v818 v868) Q) := by
  unfold ap run; rw [k0_part30_eq_skeleton]; unfold k0_part30_skel
  simp only [Prog.lift, Prog.bind_op, Prog.bind_ret, Prog.pure_eq_ret]
  iintro #Hrec HO HF HF2 Hz Hk
  iapply (wt' P Kn c 28 1 8 3 (PosShare.right fullShare)) $$ Hrec HO HF Hz; iintro ⟨HO, H8, HG, Hz⟩
  iapply (wt' P Kn c 28 1 3 3 (PosShare.right fullShare)) $$ Hrec HO HF2 Hz; iintro ⟨HO, H3, HJ, Hz⟩
  ihave HJ := ((hot_split c 1 2 3 8 3 _ _).2) $$ [HJ HG]; · isplitl [HJ] <;> iassumption
  ihave H7 := ((cold_split c 1 7 3 8 _ _).2) $$ [H3 H8]; · isplitl [H3] <;> iassumption
  iapply ret; iapply Hk $$ %_
  isplitl [HO]; · iexact HO
  isplitl [HJ]; · iexact HJ
  isplitl [H7]; · iexact H7
  iexact Hz

/-- Range 31: copy 2 of the second half of the columns on its way back starts, then copy 6 of the second half of the columns on its way back starts, then copy 7 of the first half of the columns on its way back arrives, then this device's copy 2 of the first half of the columns on its way back has left. -/
theorem part31 (c : Dev nD) (v2 v849 v909 : BitVec 32) (Q) (l : List Ent) :
    records P Kn ⊢ iprop(out c 28 -∗ fi P fullShare c c 1 2 -∗ fi P (PosShare.right fullShare) c c 1 7 -∗ dstO (F := F) c 1 2 -∗ dstO (F := F) c 1 6 -∗ flight c false 0 7 -∗ flight c false 0 2 -∗ zs c l
      -∗ (∀ r, (out c 30 ∗ flight c false 1 2 ∗ flight c false 1 6 ∗ fi P (PosShare.left fullShare) c c 0 7 ∗ fi P fullShare c (peer c 0 2) 0 7 ∗ fi P (PosShare.left fullShare) c c 0 2 ∗ flight' c false 0 2 ∗ zs c (sS false 0 2 :: sR false 0 7 :: sS false 0 7 :: l)) -∗ Q r)
      -∗ run c (ap (k0_part31 (F := F)) c v2 v849 v909) Q) := by
  unfold ap run; rw [k0_part31_eq_skeleton]; unfold k0_part31_skel
  simp only [Prog.lift, Prog.bind_op, Prog.bind_ret, Prog.pure_eq_ret]
  iintro #Hrec HO H H7 HD HE HF HF2 Hz Hk
  icases ((oPt_halves c (B c 1 2) (Fn P 1)).1) $$ H with ⟨HA, HB⟩
  iapply (snd' P Kn c 28 1 2 (PosShare.left fullShare) k0_dev34 k0_off48) $$ Hrec HO HA HD; iintro ⟨HO, HA⟩
  ihave HB := ((cold_split c 1 6 2 7 _ _).2) $$ [HB H7]; · isplitl [HB] <;> iassumption
  iapply (snd' P Kn c 29 1 6 (PosShare.right fullShare) k0_dev35 k0_off49) $$ Hrec HO HB HE; iintro ⟨HO, HB⟩
  iapply (wt' P Kn c 30 0 7 2 (PosShare.left fullShare)) $$ Hrec HO HF Hz; iintro ⟨HO, H7, HG, Hz⟩
  iapply (wtS' P Kn c 30 0 2 (PosShare.left fullShare)) $$ Hrec HO HF2 Hz; iintro ⟨HO, HF2, H2, Hz⟩
  iapply ret; iapply Hk $$ %_
  isplitl [HO]; · iexact HO
  isplitl [HA]; · iexact HA
  isplitl [HB]; · iexact HB
  isplitl [H7]; · iexact H7
  isplitl [HG]; · iexact HG
  isplitl [H2]; · iexact H2
  isplitl [HF2]; · iexact HF2
  iexact Hz

/-- Range 32: copy 2 of the first half of the columns on its way back arrives, then copy 1 of the first half of the columns on its way back starts, then copy 5 of the first half of the columns on its way back starts, then this device's copy 7 of the second half of the columns on its way back has left. -/
theorem part32 (c : Dev nD) (v2 v233 v377 v985 c0 : BitVec 32) (Q) (l : List Ent) :
    records P Kn ⊢ iprop(out c 30 -∗ flight' c false 0 2 -∗ fi P (PosShare.left fullShare) c c 0 7 -∗ fi P fullShare c (peer c 0 2) 0 7 -∗ fi P (PosShare.left fullShare) c c 0 2 -∗ dstO (F := F) c 0 1 -∗ dstO (F := F) c 0 5 -∗ flight c false 1 7 -∗ zs c l
      -∗ (∀ r, (out c 32 ∗ flight c false 0 1 ∗ flight c false 0 5 ∗ fi P (PosShare.left fullShare) c c 1 7 ∗ flight' c false 1 7 ∗ zs c (sS false 1 7 :: sR false 0 2 :: l)) -∗ Q r)
      -∗ run c (ap (k0_part32 (F := F)) c v2 v233 v377 v985 c0) Q) := by
  unfold ap run; rw [k0_part32_eq_skeleton]; unfold k0_part32_skel
  simp only [Prog.lift, Prog.bind_op, Prog.bind_ret, Prog.pure_eq_ret]
  iintro #Hrec HO HF H7 HG H2 HD HE HF2 Hz Hk
  iapply (wtR' P Kn c 30 0 2 2) $$ Hrec HO HF Hz; iintro ⟨HO, HJ, Hz⟩
  ihave HJ := ((hot_split c 0 1 2 7 2 _ _).2) $$ [HJ HG]; · isplitl [HJ] <;> iassumption
  ihave H6 := ((cold_split c 0 6 2 7 _ _).2) $$ [H2 H7]; · isplitl [H2] <;> iassumption
  icases ((oPt_halves c (B c 0 1) (Fn P 0)).1) $$ HJ with ⟨HA, HB⟩
  iapply (snd' P Kn c 30 0 1 (PosShare.right fullShare) k0_dev36 k0_off50) $$ Hrec HO HB HD; iintro ⟨HO, HB⟩
  ihave HA := ((cold_split c 0 5 1 6 _ _).2) $$ [HA H6]; · isplitl [HA] <;> iassumption
  iapply (snd' P Kn c 31 0 5 (PosShare.left fullShare) k0_dev37 k0_off51) $$ Hrec HO HA HE; iintro ⟨HO, HA⟩
  iapply (wtS' P Kn c 32 1 7 (PosShare.left fullShare)) $$ Hrec HO HF2 Hz; iintro ⟨HO, HF2, H7, Hz⟩
  iapply ret; iapply Hk $$ %_
  isplitl [HO]; · iexact HO
  isplitl [HB]; · iexact HB
  isplitl [HA]; · iexact HA
  isplitl [H7]; · iexact H7
  isplitl [HF2]; · iexact HF2
  iexact Hz

/-- Range 33: copy 7 of the second half of the columns on its way back arrives, then copy 2 of the second half of the columns on its way back arrives, then copy 1 of the second half of the columns on its way back starts. -/
theorem part33 (c : Dev nD) (v2 v305 v449 v880 v950 c1 : BitVec 32) (Q) (l : List Ent) :
    records P Kn ⊢ iprop(out c 32 -∗ flight' c false 1 7 -∗ fi P (PosShare.left fullShare) c c 1 7 -∗ flight c false 1 2 -∗ dstO (F := F) c 1 1 -∗ zs c l
      -∗ (∀ r, (out c 33 ∗ flight c false 1 1 ∗ fi P (PosShare.left fullShare) c c 1 5 ∗ zs c (sR false 1 2 :: sS false 1 2 :: sR false 1 7 :: l)) -∗ Q r)
      -∗ run c (ap (k0_part33 (F := F)) c v2 v305 v449 v880 v950 c1) Q) := by
  unfold ap run; rw [k0_part33_eq_skeleton]; unfold k0_part33_skel
  simp only [Prog.lift, Prog.bind_op, Prog.bind_ret, Prog.pure_eq_ret]
  iintro #Hrec HO HF H7 HF2 HD Hz Hk
  iapply (wtR' P Kn c 32 1 7 2) $$ Hrec HO HF Hz; iintro ⟨HO, HG, Hz⟩
  iapply (wt' P Kn c 32 1 2 2 (PosShare.left fullShare)) $$ Hrec HO HF2 Hz; iintro ⟨HO, H2, HJ, Hz⟩
  ihave HJ := ((hot_split c 1 1 2 7 2 _ _).2) $$ [HJ HG]; · isplitl [HJ] <;> iassumption
  ihave H6 := ((cold_split c 1 6 2 7 _ _).2) $$ [H2 H7]; · isplitl [H2] <;> iassumption
  icases ((oPt_halves c (B c 1 1) (Fn P 1)).1) $$ HJ with ⟨HA, HB⟩
  iapply (snd' P Kn c 32 1 1 (PosShare.right fullShare) k0_dev38 k0_off52) $$ Hrec HO HB HD; iintro ⟨HO, HB⟩
  ihave HA := ((cold_split c 1 5 1 6 _ _).2) $$ [HA H6]; · isplitl [HA] <;> iassumption
  iapply ret; iapply Hk $$ %_
  isplitl [HO]; · iexact HO
  isplitl [HB]; · iexact HB
  isplitl [HA]; · iexact HA
  iexact Hz

/-- Range 34: copy 5 of the second half of the columns on its way back starts, then copy 6 of the first half of the columns on its way back arrives, then copy 1 of the first half of the columns on its way back arrives. -/
theorem part34 (c : Dev nD) (v2 v921 v991 v1044 c1 : BitVec 32) (Q) (l : List Ent) :
    records P Kn ⊢ iprop(out c 33 -∗ fi P (PosShare.left fullShare) c c 1 5 -∗ dstO (F := F) c 1 5 -∗ flight c false 0 6 -∗ flight c false 0 1 -∗ zs c l
      -∗ (∀ r, (out c 34 ∗ flight c false 1 5 ∗ fi P fullShare c c 0 0 ∗ fi P (PosShare.right fullShare) c c 0 5 ∗ zs c (sR false 0 1 :: sS false 0 1 :: sR false 0 6 :: sS false 0 6 :: l)) -∗ Q r)
      -∗ run c (ap (k0_part34 (F := F)) c v2 v921 v991 v1044 c1) Q) := by
  unfold ap run; rw [k0_part34_eq_skeleton]; unfold k0_part34_skel
  simp only [Prog.lift, Prog.bind_op, Prog.bind_ret, Prog.pure_eq_ret]
  iintro #Hrec HO H5 HE HF HF2 Hz Hk
  iapply (snd' P Kn c 33 1 5 (PosShare.left fullShare) k0_dev39 k0_off53) $$ Hrec HO H5 HE; iintro ⟨HO, H5⟩
  iapply (wt' P Kn c 34 0 6 1 (PosShare.right fullShare)) $$ Hrec HO HF Hz; iintro ⟨HO, H6, HG, Hz⟩
  iapply (wt' P Kn c 34 0 1 1 (PosShare.right fullShare)) $$ Hrec HO HF2 Hz; iintro ⟨HO, H1, HJ, Hz⟩
  ihave HJ := ((hot_split c 0 0 1 6 1 _ _).2) $$ [HJ HG]; · isplitl [HJ] <;> iassumption
  ihave H1 := ((cold_split c 0 5 1 6 _ _).2) $$ [H1 H6]; · isplitl [H1] <;> iassumption
  iapply ret; iapply Hk $$ %_
  isplitl [HO]; · iexact HO
  isplitl [H5]; · iexact H5
  isplitl [HJ]; · iexact HJ
  isplitl [H1]; · iexact H1
  iexact Hz

/-- Range 35: copy 0 of the first half of the columns on its way back starts, then copy 6 of the second half of the columns on its way back arrives, then this device's copy 1 of the second half of the columns on its way back has left. -/
theorem part35 (c : Dev nD) (v133 v233 v962 v1032 v1073 : BitVec 32) (Q) (l : List Ent) :
    records P Kn ⊢ iprop(out c 34 -∗ fi P fullShare c c 0 0 -∗ dstO (F := F) c 0 0 -∗ flight c false 1 6 -∗ flight c false 1 1 -∗ zs c l
      -∗ (∀ r, (out c 35 ∗ flight c false 0 0 ∗ fi P (PosShare.right fullShare) c c 0 0 ∗ fi P (PosShare.right fullShare) c c 1 6 ∗ fi P fullShare c (peer c 1 1) 1 6 ∗ fi P (PosShare.right fullShare) c c 1 1 ∗ flight' c false 1 1 ∗ zs c (sS false 1 1 :: sR false 1 6 :: sS false 1 6 :: l)) -∗ Q r)
      -∗ run c (ap (k0_part35 (F := F)) c v133 v233 v962 v1032 v1073) Q) := by
  unfold ap run; rw [k0_part35_eq_skeleton]; unfold k0_part35_skel
  simp only [Prog.lift, Prog.bind_op, Prog.bind_ret, Prog.pure_eq_ret]
  iintro #Hrec HO H HD HF HF2 Hz Hk
  icases ((oPt_halves c (B c 0 0) (Fn P 0)).1) $$ H with ⟨HA, HB⟩
  iapply (snd' P Kn c 34 0 0 (PosShare.left fullShare) k0_dev40 k0_off54) $$ Hrec HO HA HD; iintro ⟨HO, HA⟩
  iapply (wt' P Kn c 35 1 6 1 (PosShare.right fullShare)) $$ Hrec HO HF Hz; iintro ⟨HO, H6, HG, Hz⟩
  iapply (wtS' P Kn c 35 1 1 (PosShare.right fullShare)) $$ Hrec HO HF2 Hz; iintro ⟨HO, HF2, H1, Hz⟩
  iapply ret; iapply Hk $$ %_
  isplitl [HO]; · iexact HO
  isplitl [HA]; · iexact HA
  isplitl [HB]; · iexact HB
  isplitl [H6]; · iexact H6
  isplitl [HG]; · iexact HG
  isplitl [H1]; · iexact H1
  isplitl [HF2]; · iexact HF2
  iexact Hz

/-- Range 36: copy 1 of the second half of the columns on its way back arrives, then copy 0 of the second half of the columns on its way back starts, then copy 5 of the first half of the columns on its way back arrives. -/
theorem part36 (c : Dev nD) (v2 v180 v305 v1003 : BitVec 32) (Q) (l : List Ent) :
    records P Kn ⊢ iprop(out c 35 -∗ flight' c false 1 1 -∗ fi P (PosShare.right fullShare) c c 1 6 -∗ fi P fullShare c (peer c 1 1) 1 6 -∗ fi P (PosShare.right fullShare) c c 1 1 -∗ dstO (F := F) c 1 0 -∗ flight c false 0 5 -∗ zs c l
      -∗ (∀ r, (out c 36 ∗ flight c false 1 0 ∗ fi P (PosShare.right fullShare) c c 1 0 ∗ fi P (PosShare.right fullShare) c c 1 5 ∗ fi P (PosShare.left fullShare) c c 0 5 ∗ fi P fullShare c (peer c 0 0) 0 5 ∗ zs c (sR false 0 5 :: sS false 0 5 :: sR false 1 1 :: l)) -∗ Q r)
      -∗ run c (ap (k0_part36 (F := F)) c v2 v180 v305 v1003) Q) := by
  unfold ap run; rw [k0_part36_eq_skeleton]; unfold k0_part36_skel
  simp only [Prog.lift, Prog.bind_op, Prog.bind_ret, Prog.pure_eq_ret]
  iintro #Hrec HO HF H6 HG H1 HD HF2 Hz Hk
  iapply (wtR' P Kn c 35 1 1 1) $$ Hrec HO HF Hz; iintro ⟨HO, HJ, Hz⟩
  ihave HJ := ((hot_split c 1 0 1 6 1 _ _).2) $$ [HJ HG]; · isplitl [HJ] <;> iassumption
  ihave H1 := ((cold_split c 1 5 1 6 _ _).2) $$ [H1 H6]; · isplitl [H1] <;> iassumption
  icases ((oPt_halves c (B c 1 0) (Fn P 1)).1) $$ HJ with ⟨HA, HB⟩
  iapply (snd' P Kn c 35 1 0 (PosShare.left fullShare) k0_dev41 k0_off55) $$ Hrec HO HA HD; iintro ⟨HO, HA⟩
  iapply (wt' P Kn c 36 0 5 0 (PosShare.left fullShare)) $$ Hrec HO HF2 Hz; iintro ⟨HO, H5, HG, Hz⟩
  iapply ret; iapply Hk $$ %_
  isplitl [HO]; · iexact HO
  isplitl [HA]; · iexact HA
  isplitl [HB]; · iexact HB
  isplitl [H1]; · iexact H1
  isplitl [H5]; · iexact H5
  isplitl [HG]; · iexact HG
  iexact Hz

/-- Range 37: copy 0 of the first half of the columns on its way back arrives, then copy 5 of the second half of the columns on its way back arrives, then copy 0 of the second half of the columns on its way back arrives. -/
theorem part37 (c : Dev nD) (v1044 v1073 v1105 : BitVec 32) (Q) (l : List Ent) :
    records P Kn ⊢ iprop(out c 36 -∗ flight c false 0 0 -∗ flight c false 1 5 -∗ flight c false 1 0 -∗ fi P (PosShare.right fullShare) c c 0 0 -∗ fi P (PosShare.right fullShare) c c 0 5 -∗ fi P (PosShare.left fullShare) c c 0 5 -∗ fi P fullShare c (peer c 0 0) 0 5 -∗ fi P (PosShare.right fullShare) c c 1 0 -∗ fi P (PosShare.right fullShare) c c 1 5 -∗ zs c l
      -∗ (∀ r, (out c 36 ∗ oPt c (R 0 1024 0) fullShare (Fn P 0) ∗ oPt c (R 0 1024 1) fullShare (Fn P 1) ∗ zs c (sR false 1 0 :: sS false 1 0 :: sR false 1 5 :: sS false 1 5 :: sR false 0 0 :: sS false 0 0 :: l)) -∗ Q r)
      -∗ run c (ap (k0_part37 (F := F)) c v1044 v1073 v1105) Q) := by
  unfold ap run; rw [k0_part37_eq_skeleton]; unfold k0_part37_skel
  simp only [Prog.lift, Prog.bind_op, Prog.bind_ret, Prog.pure_eq_ret]
  iintro #Hrec HO HF HF2 HF3 HA HB HC HG HA2 HB2 Hz Hk
  iapply (wt' P Kn c 36 0 0 0 (PosShare.left fullShare)) $$ Hrec HO HF Hz; iintro ⟨HO, H0, HJ, Hz⟩
  iapply (wt' P Kn c 36 1 5 0 (PosShare.left fullShare)) $$ Hrec HO HF2 Hz; iintro ⟨HO, HC2, HG2, Hz⟩
  iapply (wt' P Kn c 36 1 0 0 (PosShare.left fullShare)) $$ Hrec HO HF3 Hz; iintro ⟨HO, H02, HJ2, Hz⟩
  ihave H0 := ((oPt_halves c (B c 0 0) (Fn P 0)).2) $$ [H0 HA]; · isplitl [H0] <;> iassumption
  ihave H5 := ((oPt_halves c (B c 0 5) (Fn P 0)).2) $$ [HC HB]; · isplitl [HC] <;> iassumption
  ihave H02 := ((oPt_halves c (B c 1 0) (Fn P 1)).2) $$ [H02 HA2]; · isplitl [H02] <;> iassumption
  ihave H52 := ((oPt_halves c (B c 1 5) (Fn P 1)).2) $$ [HC2 HB2]; · isplitl [HC2] <;> iassumption
  ihave H := ((first_split c 0 _ _).2) $$ [H0 H5 HJ HG]
  · isplitl [HJ HG]
    · isplitl [HJ] <;> iassumption
    · isplitl [H0] <;> iassumption
  ihave H' := ((first_split c 1 _ _).2) $$ [H02 H52 HJ2 HG2]
  · isplitl [HJ2 HG2]
    · isplitl [HJ2] <;> iassumption
    · isplitl [H02] <;> iassumption
  iapply ret; iapply Hk $$ %_
  isplitl [HO]; · iexact HO
  isplitl [H]; · iexact H
  isplitl [H']; · iexact H'
  iexact Hz

end

end Cert.Moe

end
-- ==== Proof.Moe.Body.lean ====
/-
# The kernel's body

The parts of the kernel one after the other, from what a device has at the start to what it gives back at the end.
-/
module

public import proofs.«01_k».proof.Proof.Moe.Start
public import proofs.«01_k».proof.Proof.Moe.Ag

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The whole body -/

/-- A program followed by another one. -/
theorem bnd {α β : Type} (c : Dev nD) (p : Prog (TpuEff nD τ sig (Elt F) Λ₀ .tc) α) (k : α → Prog (TpuEff nD τ sig (Elt F) Λ₀ .tc) β) (Q : β → sProp 𝕄) :
    (run c p (fun a => run c (k a) Q) : sProp 𝕄) ⊢ run c (p >>= k) Q := Entails.of_eq (wp_bind _ _ _ p k Q).symm

/-- The semaphores no copy uses. -/
abbrev unusedL : List Ent := [.inl (14 : DmaSem sig), .inl (24 : DmaSem sig), .inl (34 : DmaSem sig), .inl (44 : DmaSem sig)]

/-- What a device gives back at the end: all the semaphores at zero, all the receive buffers. -/
abbrev doneL : List Ent := [.inl (sR false 1 0), .inl (sS false 1 0), .inl (sR false 1 5), .inl (sS false 1 5), .inl (sR false 0 0), .inl (sS false 0 0), .inl (sR false 0 5), .inl (sS false 0 5), .inl (sR false 1 1), .inl (sS false 1 1), .inl (sR false 1 6), .inl (sS false 1 6), .inl (sR false 0 1), .inl (sS false 0 1), .inl (sR false 0 6), .inl (sS false 0 6), .inl (sR false 1 2), .inl (sS false 1 2), .inl (sR false 1 7), .inl (sS false 1 7), .inl (sR false 0 2), .inl (sS false 0 2), .inl (sR false 0 7), .inl (sS false 0 7), .inl (sR false 1 3), .inl (sS false 1 3), .inl (sR false 1 8), .inl (sS false 1 8), .inl (sR false 0 3), .inl (sS false 0 3), .inl (sR false 0 8), .inl (sS false 0 8), .inl (sR false 1 4), .inl (sS false 1 4), .inl (sR false 0 4), .inl (sS false 0 4), .inr (1, 4), .inl (sR true 1 4), .inl (sS true 1 4), .inr (0, 4), .inl (sR true 0 4), .inl (sS true 0 4), .inr (1, 8), .inl (sR true 1 8), .inl (sS true 1 8), .inr (1, 3), .inl (sR true 1 3), .inl (sS true 1 3), .inr (0, 8), .inl (sR true 0 8), .inl (sS true 0 8), .inr (0, 3), .inl (sR true 0 3), .inl (sS true 0 3), .inr (1, 7), .inl (sR true 1 7), .inl (sS true 1 7), .inr (1, 2), .inl (sR true 1 2), .inl (sS true 1 2), .inr (0, 7), .inl (sR true 0 7), .inl (sS true 0 7), .inr (0, 2), .inl (sR true 0 2), .inl (sS true 0 2), .inr (1, 6), .inl (sR true 1 6), .inl (sS true 1 6), .inr (1, 1), .inl (sR true 1 1), .inl (sS true 1 1), .inr (0, 6), .inl (sR true 0 6), .inl (sS true 0 6), .inr (0, 1), .inl (sR true 0 1), .inl (sS true 0 1), .inr (1, 5), .inl (sR true 1 5), .inl (sS true 1 5), .inr (1, 0), .inl (sR true 1 0), .inl (sS true 1 0), .inr (0, 5), .inl (sR true 0 5), .inl (sS true 0 5), .inr (0, 0), .inl (sR true 0 0), .inl (sS true 0 0), .inl (14 : DmaSem sig), .inl (24 : DmaSem sig), .inl (34 : DmaSem sig), .inl (44 : DmaSem sig)]

/-- The sum of the contributions, as it stands in the output of every device. -/
def outF (P : Dev nD → OutC F) : OutC F := fun i => if (i 1).val < 512 then Fn P 0 i else Fn P 1 i

omit [FloatOps F] in
/-- The two halves of the columns are the output. -/
theorem out_halves (c : Dev nD) (f : OutC F) :
    (oPt c Finset.univ fullShare f : sProp 𝕄) ⊣⊢ iprop(oPt c (R 0 1024 0) fullShare f ∗ oPt c (R 0 1024 1) fullShare f) :=
  oPt_union c R_all.symm (R_sl_disj 0 1024 0 1024) fullShare f

/-- The two halves of the sum. -/
theorem out_final (P : Dev nD → OutC F) (c : Dev nD) :
    iprop(oPt c (R 0 1024 0) fullShare (Fn P 0) ∗ oPt c (R 0 1024 1) fullShare (Fn P 1)) ⊢ (oPt c Finset.univ fullShare (outF P) : sProp 𝕄) := by
  have h0 : (0 : Fin 2).val = 0 := rfl
  have h1 : (1 : Fin 2).val = 1 := rfl
  have hA : (oPt c (R 0 1024 0) fullShare (Fn P 0) : sProp 𝕄) = oPt c (R 0 1024 0) fullShare (outF P) :=
    oPt_congr c fun i hi => by rw [mem_R] at hi; unfold outF; rw [if_pos (by omega)]
  have hB : (oPt c (R 0 1024 1) fullShare (Fn P 1) : sProp 𝕄) = oPt c (R 0 1024 1) fullShare (outF P) :=
    oPt_congr c fun i hi => by rw [mem_R] at hi; unfold outF; rw [if_neg (by omega)]
  rw [hA, hB]; exact (out_halves c (outF P)).2

set_option maxHeartbeats 1600000 in
set_option maxRecDepth 8000 in
/-- The kernel's body on device `c`. -/
theorem body (Is : Dev nD → In F) (Kn : Dev nD × Fin 77 → ℕ) (c : Dev nD) (f0 : OutC F) (Kt : PUnit → sProp 𝕄) :
    records (Pof Is) Kn ⊢ iprop(due c 0 -∗ sigToks c -∗ todo c 0 -∗ cred (tallyAt (barCell c) () 5) -∗ atPos ER (barCell c) 0 ∅ 0 -∗ zs c unusedL
      -∗ bufs (F := F) c 0 -∗ bufs (F := F) c 1 -∗ ins c (Is c) -∗ oPt c Finset.univ fullShare f0
      -∗ ((due c 41 ∗ semVal (barCell c) 0 ∗ zs c doneL ∗ ins c (Is c) ∗ oPt c Finset.univ fullShare (outF (Pof Is))) -∗ Kt ⟨⟩)
      -∗ run c (ap (cc0_body (F := F))) Kt) := by
  rw [cc0_body_eq_skeleton]; unfold cc0_body_skel
  generalize hP : Pof Is = P
  iintro #Hrec HO Ht Htodo Hcr Hat Hz HbA HbB Hin Hout Hk
  ihave Hout := (out_halves c f0).1 $$ Hout
  icases Hout with ⟨HoA, HoB⟩
  iapply (bnd c _ _ _)
  iapply (part1 P Kn c (Is c) _) $$ Hrec HO Ht HbA HbB Hin; iintro ⟨HO, Hin⟩
  iapply (bnd c _ _ _)
  iapply (part2 c (Is c) _ _ _ _ _) $$ Hin; iintro Hin
  iapply (bnd c _ _ _)
  iapply (part3 c (Is c) _ _ _ _ _ _ _ _ _ _ _) $$ Hin; iintro Hin
  iapply (bnd c _ _ _)
  iapply (part4 P Kn c (Is c) _ _ _ _ _ f0 (by rw [← hP]; exact Pof_A Is c) _) $$ Hrec HO Hcr Hat Hin HoA
  iintro %r4 ⟨HO, Hbar, Hra, Hrb, Hin, A0, A1, A2, A3⟩
  obtain ⟨r4_0, r4_1, r4_2, r4_3⟩ := r4
  unfold rooms
  icases Hra with ⟨R00, R05, R01, R06, R02, R07, R03, R08, R04⟩
  icases Hrb with ⟨R10, R15, R11, R16, R12, R17, R13, R18, R14⟩
  ihave HO := (show iprop(due c (5 + 0) ∗ todo c 0) ⊢ (out c 0 : sProp 𝕄) by unfold out; exact BI.Entails.refl _) $$ [HO Htodo]
  · isplitl [HO] <;> iassumption
  iapply (bnd c _ _ _)
  iapply (part5 P Kn c (Is c) _ _ _ _ _ _ _ _) $$ Hrec HO A0 A1 R00 R05 Hin; iintro ⟨HO, F00, F05, Hin⟩
  iapply (bnd c _ _ _)
  iapply (part6 P Kn c _ _ f0 (by rw [← hP]; exact Pof_B Is c) _) $$ Hrec HO R10 R15 HoB; iintro %r6 ⟨HO, F10, F15, B2, B3⟩
  obtain ⟨r6_0, r6_1⟩ := r6
  iapply (bnd c _ _ _)
  iapply (part7 P Kn c _ _ _ _ _) $$ Hrec HO F00 A2 Hz; iintro %r7 ⟨HO, h1, h2, h3, Hz⟩
  obtain ⟨r7_0, r7_1, r7_2, r7_3, r7_4⟩ := r7
  iapply (bnd c _ _ _)
  iapply (part8 P Kn c _ _ _ _ _ _ _) $$ Hrec HO h1 h2 R01 R06 F05 A3 Hz; iintro ⟨HO, h4, h5, h6, h7, h8, Hz⟩
  iapply (bnd c _ _ _)
  iapply (part9 P Kn c _ _ _ _ _ _ _) $$ Hrec HO h8 h6 F10 B2 Hz; iintro %r9 ⟨HO, h9, h10, h11, h12, h13, Hz⟩
  obtain ⟨r9_0, r9_1, r9_2⟩ := r9
  iapply (bnd c _ _ _)
  iapply (part10 P Kn c _ _ _ _ _) $$ Hrec HO h11 h12 R11 R16 F15 Hz; iintro %r10 ⟨HO, h14, h15, h16, Hz⟩
  iapply (bnd c _ _ _)
  iapply (part11 P Kn c _ _ _ _ _ _ _ _) $$ Hrec HO h16 B3 h4 Hz; iintro %r11 ⟨HO, h17, h18, h19, h20, h21, Hz⟩
  obtain ⟨r11_0, r11_1⟩ := r11
  iapply (bnd c _ _ _)
  iapply (part12 P Kn c _ _ _ _ _) $$ Hrec HO h9 h20 R02 Hz; iintro %r12 ⟨HO, h22, h23, Hz⟩
  obtain ⟨r12_0, r12_1⟩ := r12
  iapply (bnd c _ _ _)
  iapply (part13 P Kn c _ _ _ _ _ _) $$ Hrec HO h23 R07 h5 h10 h14 Hz; iintro %r13 ⟨HO, h24, h25, h26, h27, h28, Hz⟩
  iapply (bnd c _ _ _)
  iapply (part14 P Kn c _ _ _ _) $$ Hrec HO h28 h18 R12 Hz; iintro %r14 ⟨HO, h29, h30, h31, Hz⟩
  obtain ⟨r14_0, r14_1, r14_2, r14_3, r14_4⟩ := r14
  iapply (bnd c _ _ _)
  iapply (part15 P Kn c _ _ _ _ _ _ _ _) $$ Hrec HO h31 R17 h15 h19 Hz; iintro %r15 ⟨HO, h32, h33, h34, h35, Hz⟩
  iapply (bnd c _ _ _)
  iapply (part16 P Kn c _ _ _ _ _) $$ Hrec HO h22 h26 Hz; iintro %r16 ⟨HO, h36, h37, h38, Hz⟩
  obtain ⟨r16_0, r16_1, r16_2, r16_3, r16_4, r16_5⟩ := r16
  iapply (bnd c _ _ _)
  iapply (part17 P Kn c _ _ _ _ _ _ _ _ _) $$ Hrec HO h37 h38 R03 R08 h24 h27 Hz; iintro ⟨HO, h39, h40, h41, h42, h43, Hz⟩
  iapply (bnd c _ _ _)
  iapply (part18 P Kn c _ _ _ _ _ _) $$ Hrec HO h43 h41 h30 h34 Hz; iintro %r18 ⟨HO, h44, h45, h46, h47, h48, Hz⟩
  obtain ⟨r18_0, r18_1, r18_2, r18_3⟩ := r18
  iapply (bnd c _ _ _)
  iapply (part19 P Kn c _ _ _ _ _ _ _) $$ Hrec HO h47 h48 R13 R18 h32 Hz; iintro %r19 ⟨HO, h49, h50, h51, Hz⟩
  iapply (bnd c _ _ _)
  iapply (part20 P Kn c _ _ _ _ _ _ _) $$ Hrec HO h51 h35 h39 h44 Hz; iintro %a %b ⟨HO, h52, h53, h54, h55, h56, h57, Hz⟩
  iapply (bnd c _ _ _)
  iapply (part21 P Kn c _ _ _ _ _ _ _) $$ Hrec HO h57 h55 R04 h40 Hz; iintro %r21 ⟨HO, h58, h59, h60, Hz⟩
  obtain ⟨r21_0, r21_1⟩ := r21
  iapply (bnd c _ _ _)
  iapply (part22 P Kn c _ _ _ _ _ _ _) $$ Hrec HO h45 h59 h49 h53 Hz; iintro %r22 ⟨HO, h61, h62, h63, Hz⟩
  obtain ⟨r22_0, r22_1⟩ := r22
  iapply (bnd c _ _ _)
  iapply (part23 P Kn c _ _ _ _ _ _ _) $$ Hrec HO h63 R14 h50 h54 Hz; iintro %a %b ⟨HO, h64, h65, h66, Hz⟩
  iapply (bnd c _ _ _)
  iapply (part24 P Kn c _ _ _ _ _ _) $$ Hrec HO h66 h58 h61 Hz; iintro %r24 ⟨HO, h67, h68, h69, Hz⟩
  obtain ⟨r24_0, r24_1⟩ := r24
  iapply (bnd c _ _ _)
  iapply (part25 P Kn c _ _ _ _ _ _) $$ Hrec HO h69 h60 h64 h67 Hz; iintro %r25 ⟨HO, h70, h71, h72, Hz⟩
  obtain ⟨r25_0, r25_1, r25_2⟩ := r25
  iapply (bnd c _ _ _)
  iapply (part26 P Kn c _ _ _ _ _ _ _) $$ Hrec HO h72 h71 h65 h68 Hz; iintro %r26 ⟨HO, h73, h74, h75, h76, Hz⟩
  obtain ⟨r26_0, r26_1⟩ := r26
  iapply (bnd c _ _ _)
  iapply (part27 P Kn c _ _ _ _ _ _ _) $$ Hrec HO h75 h76 h56 h42 h73 Hz; iintro %r27 ⟨HO, h77, h78, h79, h80, Hz⟩
  obtain ⟨r27_0, r27_1⟩ := r27
  iapply (bnd c _ _ _)
  iapply (part28 P Kn c _ _ _ _ _) $$ Hrec HO h79 h80 h62 h52 h70 Hz; iintro %r28 ⟨HO, h81, h82, h83, h84, Hz⟩
  iapply (bnd c _ _ _)
  iapply (part29 P Kn c _ _ _ _ _ _) $$ Hrec HO h77 h83 h84 h36 h25 Hz; iintro %r29 ⟨HO, h85, h86, Hz⟩
  obtain ⟨r29_0, r29_1⟩ := r29
  iapply (bnd c _ _ _)
  iapply (part30 P Kn c _ _ _ _ _ _ _) $$ Hrec HO h74 h81 Hz; iintro %r30 ⟨HO, h87, h88, Hz⟩
  iapply (bnd c _ _ _)
  iapply (part31 P Kn c _ _ _ _ _) $$ Hrec HO h87 h88 h46 h33 h78 h85 Hz; iintro %r31 ⟨HO, h89, h90, h91, h92, h93, h94, Hz⟩
  obtain ⟨r31_0, r31_1, r31_2⟩ := r31
  iapply (bnd c _ _ _)
  iapply (part32 P Kn c _ _ _ _ _ _ _) $$ Hrec HO h94 h91 h92 h93 h21 h7 h82 Hz; iintro %r32 ⟨HO, h95, h96, h97, h98, Hz⟩
  obtain ⟨r32_0, r32_1, r32_2⟩ := r32
  iapply (bnd c _ _ _)
  iapply (part33 P Kn c _ _ _ _ _ _ _ _) $$ Hrec HO h98 h97 h89 h29 Hz; iintro %r33 ⟨HO, h99, h100, Hz⟩
  obtain ⟨r33_0, r33_1, r33_2⟩ := r33
  iapply (bnd c _ _ _)
  iapply (part34 P Kn c _ _ _ _ _ _ _) $$ Hrec HO h100 h17 h86 h95 Hz; iintro %r34 ⟨HO, h101, h102, h103, Hz⟩
  iapply (bnd c _ _ _)
  iapply (part35 P Kn c _ _ _ _ _ _ _) $$ Hrec HO h102 h3 h90 h99 Hz; iintro %r35 ⟨HO, h104, h105, h106, h107, h108, h109, Hz⟩
  iapply (bnd c _ _ _)
  iapply (part36 P Kn c _ _ _ _ _ _) $$ Hrec HO h109 h106 h107 h108 h13 h96 Hz; iintro %r36 ⟨HO, h110, h111, h112, h113, h114, Hz⟩
  iapply (bnd c _ _ _)
  iapply (part37 P Kn c _ _ _ _ _) $$ Hrec HO h104 h101 h110 h105 h103 h113 h114 h111 h112 Hz; iintro %r37 ⟨HO, h115, h116, Hz⟩
  iapply ret c
  iapply Hk
  unfold out
  icases HO with ⟨HO, -⟩
  isplitl [HO]; · iexact HO
  isplitl [Hbar]; · iexact Hbar
  isplitl [Hz]; · iexact Hz
  isplitl [Hin]; · iexact Hin
  iapply (out_final P c)
  isplitl [h115] <;> iassumption

end Cert.Moe
-- ==== Proof.Moe.Close.lean ====
/-
# What a device gives back

The semaphores the copies used, and the receive buffers put together from the rows of the copies.
-/
module

public import proofs.«01_k».proof.Proof.Moe.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The list of what a device is done with -/

/-- What an entry of the list says. -/
def entP (c : Dev nD) : Ent → sProp 𝕄
  | .inl q => semVal (dCell c q) 0
  | .inr x => rAny (F := F) c x.1 x.2

omit [FloatOps F] in
/-- The list is its entries. -/
theorem zs_entries (c : Dev nD) : ∀ l : List Ent, l.Nodup → (zs c l : sProp 𝕄) ⊢ bigSep l.toFinset (entP (F := F) c)
  | [], _ => by rw [List.toFinset_nil, BI.bigSep_empty]; exact BI.Entails.refl _
  | .inl q :: l, h => by
    rw [List.toFinset_cons, BI.bigSep_insert (by rw [List.mem_toFinset]; exact (List.nodup_cons.mp h).1)]
    exact sep_mono_right (zs_entries c l (List.nodup_cons.mp h).2)
  | .inr x :: l, h => by
    rw [List.toFinset_cons, BI.bigSep_insert (by rw [List.mem_toFinset]; exact (List.nodup_cons.mp h).1)]
    exact sep_mono_right (zs_entries c l (List.nodup_cons.mp h).2)

/-- The kernel's own semaphores. -/
abbrev osem : Fin 76 → SemLoc sig := fun k => .dma ⟨k.val + 5, by have := k.isLt; show _ < 81; omega⟩
/-- Their places in the list. -/
def entS : Fin 76 ↪ Ent := ⟨fun k => .inl ⟨k.val + 5, by have := k.isLt; show _ < 81; omega⟩, fun a b h => by
  have := congrArg Fin.val (Sum.inl.inj h); exact Fin.ext (by simpa using this)⟩
/-- The receive buffers' places in the list. -/
def entR : Fin 2 × Fin 9 ↪ Ent := ⟨.inr, Sum.inr_injective⟩

/-- The list has no entry twice. -/
theorem doneL_nodup : doneL.Nodup := by decide +kernel
/-- The list's entries are the semaphores and the receive buffers. -/
theorem doneL_eq : doneL.toFinset = Finset.univ.map entS ∪ Finset.univ.map entR := by decide +kernel
/-- No semaphore's entry is a receive buffer's. -/
theorem ent_disj : Disjoint (Finset.univ.map entS) (Finset.univ.map entR) := by
  rw [Finset.disjoint_left]; intro x hx hy
  obtain ⟨a, -, ha⟩ := Finset.mem_map.mp hx
  obtain ⟨b, -, hb⟩ := Finset.mem_map.mp hy
  exact absurd (ha.trans hb.symm) (by intro h; cases h)

omit [FloatOps F] in
/-- The whole list is the kernel's own semaphores and all the rows of the receive buffers. -/
theorem done_split (c : Dev nD) :
    (zs c doneL : sProp 𝕄) ⊢ iprop(Pipeline.ownSems0 (Ix := Unit) (Name := ℕ) (U := UU) (Lvl := ℕ) (Val := Elt F) (τ := τ) osem c
      ∗ bigSep Finset.univ fun x : Fin 2 × Fin 9 => rAny (F := F) c x.1 x.2) := by
  refine (zs_entries (F := F) c doneL doneL_nodup).trans (Entails.of_eq ?_)
  rw [doneL_eq, BI.bigSep_union ent_disj, BI.bigSep_map, BI.bigSep_map]
  rfl

/-! ## The receive buffers put together -/

omit [FloatOps F] in
/-- Two ranges of rows that make up a receive buffer. -/
theorem room_join (c : Dev nD) (sl : Fin 2) (s : Fin 5) (a n b m : ℕ) (ha : a + n ≤ rsRows s) (hb : b + m ≤ rsRows s)
    (hd : (a = 0 ∧ b = n ∧ n + m = rsRows s) ∨ (b = 0 ∧ a = m ∧ m + n = rsRows s)) :
    iprop((∃ f, ((rsM sl s).slice (Rect.unit (s := Sn (rsRows s)) ![a, 0] (Sn n).size (r_inb ha)) (fun _ => rfl)).view.loc (c : Thread nD τ)
            ↦[((rsM sl s).slice (Rect.unit (s := Sn (rsRows s)) ![a, 0] (Sn n).size (r_inb ha)) (fun _ => rfl)).view.set]{fullShare} f)
        ∗ (∃ f, ((rsM sl s).slice (Rect.unit (s := Sn (rsRows s)) ![b, 0] (Sn m).size (r_inb hb)) (fun _ => rfl)).view.loc (c : Thread nD τ)
            ↦[((rsM sl s).slice (Rect.unit (s := Sn (rsRows s)) ![b, 0] (Sn m).size (r_inb hb)) (fun _ => rfl)).view.set]{fullShare} f))
      ⊢ (rWhole c sl s : sProp 𝕄) := by
  unfold rWhole
  have hdj : Disjoint ((rsM sl s).view.slice (Rect.unit (s := Sn (rsRows s)) ![a, 0] (Sn n).size (r_inb ha))).set
      ((rsM sl s).view.slice (Rect.unit (s := Sn (rsRows s)) ![b, 0] (Sn m).size (r_inb hb))).set :=
    View.disjoint_slice_of_sep _ _ _ (0 : Fin 2) rfl rfl (by show a + n ≤ b ∨ b + m ≤ a; omega)
  have hU : ((rsM sl s).view.slice (Rect.unit (s := Sn (rsRows s)) ![a, 0] (Sn n).size (r_inb ha))).set
      ∪ ((rsM sl s).view.slice (Rect.unit (s := Sn (rsRows s)) ![b, 0] (Sn m).size (r_inb hb))).set = (rsM sl s).view.set := by
    refine Finset.Subset.antisymm (Finset.union_subset (View.set_slice_subset _ _) (View.set_slice_subset _ _)) fun i hi => ?_
    obtain ⟨x, -, rfl⟩ := Finset.mem_map.mp hi
    rw [Finset.mem_union, View.set_slice, View.set_slice, Finset.mem_map', Finset.mem_map', Rect.mem_set_unit, Rect.mem_set_unit]
    have h0 : (x 0).val < rsRows s := (x 0).isLt
    have h1 : (x 1).val < 512 := (x 1).isLt
    by_cases h : a ≤ (x 0).val ∧ (x 0).val < a + n
    · left; intro e
      match e with
      | 0 => exact h
      | 1 => exact ⟨Nat.zero_le _, by show (x 1).val < 0 + 512; omega⟩
    · right; intro e
      match e with
      | 0 => show b ≤ (x 0).val ∧ (x 0).val < b + m; omega
      | 1 => exact ⟨Nat.zero_le _, by show (x 1).val < 0 + 512; omega⟩
  iintro ⟨⟨%f, H1⟩, %g, H2⟩
  ihave H := (pointsTo_join (f := f) (g := g) (q := fullShare) hdj) $$ [H1 H2]
  · isplitl [H1] <;> iassumption
  iexists _
  rw [← hU]
  iexact H

/-- The two copies of a step lie one after the other and fill its receive buffer. -/
theorem dr_cover (c : Dev nD) (sl : Fin 2) (s : Fin 4) :
    (dr c sl ⟨s.val, by omega⟩ = 0 ∧ dr c sl ⟨s.val + 5, by omega⟩ = bsz ⟨s.val, by omega⟩ ∧ bsz ⟨s.val, by omega⟩ + bsz ⟨s.val + 5, by omega⟩ = rsRows ⟨s.val, by omega⟩)
      ∨ (dr c sl ⟨s.val + 5, by omega⟩ = 0 ∧ dr c sl ⟨s.val, by omega⟩ = bsz ⟨s.val + 5, by omega⟩
        ∧ bsz ⟨s.val + 5, by omega⟩ + bsz ⟨s.val, by omega⟩ = rsRows ⟨s.val, by omega⟩) := by revert c sl s; decide +kernel
/-- The last step's copy starts at its buffer's first row and has 32 rows. -/
theorem dr_last (c : Dev nD) (sl : Fin 2) : dr c sl 4 = 0 ∧ bsz 4 = 32 := by revert c sl; decide +kernel

omit [FloatOps F] in
/-- The rooms of a step's copies are its receive buffer. -/
theorem join0 (c : Dev nD) (sl : Fin 2) : iprop(rAny c sl 0 ∗ rAny c sl 5) ⊢ (rWhole c sl 0 : sProp 𝕄) :=
  room_join c sl 0 _ _ _ _ (dr_inb c sl 0) (dr_inb c sl 5) (dr_cover c sl 0)
omit [FloatOps F] in
/-- The same for step 1. -/
theorem join1 (c : Dev nD) (sl : Fin 2) : iprop(rAny c sl 1 ∗ rAny c sl 6) ⊢ (rWhole c sl 1 : sProp 𝕄) :=
  room_join c sl 1 _ _ _ _ (dr_inb c sl 1) (dr_inb c sl 6) (dr_cover c sl 1)
omit [FloatOps F] in
/-- The same for step 2. -/
theorem join2 (c : Dev nD) (sl : Fin 2) : iprop(rAny c sl 2 ∗ rAny c sl 7) ⊢ (rWhole c sl 2 : sProp 𝕄) :=
  room_join c sl 2 _ _ _ _ (dr_inb c sl 2) (dr_inb c sl 7) (dr_cover c sl 2)
omit [FloatOps F] in
/-- The same for step 3. -/
theorem join3 (c : Dev nD) (sl : Fin 2) : iprop(rAny c sl 3 ∗ rAny c sl 8) ⊢ (rWhole c sl 3 : sProp 𝕄) :=
  room_join c sl 3 _ _ _ _ (dr_inb c sl 3) (dr_inb c sl 8) (dr_cover c sl 3)
omit [FloatOps F] in
/-- The same for step 4, which has one copy. -/
theorem join4 (c : Dev nD) (sl : Fin 2) : rAny c sl 4 ⊢ (rWhole c sl 4 : sProp 𝕄) := by
  unfold rWhole rAny
  iintro ⟨%f, H⟩
  have h1 : (rsM sl 4).view.set ⊆ (rSl c sl 4).view.set := by
    intro i hi
    obtain ⟨x, -, rfl⟩ := Finset.mem_map.mp hi
    have h0 : (x 0).val < 32 := (x 0).isLt
    have h1 : (x 1).val < 512 := (x 1).isLt
    have hl := dr_last c sl
    show _ ∈ ((rsM sl 4).view.slice (Rect.unit (s := Sn (rsRows 4)) ![dr c sl 4, 0] (Sn (bsz 4)).size (r_inb (dr_inb c sl 4)))).set
    rw [View.set_slice, Finset.mem_map', Rect.mem_set_unit]
    intro e
    match e with
    | 0 => show dr c sl 4 ≤ (x 0).val ∧ (x 0).val < dr c sl 4 + bsz 4; omega
    | 1 => exact ⟨Nat.zero_le _, by show (x 1).val < 0 + 512; omega⟩
  icases ((pointsTo_split_subset (f := f) (q := fullShare) h1).1) $$ H with ⟨H1, -⟩
  iexists f; iexact H1

omit [FloatOps F] in
/-- All the rooms are all the receive buffers. -/
theorem rooms_join (c : Dev nD) : (bigSep Finset.univ fun x : Fin 2 × Fin 9 => rAny (F := F) c x.1 x.2 : sProp 𝕄) ⊢ iprop(bufs c 0 ∗ bufs c 1) := by
  have h : ∀ sl : Fin 2, (bigSep Finset.univ fun k : Fin 9 => rAny (F := F) c sl k : sProp 𝕄) ⊢ bufs c sl := fun sl => by
    rw [bigSep_univ_eq_bigSepL [0, 1, 2, 3, 4, 5, 6, 7, 8] (by decide) (by decide)]
    show iprop(rAny (F := F) c sl 0 ∗ rAny (F := F) c sl 1 ∗ rAny (F := F) c sl 2 ∗ rAny (F := F) c sl 3 ∗ rAny (F := F) c sl 4 ∗ rAny (F := F) c sl 5
      ∗ rAny (F := F) c sl 6 ∗ rAny (F := F) c sl 7 ∗ rAny (F := F) c sl 8) ⊢ _
    unfold bufs
    iintro ⟨H0, H1, H2, H3, H4, H5, H6, H7, H8⟩
    isplitl [H0 H5]; · iapply (join0 (F := F) c sl); isplitl [H0] <;> iassumption
    isplitl [H1 H6]; · iapply (join1 (F := F) c sl); isplitl [H1] <;> iassumption
    isplitl [H2 H7]; · iapply (join2 (F := F) c sl); isplitl [H2] <;> iassumption
    isplitl [H3 H8]; · iapply (join3 (F := F) c sl); isplitl [H3] <;> iassumption
    iapply (join4 (F := F) c sl); iexact H4
  rw [BI.bigSep_univ_prod, bigSep_univ_eq_bigSepL [0, 1] (by decide) (by decide)]
  exact BI.sep_mono (h 0) (h 1)

omit [FloatOps F] in
/-- The whole view of a buffer at any contents is the buffer at any contents. -/
theorem whole_pt (c : Dev nD) (b : Ref sig .tc) :
    (iprop(∃ f, ((Memref.whole b).view.loc (c : Thread nD τ)) ↦[(Memref.whole b).view.set]{fullShare} f) : sProp 𝕄)
      = iprop(∃ f : Buf (Elt F) ((c : Thread nD τ).loc b), ((c : Thread nD τ).loc b) ↦{fullShare} f) := by
  simp only [Memref.view_whole, View.set_whole]

omit [FloatOps F] in
/-- The receive buffers are the launch's scoped buffers. -/
theorem scoped_bufs (c : Dev nD) :
    (Pipeline.scopedRest (Ix := Unit) (Name := ℕ) (U := UU) (Lvl := ℕ) (Val := Elt F) cfg0.spec c : sProp 𝕄) ⊣⊢ iprop(bufs c 0 ∗ bufs c 1) := by
  have e : (bufs c 0 : sProp 𝕄) = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)) := by
    rw [← whole_pt, ← whole_pt, ← whole_pt, ← whole_pt, ← whole_pt]; rfl
  have e' : (bufs c 1 : sProp 𝕄) = iprop((∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)
      ∗ (∃ f : Buf (Elt F) ((c : Thread nD τ).loc cc0_scratch8), ((c : Thread nD τ).loc cc0_scratch8) ↦{fullShare} f)
      ∗ (∃ f : Buf (Elt F) ((c : Thread nD τ).loc cc0_scratch9), ((c : Thread nD τ).loc cc0_scratch9) ↦{fullShare} f)) := by
    rw [← whole_pt, ← whole_pt, ← whole_pt, ← whole_pt, ← whole_pt]; rfl
  rw [e, e']
  rw [show (Pipeline.scopedRest (Ix := Unit) (Name := ℕ) (U := UU) (Lvl := ℕ) (Val := Elt F) cfg0.spec c : sProp 𝕄) = _ from
    scopedRest0_eq (Ix := Unit) (Name := ℕ) (U := UU) (Lvl := ℕ) (Val := Elt F) c]
  constructor
  · iintro ⟨H0, H1, H2, H3, H4, H5, H6, H7, H8, H9⟩
    isplitl [H0 H1 H2 H3 H4]
    · isplitl [H0]; · iexact H0
      isplitl [H1]; · iexact H1
      isplitl [H2]; · iexact H2
      isplitl [H3] <;> iassumption
    · isplitl [H5]; · iexact H5
      isplitl [H6]; · iexact H6
      isplitl [H7]; · iexact H7
      isplitl [H8] <;> iassumption
  · iintro ⟨⟨H0, H1, H2, H3, H4⟩, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption

omit [FloatOps F] in
/-- What the kernel gives back is what the launch asks for. -/
theorem give_back (c : Dev nD) :
    (zs c doneL : sProp 𝕄) ⊢ iprop(Pipeline.ownSems0 (Ix := Unit) (Name := ℕ) (U := UU) (Lvl := ℕ) (Val := Elt F) (τ := τ) osem c
      ∗ Pipeline.scopedRest (Ix := Unit) (Name := ℕ) (U := UU) (Lvl := ℕ) (Val := Elt F) cfg0.spec c) :=
  (done_split (F := F) c).trans (sep_mono_right ((rooms_join (F := F) c).trans (scoped_bufs (F := F) c).2))

end Cert.Moe
-- ==== Proof.Moe.Deal.lean ====
/-
# What the launch deals out

The permissions of the semaphores' rounds, handed to the devices that use them.
-/
module

public import proofs.«01_k».proof.Proof.Moe.Close

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the duties -/

/-- Different device and place, different cell. -/
theorem kcell_injective : Function.Injective (kcell : Dev nD × Fin 77 → GSem nD τ sig) := by
  rintro ⟨c, k⟩ ⟨c', k'⟩ h
  have h1 : c = c' := congrArg (fun g : GSem nD τ sig => g.1.1) h
  subst h1
  have h2 : semI k = semI k' := congrArg Prod.snd h
  have : k = k' := by
    unfold semI at h2
    split at h2 <;> split at h2
    · rename_i a b; rw [a, b]
    · cases h2
    · cases h2
    · have := congrArg (fun s : SemLoc sig => match s with | .dma q => q.val | _ => 0) h2
      exact Fin.ext (by simpa using this)
  subst this; rfl
/-- All the cells. -/
def theCells : Finset (GSem nD τ sig) := Finset.univ.map ⟨kcell, kcell_injective⟩

/-- The duties of a device's own cells: the barrier's five, and one for each semaphore of a copy. -/
def tok (c : Dev nD) (t : Fin 81) : GSem nD τ sig × ℕ × D :=
  if h : t.val < 5 then (barCell c, 0, ⟨t.val, h⟩) else (dCell c ⟨t.val, t.isLt⟩, 0, 0)
/-- Different device and place, different duty. -/
theorem tok_injective : Function.Injective (fun ct : Dev nD × Fin 81 => tok ct.1 ct.2) := by
  rintro ⟨c, t⟩ ⟨c', t'⟩ h
  simp only at h
  unfold tok at h
  split at h <;> split at h
  · have h1 : c = c' := congrArg (fun x : GSem nD τ sig × ℕ × D => x.1.1.1) h
    have h2 := congrArg (fun x : GSem nD τ sig × ℕ × D => x.2.2.val) h
    simp only at h2
    rw [h1, Fin.ext h2]
  · have := congrArg (fun x : GSem nD τ sig × ℕ × D => x.1.2) h; cases this
  · have := congrArg (fun x : GSem nD τ sig × ℕ × D => x.1.2) h; cases this
  · have h1 : c = c' := congrArg (fun x : GSem nD τ sig × ℕ × D => x.1.1.1) h
    have h2 := congrArg (fun x : GSem nD τ sig × ℕ × D => match x.1.2 with | .dma q => q.val | _ => 0) h
    simp only at h2
    rw [h1, Fin.ext h2]
def theToks : Finset (GSem nD τ sig × ℕ × D) := Finset.univ.map ⟨fun ct : Dev nD × Fin 81 => tok ct.1 ct.2, tok_injective⟩

/-- The permission for a duty. -/
abbrev tokP (x : GSem nD τ sig × ℕ × D) : sProp 𝕄 := dutyTok ER x.1 x.2.1 x.2.2

/-- The direction across which the device that pays a duty lies. -/
def mk (t : Fin 81) : Fin 32 :=
  if h : t.val < 5 then bmsk ⟨t.val, h⟩ else match kindOf ⟨t.val, t.isLt⟩ with | some (_, true, sl, k) => msk sl (stg k) | _ => 0

/-- The permissions for the duties of a device's own cells; -/
def toks (c : Dev nD) : sProp 𝕄 := bigSep Finset.univ fun t : Fin 81 => tokP (F := F) (tok c t)
/-- for the duties the device pays. -/
def payToks (c : Dev nD) : sProp 𝕄 := bigSep Finset.univ fun t : Fin 81 => tokP (F := F) (tok (xr c (mk t)) t)

omit [FloatOps F] in
/-- Every duty's permission goes to the device that pays it. -/
theorem toks_around : (bigSep Finset.univ fun c : Dev nD => (toks (F := F) c : sProp 𝕄)) = bigSep Finset.univ fun c : Dev nD => payToks (F := F) c := by
  unfold toks payToks
  rw [BI.bigSep_univ_comm, BI.bigSep_univ_comm (fun (c : Dev nD) (t : Fin 81) => tokP (F := F) (tok (xr c (mk t)) t))]
  exact bigSep_congr fun t _ => BI.bigSep_univ_equiv (xrEquiv (mk t)) (fun c : Dev nD => tokP (F := F) (tok c t))

/-! ## Sorted by the copies -/

omit [FloatOps F] in
/-- What is given for each member of a list of places, given for the places in their four kinds. -/
theorem four_kinds {a n : ℕ} (e1 : Fin a ↪ Fin n) (e2 e3 : Fin 36 ↪ Fin n) (e4 : Fin 4 ↪ Fin n)
    (h : (Finset.univ : Finset (Fin n)) = Finset.univ.map e1 ∪ (Finset.univ.map e2 ∪ (Finset.univ.map e3 ∪ Finset.univ.map e4)))
    (d1 : Disjoint (Finset.univ.map e1) (Finset.univ.map e2 ∪ (Finset.univ.map e3 ∪ Finset.univ.map e4)))
    (d2 : Disjoint (Finset.univ.map e2) (Finset.univ.map e3 ∪ Finset.univ.map e4))
    (d3 : Disjoint (Finset.univ.map e3) (Finset.univ.map e4)) (Φ : Fin n → sProp 𝕄) :
    bigSep Finset.univ Φ ⊢ iprop((bigSep Finset.univ fun i => Φ (e1 i)) ∗ (bigSep Finset.univ fun i => Φ (e2 i))
      ∗ (bigSep Finset.univ fun i => Φ (e3 i)) ∗ (bigSep Finset.univ fun i => Φ (e4 i))) := by
  rw [h, BI.bigSep_union d1, BI.bigSep_union d2, BI.bigSep_union d3, BI.bigSep_map, BI.bigSep_map, BI.bigSep_map, BI.bigSep_map]
  exact BI.Entails.refl _

/-- The semaphores of the copy at a place of the program's order. -/
def qS (o : Fin 36) : DmaSem sig := sS (cpAt o).1 (cpAt o).2.1 (cpAt o).2.2
def qR (o : Fin 36) : DmaSem sig := sR (cpAt o).1 (cpAt o).2.1 (cpAt o).2.2
/-- The semaphores of no copy. -/
def qU (j : Fin 4) : DmaSem sig := match j with | 0 => (14 : DmaSem sig) | 1 => (24 : DmaSem sig) | 2 => (34 : DmaSem sig) | 3 => (44 : DmaSem sig)

/-- No two copies share a sender's semaphore. -/
theorem qS_inj : ∀ a b, qS a = qS b → a = b := by decide +kernel
/-- No two copies share a receiver's semaphore. -/
theorem qR_inj : ∀ a b, qR a = qR b → a = b := by decide +kernel
/-- The semaphores of no copy are different. -/
theorem qU_inj : ∀ a b, qU a = qU b → a = b := by decide +kernel

/-- The duties' places. -/
def tB : Fin 5 ↪ Fin 81 := ⟨fun d => ⟨d.val, by omega⟩, fun a b h => Fin.ext (by simpa using congrArg Fin.val h)⟩
def tS : Fin 36 ↪ Fin 81 := ⟨fun o => ⟨(qS o).val, (qS o).isLt⟩, fun a b h => qS_inj a b (Fin.ext (by simpa using congrArg Fin.val h))⟩
def tR : Fin 36 ↪ Fin 81 := ⟨fun o => ⟨(qR o).val, (qR o).isLt⟩, fun a b h => qR_inj a b (Fin.ext (by simpa using congrArg Fin.val h))⟩
def tU : Fin 4 ↪ Fin 81 := ⟨fun o => ⟨(qU o).val, (qU o).isLt⟩, fun a b h => qU_inj a b (Fin.ext (by simpa using congrArg Fin.val h))⟩

/-- Different semaphores of copies have different places among the cells. -/
theorem ixq_inj (p q : DmaSem sig) (hp : 5 ≤ p.val) (hq : 5 ≤ q.val) (h : ixq p = ixq q) : p = q := by
  have := congrArg Fin.val h
  unfold ixq at this
  exact Fin.ext (by simp only at this; omega)
/-- The semaphores of no copy are not the staging ones. -/
theorem five_le_qU (j : Fin 4) : 5 ≤ (qU j).val := by revert j; decide +kernel

/-- The cells' places. -/
def kB : Fin 1 ↪ Fin 77 := ⟨fun _ => 0, fun a b _ => Subsingleton.elim a b⟩
def kS : Fin 36 ↪ Fin 77 := ⟨fun o => ixq (qS o), fun a b h => qS_inj a b (ixq_inj _ _ (five_le_sS _ _ _) (five_le_sS _ _ _) h)⟩
def kR : Fin 36 ↪ Fin 77 := ⟨fun o => ixq (qR o), fun a b h => qR_inj a b (ixq_inj _ _ (five_le_sR _ _ _) (five_le_sR _ _ _) h)⟩
def kU : Fin 4 ↪ Fin 77 := ⟨fun o => ixq (qU o), fun a b h => qU_inj a b (ixq_inj _ _ (five_le_qU _) (five_le_qU _) h)⟩

/-- A barrier duty goes in the direction of its signal. -/
theorem mk_bar (d : Fin 5) : mk (tB d) = bmsk d := by revert d; decide +kernel
/-- A sender's duty stays on its device. -/
theorem mk_S (o : Fin 36) : mk (tS o) = 0 := by revert o; decide +kernel
/-- A receiver's duty goes in the direction of its copy. -/
theorem mk_R (o : Fin 36) : mk (tR o) = msk (cpAt o).2.1 (stg (cpAt o).2.2) := by revert o; decide +kernel
/-- Direction 0 stays on the device. -/
theorem xr_none (c : Dev nD) : xr c 0 = c := Fin.ext (Nat.xor_zero _)

/-- The first five duties are the barrier's. -/
theorem tok_B (c : Dev nD) (d : Fin 5) : tok c (tB d) = (barCell c, 0, d) := dif_pos (show (tB d).val < 5 from d.isLt)
/-- The duty at a sender's place is the sender's semaphore's. -/
theorem tok_S (c : Dev nD) (o : Fin 36) : tok c (tS o) = (dCell c (qS o), 0, 0) :=
  dif_neg (show ¬ (tS o).val < 5 by have := five_le_sS (cpAt o).1 (cpAt o).2.1 (cpAt o).2.2; show ¬ (qS o).val < 5; unfold qS; omega)
/-- The duty at a receiver's place is the receiver's semaphore's. -/
theorem tok_R (c : Dev nD) (o : Fin 36) : tok c (tR o) = (dCell c (qR o), 0, 0) :=
  dif_neg (show ¬ (tR o).val < 5 by have := five_le_sR (cpAt o).1 (cpAt o).2.1 (cpAt o).2.2; show ¬ (qR o).val < 5; unfold qR; omega)

omit [FloatOps F] in
/-- A device's permissions to pay: its five signals', and both of each copy's. -/
theorem payToks_sorted (c : Dev nD) : (payToks (F := F) c : sProp 𝕄) ⊢ iprop(sigToks (F := F) c
      ∗ (bigSep Finset.univ fun o : Fin 36 => (dutyTok ER (dCell c (qS o)) 0 0 : sProp 𝕄))
      ∗ (bigSep Finset.univ fun o : Fin 36 => (dutyTok ER (dCell (peer c (cpAt o).2.1 (stg (cpAt o).2.2)) (qR o)) 0 0 : sProp 𝕄))) := by
  unfold payToks
  refine (four_kinds (F := F) tB tS tR tU (by decide +kernel) (by decide +kernel) (by decide +kernel) (by decide +kernel) _).trans ?_
  have hB : (bigSep Finset.univ fun d : Fin 5 => tokP (F := F) (tok (xr c (mk (tB d))) (tB d))) = (sigToks (F := F) c : sProp 𝕄) := by
    rw [bigSep_congr (fun d _ => by rw [mk_bar, tok_B] : ∀ d ∈ Finset.univ, tokP (F := F) (tok (xr c (mk (tB d))) (tB d)) = tokP (F := F) (barCell (xr c (bmsk d)), 0, d)),
      bigSep_univ_eq_bigSepL [0, 1, 2, 3, 4] (by decide) (by decide)]
    rfl
  have hS : (bigSep Finset.univ fun o : Fin 36 => tokP (F := F) (tok (xr c (mk (tS o))) (tS o)))
      = (bigSep Finset.univ fun o : Fin 36 => (dutyTok ER (dCell c (qS o)) 0 0 : sProp 𝕄)) :=
    bigSep_congr fun o _ => by rw [mk_S, xr_none, tok_S]
  have hR : (bigSep Finset.univ fun o : Fin 36 => tokP (F := F) (tok (xr c (mk (tR o))) (tR o)))
      = (bigSep Finset.univ fun o : Fin 36 => (dutyTok ER (dCell (peer c (cpAt o).2.1 (stg (cpAt o).2.2)) (qR o)) 0 0 : sProp 𝕄)) :=
    bigSep_congr fun o _ => by rw [mk_R, tok_R]; rfl
  rw [hB, hS, hR]
  iintro ⟨H1, H2, H3, -⟩
  isplitl [H1]; · iexact H1
  isplitl [H2] <;> iassumption

omit [FloatOps F] in
/-- The cell at a semaphore's place is that semaphore's. -/
theorem kcell_q (c : Dev nD) (q : DmaSem sig) (h : 5 ≤ q.val) : kcell (c, ixq q) = dCell c q := by
  show ((c : Thread nD τ), semI (ixq q)) = _
  rw [semI_ixq q h]

omit [FloatOps F] in
/-- A device's places in its cells' rounds. -/
theorem atPos_sorted (c : Dev nD) : (bigSep Finset.univ fun k : Fin 77 => (atPos ER (kcell (c, k)) 0 ∅ 0 : sProp 𝕄)) ⊢ iprop(atPos ER (barCell c) 0 ∅ 0
      ∗ (bigSep Finset.univ fun o : Fin 36 => (atPos ER (dCell c (qS o)) 0 ∅ 0 : sProp 𝕄))
      ∗ (bigSep Finset.univ fun o : Fin 36 => (atPos ER (dCell c (qR o)) 0 ∅ 0 : sProp 𝕄))
      ∗ atPos ER (dCell c (14 : DmaSem sig)) 0 ∅ 0 ∗ atPos ER (dCell c (24 : DmaSem sig)) 0 ∅ 0
      ∗ atPos ER (dCell c (34 : DmaSem sig)) 0 ∅ 0 ∗ atPos ER (dCell c (44 : DmaSem sig)) 0 ∅ 0) := by
  refine (four_kinds (F := F) kB kS kR kU (by decide +kernel) (by decide +kernel) (by decide +kernel) (by decide +kernel) _).trans ?_
  have hS : (bigSep Finset.univ fun o : Fin 36 => (atPos ER (kcell (c, kS o)) 0 ∅ 0 : sProp 𝕄))
      = (bigSep Finset.univ fun o : Fin 36 => (atPos ER (dCell c (qS o)) 0 ∅ 0 : sProp 𝕄)) :=
    bigSep_congr fun o _ => by rw [show kcell (c, kS o) = dCell c (qS o) from kcell_q c _ (five_le_sS _ _ _)]
  have hR : (bigSep Finset.univ fun o : Fin 36 => (atPos ER (kcell (c, kR o)) 0 ∅ 0 : sProp 𝕄))
      = (bigSep Finset.univ fun o : Fin 36 => (atPos ER (dCell c (qR o)) 0 ∅ 0 : sProp 𝕄)) :=
    bigSep_congr fun o _ => by rw [show kcell (c, kR o) = dCell c (qR o) from kcell_q c _ (five_le_sR _ _ _)]
  have hU : (bigSep Finset.univ fun o : Fin 4 => (atPos ER (kcell (c, kU o)) 0 ∅ 0 : sProp 𝕄))
      = iprop(atPos ER (dCell c (14 : DmaSem sig)) 0 ∅ 0 ∗ atPos ER (dCell c (24 : DmaSem sig)) 0 ∅ 0
      ∗ atPos ER (dCell c (34 : DmaSem sig)) 0 ∅ 0 ∗ atPos ER (dCell c (44 : DmaSem sig)) 0 ∅ 0) := by
    rw [bigSep_congr (fun o _ => by rw [show kcell (c, kU o) = dCell c (qU o) from kcell_q c _ (five_le_qU _)] :
        ∀ o ∈ Finset.univ, (atPos ER (kcell (c, kU o)) 0 ∅ 0 : sProp 𝕄) = atPos ER (dCell c (qU o)) 0 ∅ 0),
      bigSep_univ_eq_bigSepL [0, 1, 2, 3] (by decide) (by decide)]
    rfl
  have hB : (bigSep Finset.univ fun o : Fin 1 => (atPos ER (kcell (c, kB o)) 0 ∅ 0 : sProp 𝕄)) = atPos ER (barCell c) 0 ∅ 0 := by
    rw [bigSep_univ_eq_bigSepL [0] (by decide) (by decide)]; rfl
  rw [hS, hR, hU, hB]

omit [FloatOps F] in
/-- What each copy needs, put together. -/
theorem todo_intro (c : Dev nD) : iprop((bigSep Finset.univ fun o : Fin 36 => (dutyTok ER (dCell c (qS o)) 0 0 : sProp 𝕄))
      ∗ (bigSep Finset.univ fun o : Fin 36 => (dutyTok ER (dCell (peer c (cpAt o).2.1 (stg (cpAt o).2.2)) (qR o)) 0 0 : sProp 𝕄))
      ∗ (bigSep Finset.univ fun o : Fin 36 => (atPos ER (dCell c (qS o)) 0 ∅ 0 : sProp 𝕄))
      ∗ (bigSep Finset.univ fun o : Fin 36 => (atPos ER (dCell c (qR o)) 0 ∅ 0 : sProp 𝕄))
      ∗ (bigSep Finset.univ fun o : Fin 36 => (cred (tallyAt (dCell c (qR o)) () (N (cpAt o).2.2)) : sProp 𝕄)))
      ⊢ (todo (F := F) c 0 : sProp 𝕄) := by
  unfold todo
  rw [Finset.filter_true_of_mem (fun _ _ => Nat.zero_le _), ← bigSep_sep', ← bigSep_sep', ← bigSep_sep', ← bigSep_sep']
  rfl

/-! ## The launch's credit -/

/-- What is owed, by its place in the program's order: the direction, the semaphore, and how much. -/
def obM (i : Fin 41) : Fin 32 := if h : i.val < 5 then bmsk ⟨i.val, h⟩ else let x := cpAt ⟨i.val - 5, by omega⟩; msk x.2.1 (stg x.2.2)
def obS (i : Fin 41) : SemLoc sig := if i.val < 5 then .reg barS else let x := cpAt ⟨i.val - 5, by omega⟩; .dma (sR x.1 x.2.1 x.2.2)
def obN (i : Fin 41) : ℕ := if i.val < 5 then 1 else let x := cpAt ⟨i.val - 5, by omega⟩; N x.2.2
/-- An obligation is its amount on its semaphore across its direction. -/
theorem ob_eq (c : Dev nD) (i : Fin 41) : ob c i = tallyAt ((xr c (obM i) : Thread nD τ), obS i) () (obN i) := by
  unfold ob obM obS obN
  split <;> rfl

/-- All the devices together owe a device's cell what the program's order says. -/
theorem owed_sum (c : Dev nD) (sm : SemLoc sig) :
    (∑ d : Dev nD, Owe d 0 ((c : Thread nD τ), sm) ()) = ∑ i : Fin 41, if obS i = sm then obN i else 0 := by
  have h : ∀ d : Dev nD, Owe d 0 ((c : Thread nD τ), sm) () = ∑ i : Fin 41, if (d = xr c (obM i)) then (if obS i = sm then obN i else 0) else 0 := by
    intro d
    unfold Owe
    rw [Finset.filter_true_of_mem (fun _ _ => Nat.zero_le _), Finset.sum_apply, Finsupp.finset_sum_apply]
    refine Finset.sum_congr rfl fun i _ => ?_
    rw [ob_eq, tallyAt_apply]
    by_cases hd : d = xr c (obM i)
    · subst hd
      rw [xr_xr, if_pos rfl]
      by_cases hs : obS i = sm
      · subst hs; rw [if_pos ⟨rfl, rfl⟩, if_pos rfl]
      · rw [if_neg (fun h => hs (congrArg Prod.snd h.1).symm), if_neg hs]
    · rw [if_neg hd, if_neg (fun h => hd ?_)]
      have h1 : c = xr d (obM i) := congrArg (fun g : GSem nD τ sig => g.1.1) h.1
      rw [h1, xr_xr]
  rw [Finset.sum_congr rfl fun d _ => h d, Finset.sum_comm]
  refine Finset.sum_congr rfl fun i _ => ?_
  rw [Finset.sum_ite_eq' Finset.univ (xr c (obM i)), if_pos (Finset.mem_univ _)]

/-- Five signals are owed to a barrier. -/
theorem owed_bar : (∑ i : Fin 41, if obS i = SemLoc.reg barS then obN i else 0) = 5 := by decide +kernel
/-- A receiver's semaphore is owed the credit of its copy. -/
theorem owed_recv (o : Fin 36) : (∑ i : Fin 41, if obS i = SemLoc.dma (qR o) then obN i else 0) = N (cpAt o).2.2 := by revert o; decide +kernel

omit [FloatOps F] in
/-- The credit the launch gives for a cell is what all the devices owe it. -/
theorem launch_cell (c : Dev nD) (sm : SemLoc sig) (n : ℕ) (h : (∑ i : Fin 41, if obS i = sm then obN i else 0) = n) :
    tallyOn ((c : Thread nD τ), sm) (launchCredit (Pipeline.owing fun d => Owe d 0) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, owed_sum, h]

/-- The receivers' semaphores. -/
def smR : Fin 36 ↪ SemLoc sig := ⟨fun o => .dma (qR o), fun a b h => qR_inj a b (SemLoc.dma.inj h)⟩

omit [FloatOps F] in
/-- A device's credit at the start: what its barrier and its receivers' semaphores will get. -/
theorem creds (c : Dev nD) :
    (Pipeline.launchCred (fun d => Owe d 0) c : sProp 𝕄) ⊢ iprop(cred (tallyAt (barCell c) () 5)
      ∗ bigSep Finset.univ fun o : Fin 36 => (cred (tallyAt (dCell c (qR o)) () (N (cpAt o).2.2)) : sProp 𝕄)) := by
  unfold Pipeline.launchCred
  rw [bigSep_univ_at _ (SemLoc.reg barS), launch_cell c _ 5 owed_bar]
  refine sep_mono_right ?_
  have hsub : Finset.univ.map smR ⊆ Finset.univ.erase (SemLoc.reg barS) := fun x hx => by
    obtain ⟨o, -, rfl⟩ := Finset.mem_map.mp hx
    exact Finset.mem_erase.mpr ⟨(by intro h; cases h), Finset.mem_univ _⟩
  refine (BI.bigSep_subset hsub).trans ?_
  rw [BI.bigSep_map]
  refine Entails.of_eq (bigSep_congr fun o _ => ?_)
  show cred (tallyOn ((c : Thread nD τ), SemLoc.dma (qR o)) (launchCredit (Pipeline.owing fun d => Owe d 0) 0 ((c : Thread nD τ), SemLoc.dma (qR o)))) = _
  rw [launch_cell c _ _ (owed_recv o)]

end Cert.Moe
-- ==== Proof.Moe.Run.lean ====
/-
# The run of the kernel

All the devices together: the launch, the kernel's body on each, and the final state.
-/
module

public import Idealize.ShloMosaic.Lib.Pipeline.CollectiveSegs
public import Idealize.ShloMosaic.Lib.Pipeline.ValueKit.Geometry
public import proofs.«01_k».proof.Proof.Gen.KernelIdeal.Points
public import proofs.«01_k».proof.Proof.Moe.Deal

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The inputs of every device, as its windows hold them. -/
def inp (c : Dev nD) : In F where
  x := (win0_0.blk t0_0).view.read (Elt F) ((s₀ m ρ).mem ((c : Thread nD τ).loc main_arg0))
  r := (win0_1.blk t0_0).view.read (Elt F) ((s₀ m ρ).mem ((c : Thread nD τ).loc main_arg1))
  i := (win0_2.blk t0_0).view.read (Elt F) ((s₀ m ρ).mem ((c : Thread nD τ).loc main_arg2))
  w := (win0_3.blk t0_0).view.read (Elt F) ((s₀ m ρ).mem ((c : Thread nD τ).loc main_arg3))

/-- The devices' contributions, and what every device ends with. -/
abbrev PP : Dev nD → OutC F := Pof (inp m ρ)
abbrev res : OutC F := outF (PP m ρ)

/-! ## The permissions dealt -/

/-- What every device knows of the cells. -/
def recs (Kn : Dev nD × Fin 77 → ℕ) : sProp 𝕄 :=
  bigSep Finset.univ fun ck : Dev nD × Fin 77 => iprop(cellInv ER (Rd (PP m ρ)) (Kn ck) (kcell ck) ∗ reached ER (kcell ck) 0)
instance recs_persistent (Kn : Dev nD × Fin 77 → ℕ) : BI.Persistent (recs m ρ Kn) := by unfold recs; infer_instance

/-- What a device alone has. -/
def linear (c : Dev nD) : sProp 𝕄 := iprop((bigSep Finset.univ fun k : Fin 77 => (atPos ER (kcell (c, k)) 0 ∅ 0 : sProp 𝕄)) ∗ payToks c)

/-- What the launch's element deals a device, -/
def G (c : Dev nD) : sProp 𝕄 :=
  iprop((bigSep Finset.univ fun k : Fin 77 => roundState ER (Rd (PP m ρ)) (kcell (c, k)) 0)
    ∗ (bigSep Finset.univ fun k : Fin 77 => iprop(atPos ER (kcell (c, k)) 0 ∅ 0 ∗ reached ER (kcell (c, k)) 0)) ∗ toks c)
/-- and what becomes of it. -/
def G' (c : Dev nD) : sProp 𝕄 := iprop(∃ Kn, recs m ρ Kn ∗ linear c)

/-- What a device starts from. -/
def start (c : Dev nD) : sProp 𝕄 :=
  iprop(G' m ρ c ∗ (cred (tallyAt (barCell c) () 5) ∗ bigSep Finset.univ fun o : Fin 36 => (cred (tallyAt (dCell c (qR o)) () (N (cpAt o).2.2)) : sProp 𝕄))
    ∗ levAts L lv)

abbrev scr (c : Dev nD) : sProp 𝕄 := Pipeline.scopedRest (Ix := Unit) (Name := ℕ) (U := UU) (Lvl := ℕ) (Val := Elt F) cfg0.spec c
abbrev own0 (c : Dev nD) : sProp 𝕄 := Pipeline.ownSems0 (Ix := Unit) (Name := ℕ) (U := UU) (Lvl := ℕ) (Val := Elt F) (τ := τ) osem c

/-- Before and after the kernel. -/
def Φ₀ (c : Dev nD) : sProp 𝕄 := iprop(start m ρ c ∗ scr c)
def Φ₁ (c : Dev nD) : sProp 𝕄 := iprop(unscopedSems0 c ∗ own0 (F := F) c ∗ scr c)

abbrev O₀ (c : Dev nD) : CellTallies nD τ sig Unit := Owe c 0

/-- The windows' contents and what the kernel keeps, for the launch. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m ρ c).x
    | ⟨1, _⟩ => (inp m ρ c).r
    | ⟨2, _⟩ => (inp m ρ c).i
    | ⟨3, _⟩ => (inp m ρ c).w
    | ⟨4, _⟩ => res m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body's obligation -/

omit [FloatOps F] in
/-- To own the whole view of a buffer is to own the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stgP (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stgP c cc0_stg0_0 ((dats m ρ 0 c).before (0 : Fin 5) t0_0 d))
    ∗ (∃ d, stgP c cc0_stg1_0 ((dats m ρ 0 c).before (1 : Fin 5) t0_0 d))
    ∗ (∃ d, stgP c cc0_stg2_0 ((dats m ρ 0 c).before (2 : Fin 5) t0_0 d))
    ∗ (∃ d, stgP c cc0_stg3_0 ((dats m ρ 0 c).before (3 : Fin 5) t0_0 d))
    ∗ (∃ d, stgP c cc0_stg4_0 ((dats m ρ 0 c).before (4 : Fin 5) t0_0 d)))
def bodyPost (c : Dev nD) : sProp 𝕄 :=
  iprop(Φ₁ c ∗ (dats m ρ 0 c).owesAt () t0_0.succ ∗ stgP c cc0_stg0_0 (inp m ρ c).x ∗ stgP c cc0_stg1_0 (inp m ρ c).r
    ∗ stgP c cc0_stg2_0 (inp m ρ c).i ∗ stgP c cc0_stg3_0 (inp m ρ c).w ∗ stgP c cc0_stg4_0 (res m ρ))

omit [FloatOps F] in
/-- The barrier semaphore is the only one that is there before the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A semaphore no copy uses is at zero. -/
theorem close_unused (P : Dev nD → OutC F) (Kn : Dev nD × Fin 77 → ℕ) (c : Dev nD) (q : DmaSem sig) (h : kindOf q = none) (h5 : 5 ≤ q.val) :
    records P Kn ⊢ iprop(atPos ER (dCell c q) 0 ∅ 0 -∗ |={Set.univ}=> semVal (dCell c q) 0 : sProp 𝕄) := by
  iintro #Hrec Hat
  ihave Hc := (rec_dma P Kn c q h5) $$ Hrec
  icases Hc with ⟨#Hi, -⟩
  imod (Rounds.cell_close ER (Rd P) (Set.mem_univ (Kn (c, ixq q))) (fun h => h) (R := 0) (duties_none P c q h)) $$ [Hat] with Hz
  · isplitr; · iexact Hi
    iexact Hat
  imodintro; iexact Hz

set_option maxHeartbeats 800000 in
set_option maxRecDepth 100000 in
/-- The kernel's body in the launch. -/
theorem sound_body (c : Dev nD) :
    bodyPre m ρ c ⊢ run c (ap (cc0_body (F := F))) (fun _ => bodyPost m ρ c) := by
  unfold bodyPre Φ₀ start G' linear
  iintro ⟨⟨⟨⟨%Kn, #Hr, Hat, Hpay⟩, ⟨HcB, HcR⟩, #Hlev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have h0 : g0 = (inp m ρ c).x := by rw [hg0]; unfold Dat.before; rw [if_pos (fetch0_0 t0_0)]; rfl
  have h1 : g1 = (inp m ρ c).r := by rw [hg1]; unfold Dat.before; rw [if_pos (fetch0_1 t0_0)]; rfl
  have h2 : g2 = (inp m ρ c).i := by rw [hg2]; unfold Dat.before; rw [if_pos (fetch0_2 t0_0)]; rfl
  have h3 : g3 = (inp m ρ c).w := by rw [hg3]; unfold Dat.before; rw [if_pos (fetch0_3 t0_0)]; rfl
  clear hg0 hg1 hg2 hg3 hg4
  subst h0 h1 h2 h3
  unfold Dat.owesAt Pipeline.owesWithin
  icases Ho with ⟨%W, %hW, HO⟩
  rw [show (dats m ρ 0 c).owed t0_0.castSucc = Owe c 0 from rfl]
  ihave Hrec := (show iprop(levAts L lv ∗ recs m ρ Kn) ⊢ records (PP m ρ) Kn by unfold records levs recs; exact BI.Entails.refl _) $$ [Hlev Hr]
  · isplitl; · iexact Hlev
    iexact Hr
  icases Hrec with #Hrec
  icases (payToks_sorted (F := F) c) $$ Hpay with ⟨Hsig, Ht1, Ht2⟩
  icases (atPos_sorted (F := F) c) $$ Hat with ⟨HaB, Ha1, Ha2, Hu0, Hu1, Hu2, Hu3⟩
  ihave Htodo := (todo_intro (F := F) c) $$ [Ht1 Ht2 Ha1 Ha2 HcR]
  · isplitl [Ht1]; · iexact Ht1
    isplitl [Ht2]; · iexact Ht2
    isplitl [Ha1]; · iexact Ha1
    isplitl [Ha2] <;> iassumption
  icases (scoped_bufs (F := F) c).1 $$ Hscr with ⟨HbA, HbB⟩
  ihave Hc0 := (close_unused (PP m ρ) Kn c (14 : DmaSem sig) (by decide +kernel) (by decide)) $$ Hrec Hu0
  imod Hc0 with Hc0
  ihave Hc1 := (close_unused (PP m ρ) Kn c (24 : DmaSem sig) (by decide +kernel) (by decide)) $$ Hrec Hu1
  imod Hc1 with Hc1
  ihave Hc2 := (close_unused (PP m ρ) Kn c (34 : DmaSem sig) (by decide +kernel) (by decide)) $$ Hrec Hu2
  imod Hc2 with Hc2
  ihave Hc3 := (close_unused (PP m ρ) Kn c (44 : DmaSem sig) (by decide +kernel) (by decide)) $$ Hrec Hu3
  imod Hc3 with Hc3
  ihave Hz := (show iprop(semVal (dCell c (14 : DmaSem sig)) 0 ∗ semVal (dCell c (24 : DmaSem sig)) 0 ∗ semVal (dCell c (34 : DmaSem sig)) 0 ∗ semVal (dCell c (44 : DmaSem sig)) 0 ∗ emp)
    ⊢ (zs c unusedL : sProp 𝕄) from BI.Entails.refl _) $$ [Hc0 Hc1 Hc2 Hc3]
  · isplitl [Hc0]; · iexact Hc0
    isplitl [Hc1]; · iexact Hc1
    isplitl [Hc2]; · iexact Hc2
    isplitl [Hc3]; · iexact Hc3
    iempintro
  ihave HO := (show iprop(owes (c : Thread nD τ) (Owe c 0) W) ⊢ (due c 0 : sProp 𝕄) by unfold due; iintro H; iexists W; iexact H) $$ HO
  ihave Hin := (show iprop((((c : Thread nD τ).loc cc0_stg0_0) ↦{fullShare} (inp m ρ c).x) ∗ (((c : Thread nD τ).loc cc0_stg1_0) ↦{fullShare} (inp m ρ c).r)
      ∗ (((c : Thread nD τ).loc cc0_stg2_0) ↦{fullShare} (inp m ρ c).i) ∗ (((c : Thread nD τ).loc cc0_stg3_0) ↦{fullShare} (inp m ρ c).w))
    ⊢ (ins c (inp m ρ c) : sProp 𝕄) by unfold ins; exact BI.Entails.refl _) $$ [H0 H1 H2 H3]
  · isplitl [H0]; · iexact H0
    isplitl [H1]; · iexact H1
    isplitl [H2] <;> iassumption
  ihave H4 := (show (((c : Thread nD τ).loc cc0_stg4_0) ↦{fullShare} g4) ⊢ (oPt c Finset.univ fullShare g4 : sProp 𝕄) from BI.Entails.refl _) $$ H4
  iapply (body (inp m ρ) Kn c g4 _) $$ Hrec HO Hsig Htodo HcB HaB Hz HbA HbB Hin H4
  iintro ⟨HO, Hbar, Hz, Hin, Hout⟩
  icases (give_back (F := F) c) $$ Hz with ⟨Hos, Hscr⟩
  unfold bodyPost Φ₁ Dat.owesAt Pipeline.owesWithin ins due
  icases HO with ⟨%W', HO⟩
  icases Hin with ⟨H0, H1, H2, H3⟩
  rw [show (dats m ρ 0 c).owed t0_0.succ = 0 from rfl, Owe_end, unscopedSems0_eq]
  isplitl [Hbar Hos Hscr]
  · isplitl [Hbar]; · iexact Hbar
    isplitl [Hos] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  ihave Hout := (show (oPt c Finset.univ fullShare (outF (PP m ρ)) : sProp 𝕄) ⊢ (((c : Thread nD τ).loc cc0_stg4_0) ↦{fullShare} res m ρ)
    from BI.Entails.refl _) $$ Hout
  iexists _; isplitr; · (ipureintro; rfl)
  iexact Hout

set_option maxRecDepth 100000 in
/-- What the launch asks of the kernel's body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

/-- The kernel's own semaphores are told apart from the staging ones. -/
theorem ownSemFacts : Pipeline.OwnSemFacts cfg0.spec osem := by decide +kernel

/-- Every window's buffer is owned in full. -/
theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf theCells theToks)

/-- The launch's element is dealt to the devices. -/
theorem fund_all : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 77 => Φ (kcell (c, k)) := by
    unfold theCells; rw [BI.bigSep_map, BI.bigSep_univ_prod]; rfl
  have hT : bigSep theToks (fun x => (dutyTok ER x.1 x.2.1 x.2.2 : sProp 𝕄)) = bigSep Finset.univ fun c : Dev nD => toks c := by
    unfold theToks; rw [BI.bigSep_map, BI.bigSep_univ_prod]; rfl
  iintro HX
  imod (Rounds.fund ER (Rd (PP m ρ)) theCells theToks) $$ HX with ⟨Hst, Hr, Hat, Htok⟩
  imodintro
  ihave Hst := (Entails.of_eq (hX fun g => roundState ER (Rd (PP m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A device's cells are the barrier's and the copies' semaphores'. -/
theorem univ77 : (Finset.univ : Finset (Fin 77)) = insert 0 (Finset.univ.map (⟨fun k : Fin 76 => k.succ, Fin.succ_injective 76⟩ : Fin 76 ↪ Fin 77)) := by decide +kernel

omit [FloatOps F] in
/-- The semaphores at zero are the cells' counters. -/
theorem sems0_eq (c : Dev nD) :
    iprop(own0 (F := F) c ∗ unscopedSems0 c) ⊢ (bigSep Finset.univ fun k : Fin 77 => semVal (kcell (c, k)) 0 : sProp 𝕄) := by
  have h : (bigSep Finset.univ fun k : Fin 77 => semVal (kcell (c, k)) 0 : sProp 𝕄)
      = iprop(semVal (barCell c) 0 ∗ bigSep Finset.univ fun k : Fin 76 => semVal (kcell (c, k.succ)) 0) := by
    rw [univ77, BI.bigSep_insert (by decide +kernel), BI.bigSep_map]; rfl
  rw [unscopedSems0_eq, h]
  iintro ⟨HS, HB⟩
  isplitl [HB]; · iexact HB
  unfold own0 Pipeline.ownSems0
  iexact HS

/-- A device's cells are opened. -/
theorem core_alloc (c : Dev nD) :
    iprop(own0 (F := F) c ∗ unscopedSems0 c ∗ G m ρ c)
      ⊢ |={Set.univ}=> iprop((bigSep Finset.univ fun k : Fin 77 => iprop(∃ κ : ℕ, cellInv ER (Rd (PP m ρ)) κ (kcell (c, k))))
          ∗ (bigSep Finset.univ fun k : Fin 77 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 77 => semVal (kcell (c, k)) 0) ∗ bigSep Finset.univ fun k : Fin 77 => roundState ER (Rd (PP m ρ)) (kcell (c, k)) 0)
      ⊢ (|={Set.univ}=> bigSep Finset.univ fun k : Fin 77 => iprop(∃ κ : ℕ, cellInv ER (Rd (PP m ρ)) κ (kcell (c, k))) : sProp 𝕄) from by
        rw [← bigSep_sep']
        exact (bigSep_mono fun k _ => (Rounds.body_intro ER (Rd (PP m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- What holds for good may be used for each part. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names of the cells are known to all, and the duties' permissions go around. -/
theorem regroup :
    (bigSep Finset.univ fun c : Dev nD => iprop((bigSep Finset.univ fun k : Fin 77 => iprop(∃ κ : ℕ, cellInv ER (Rd (PP m ρ)) κ (kcell (c, k))))
          ∗ (bigSep Finset.univ fun k : Fin 77 => iprop(atPos ER (kcell (c, k)) 0 ∅ 0 ∗ reached ER (kcell (c, k)) 0)) ∗ toks c) : sProp 𝕄)
      ⊢ bigSep Finset.univ (G' m ρ) := by
  rw [bigSep_sep', bigSep_sep', ← BI.bigSep_univ_prod (fun ck : Dev nD × Fin 77 => iprop(∃ κ : ℕ, cellInv ER (Rd (PP m ρ)) κ (kcell ck))),
    bigSep_congr (s := Finset.univ) (fun (c : Dev nD) _ => bigSep_sep' Finset.univ (fun k : Fin 77 => (atPos ER (kcell (c, k)) 0 ∅ 0 : sProp 𝕄)) (fun k => reached ER (kcell (c, k)) 0)),
    bigSep_sep', ← BI.bigSep_univ_prod (fun ck : Dev nD × Fin 77 => (reached ER (kcell ck) 0 : sProp 𝕄)), toks_around]
  iintro ⟨HI, ⟨Hat, #HR⟩, Htok⟩
  ihave HK := (BI.bigSep_exists_pi Finset.univ (fun (ck : Dev nD × Fin 77) (κ : ℕ) => (cellInv ER (Rd (PP m ρ)) κ (kcell ck) : sProp 𝕄))) $$ HI
  icases HK with ⟨%Kn, #HI⟩
  iapply (bigSep_with_persistent (R := recs m ρ Kn) (Φ := fun c => linear (F := F) c) (Ψ := G' m ρ) fun c _ => by
    unfold G'; iintro ⟨H1, H2⟩; iexists Kn; isplitl [H1] <;> iassumption)
  isplitr
  · unfold recs; rw [bigSep_sep']
    isplitl; · iexact HI
    iexact HR
  · unfold linear; rw [bigSep_sep']
    isplitl [Hat] <;> iassumption

/-- From the semaphores at zero, each device gets its part of the protocol. -/
theorem glob : (bigSep Finset.univ fun c => iprop(own0 (F := F) c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- What the launch leaves is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

/-- The state after the body gives back the semaphores and the buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁; exact BI.Entails.refl _

/-- The staging cells' waits lie below all that is owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · exact mayWait c _ 0 0 (by fin_cases w <;> fin_cases s <;> exact Nat.le_of_eq (lv_stage c _ (by decide))) (fun m h => by omega)
    · show _ ⊢ MayWait _ _ _ 0
      rw [MayWait_zero]; exact BI.Laws.pure_intro trivial

/-! ## The run -/

def finalA (c : Dev nD) (w : Fin cfg0.W) : Buf (Elt F) ((cfg0.win w).arr.view.loc (c : Thread nD τ)) := (dats m ρ 0 c).arrAt w cfg0.N

/-- What the final memory holds. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every semaphore at zero, for any float values: every weakly fair run of the 32 devices ends, with
    the windows' arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays end as they were. -/
theorem final_in0 (c : Dev nD) : finalA m ρ c (0 : Fin 5) = (s₀ m ρ).mem (win0_0.arr.view.loc (c : Thread nD τ)) :=
  (dats (F := F) m ρ 0 c).arrAt_in (0 : Fin 5) rfl _
/-- The same for the second input. -/
theorem final_in1 (c : Dev nD) : finalA m ρ c (1 : Fin 5) = (s₀ m ρ).mem (win0_1.arr.view.loc (c : Thread nD τ)) :=
  (dats (F := F) m ρ 0 c).arrAt_in (1 : Fin 5) rfl _
/-- The same for the third input. -/
theorem final_in2 (c : Dev nD) : finalA m ρ c (2 : Fin 5) = (s₀ m ρ).mem (win0_2.arr.view.loc (c : Thread nD τ)) :=
  (dats (F := F) m ρ 0 c).arrAt_in (2 : Fin 5) rfl _
/-- The same for the fourth input. -/
theorem final_in3 (c : Dev nD) : finalA m ρ c (3 : Fin 5) = (s₀ m ρ).mem (win0_3.arr.view.loc (c : Thread nD τ)) :=
  (dats (F := F) m ρ 0 c).arrAt_in (3 : Fin 5) rfl _

/-- The result's array ends holding the assembled sums. -/
theorem final_out (c : Dev nD) : finalA m ρ c (4 : Fin 5) = res m ρ :=
  (dats (F := F) m ρ 0 c).arrAt_eq_of_covers (4 : Fin 5) _ (by decide +kernel) fun t hf y => by
    have hy : ((cfg0.win 4).blk t).view.emb y = y := by
      rw [fin_N0 t]; funext a; apply Fin.ext
      blk_simp
      rw [show win0_4.index t0_0 a = 0 by revert a; decide +kernel]; omega
    exact congrArg (res m ρ) hy.symm

/-- The kernel's run, spelled out: the arguments unchanged, the result the assembled sums, every semaphore at zero. -/
theorem run_all : θ_run defs (onTc (τ := τ) (main (F := F))) (s₀ m ρ) (fun r =>
    (∀ c : Dev nD, r.2.mem ((c : Thread nD τ).loc main_v1) = res m ρ
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨(h.1 c 4).trans (final_out m ρ c), (h.1 c 0).trans (final_in0 m ρ c),
    (h.1 c 1).trans (final_in1 m ρ c), (h.1 c 2).trans (final_in2 m ρ c), (h.1 c 3).trans (final_in3 m ρ c)⟩, h.2⟩) (run_main m ρ)

end Cert.Moe
-- ==== Proof.Moe.Sum.lean ====
/-
# The devices' partial sums

A device's partial sum after a number of steps is, over the extended reals, the sum of the contributions of the devices its
exchanges have reached; after five steps they have reached every device.
-/
module

public import proofs.«01_k».proof.Proof.Moe.Run
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Moe

/-- The devices whose contributions have reached a device after a number of steps. -/
def reach (sl : Fin 2) : ℕ → Dev nD → Finset (Dev nD)
  | 0, c => {c}
  | s + 1, c => reach sl s c ∪ reach sl s (peer c sl s)

/-- A step's two partial sums share no device. -/
theorem reach_disj (sl : Fin 2) (s : Fin 5) (c : Dev nD) : Disjoint (reach sl s.val c) (reach sl s.val (peer c sl s.val)) := by
  revert c s sl; decide +kernel
/-- After five steps every device's contribution has come. -/
theorem reach_five (sl : Fin 2) (c : Dev nD) : reach sl 5 c = Finset.univ := by
  revert c sl; decide +kernel

/-- A partial sum is the sum of the contributions that have come. -/
theorem St_reach (P : Dev nD → OutC Ideal) (sl : Fin 2) (i : S1024x1024.Idx) (s : ℕ) (hs : s ≤ 5) (c : Dev nD) :
    (St P sl s c i : EReal) = ∑ d ∈ reach sl s c, (P d i : EReal) := by
  induction s generalizing c with
  | zero => exact (Finset.sum_singleton (fun d => (P d i : EReal)) c).symm
  | succ s ih =>
    show (St P sl s c i : EReal) + (St P sl s (peer c sl s) i : EReal) = _
    rw [ih (by omega), ih (by omega)]
    exact (Finset.sum_union (reach_disj sl ⟨s, by omega⟩ c)).symm

/-- What every device is left with is the sum of all the contributions. -/
theorem outF_sum (P : Dev nD → OutC Ideal) (i : S1024x1024.Idx) : (outF P i : EReal) = ∑ d : Dev nD, (P d i : EReal) := by
  have h : ∀ sl, (Fn P sl i : EReal) = ∑ d : Dev nD, (P d i : EReal) := fun sl => by
    unfold Fn
    rw [St_reach P sl i 5 (Nat.le_refl _), reach_five]
  unfold outF
  split
  · exact h 0
  · exact h 1

end Cert.Moe
-- ==== Proof.Moe.Gate.lean ====
/-
# The two routes' weights

The kernel weighs a token's first expert by the logistic function of the difference of its two scores, and the second by what
is left of one; the reference divides the first expert's probability, a softmax over all the scores, by the sum of the two
experts' probabilities.  Here the two are shown equal when the scores are real numbers, and the sum of the devices'
contributions is shown to be the weighted sum of the two experts' results, which may be infinite.
-/
module

public import Idealize.ShloMosaic.Lib.Pointwise

@[expose] public section

set_option maxRecDepth 16384

noncomputable section

open Idealize.ShloMosaic

namespace Cert.Moe

/-- A token's greatest score, as the reference finds it, -/
def top (s : Fin 128 → EReal) : EReal := Finset.fold max (Ideal.ofBits FTy.f32 4286578688#32) s Finset.univ
/-- an expert's probability, -/
def prob (s : Fin 128 → EReal) (e : Fin 128) : EReal := Ideal.div (Ideal.exp (s e - top s)) (∑ x, Ideal.exp (s x - top s))
/-- the weight of the first of two experts as the kernel computes it, -/
def gate0 (s : Fin 128 → EReal) (a b : Fin 128) : EReal := Ideal.div 1 (1 + Ideal.exp (s b - s a))
/-- and that of the second. -/
def gate1 (s : Fin 128 → EReal) (a b : Fin 128) : EReal := 1 - gate0 s a b

/-- The greatest of real scores is real. -/
theorem top_real (σ : Fin 128 → ℝ) : ∃ M : ℝ, top (fun e => (σ e : EReal)) = (M : EReal) := by
  have hb : Ideal.ofBits FTy.f32 4286578688#32 = (⊥ : EReal) := by
    simp [Ideal.ofBits, Ideal.ieee]
  have h1 : top (fun e => (σ e : EReal)) ≠ ⊤ := by
    refine ne_of_lt ?_
    unfold top
    rw [Finset.fold_max_lt, hb]
    exact ⟨bot_lt_top, fun x _ => EReal.coe_lt_top _⟩
  have h2 : top (fun e => (σ e : EReal)) ≠ ⊥ := by
    refine ne_of_gt ?_
    unfold top
    rw [Finset.lt_fold_max]
    exact Or.inr ⟨0, Finset.mem_univ _, EReal.bot_lt_coe _⟩
  exact ⟨_, (EReal.coe_toReal h1 h2).symm⟩

/-- A sum of real numbers is the same among the extended reals. -/
theorem coe_sum {ι : Type} [Fintype ι] (f : ι → ℝ) : (∑ x, ((f x : ℝ) : EReal)) = ((∑ x, f x : ℝ) : EReal) := by
  classical
  exact (map_sum (⟨⟨Real.toEReal, EReal.coe_zero⟩, EReal.coe_add⟩ : ℝ →+ EReal) f Finset.univ).symm

/-- A probability of real scores is a positive real number, the exponential over the sum of them all. -/
theorem prob_real (σ : Fin 128 → ℝ) : ∃ M Z : ℝ, 0 < Z ∧ ∀ e, prob (fun e => (σ e : EReal)) e = ((Real.exp (σ e - M) / Z : ℝ) : EReal) := by
  obtain ⟨M, hM⟩ := top_real σ
  have hZ : 0 < ∑ x, Real.exp (σ x - M) := Finset.sum_pos (fun x _ => Real.exp_pos _) Finset.univ_nonempty
  refine ⟨M, ∑ x, Real.exp (σ x - M), hZ, fun e => ?_⟩
  unfold prob
  rw [hM]
  simp only [← EReal.coe_sub, Ideal.exp_coe]
  rw [coe_sum, Ideal.div_coe hZ.ne', ← EReal.coe_mul]
  congr 1
  ring

/-- The kernel's two weights are nonnegative real numbers, and they are the reference's. -/
theorem gates (σ : Fin 128 → ℝ) (a b : Fin 128) : ∃ p q : ℝ, 0 ≤ p ∧ 0 ≤ q
    ∧ gate0 (fun e => (σ e : EReal)) a b = (p : EReal) ∧ gate1 (fun e => (σ e : EReal)) a b = (q : EReal)
    ∧ Ideal.div (prob (fun e => (σ e : EReal)) a) (prob (fun e => (σ e : EReal)) a + prob (fun e => (σ e : EReal)) b) = (p : EReal)
    ∧ Ideal.div (prob (fun e => (σ e : EReal)) b) (prob (fun e => (σ e : EReal)) a + prob (fun e => (σ e : EReal)) b) = (q : EReal) := by
  obtain ⟨M, Z, hZ, hp⟩ := prob_real σ
  have ha := Real.exp_pos (σ a - M)
  have hb := Real.exp_pos (σ b - M)
  have hd : Real.exp (σ b - σ a) = Real.exp (σ b - M) / Real.exp (σ a - M) := by rw [← Real.exp_sub]; congr 1; ring
  have hg : gate0 (fun e => (σ e : EReal)) a b = ((Real.exp (σ a - M) / (Real.exp (σ a - M) + Real.exp (σ b - M)) : ℝ) : EReal) := by
    unfold gate0
    rw [← EReal.coe_sub, Ideal.exp_coe, ← EReal.coe_one, ← EReal.coe_add, Ideal.div_coe (by positivity), ← EReal.coe_mul, hd]
    congr 1
    field_simp
  refine ⟨Real.exp (σ a - M) / (Real.exp (σ a - M) + Real.exp (σ b - M)), Real.exp (σ b - M) / (Real.exp (σ a - M) + Real.exp (σ b - M)),
    by positivity, by positivity, hg, ?_, ?_, ?_⟩
  · unfold gate1
    rw [hg, ← EReal.coe_one, ← EReal.coe_sub]
    congr 1
    field_simp
    ring
  · rw [hp, hp, ← EReal.coe_add, Ideal.div_coe (by positivity), ← EReal.coe_mul]
    congr 1
    field_simp
  · rw [hp, hp, ← EReal.coe_add, Ideal.div_coe (by positivity), ← EReal.coe_mul]
    congr 1
    field_simp

/-- A real factor goes into a sum of extended reals. -/
theorem coe_mul_sum {ι : Type} (c : ℝ) (hc : 0 ≤ c) (S : Finset ι) (f : ι → EReal) : (c : EReal) * ∑ x ∈ S, f x = ∑ x ∈ S, (c : EReal) * f x := by
  classical
  induction S using Finset.induction_on with
  | empty => simp
  | insert a S h ih =>
    rw [Finset.sum_insert h, Finset.sum_insert h, EReal.left_distrib_of_nonneg_of_ne_top (EReal.coe_nonneg.2 hc) (EReal.coe_ne_top c), ih]

/-- The contributions of all the experts, each the tokens weighted by the routes that name it, are the two experts' results weighted. -/
theorem sum_experts (p q : ℝ) (hp : 0 ≤ p) (hq : 0 ≤ q) (e0 e1 : Fin 128) (x : Fin 512 → EReal) (W : Fin 128 → Fin 512 → EReal) :
    (∑ e, ∑ k, (x k * ((if e = e0 then (p : EReal) else 0) + (if e = e1 then (q : EReal) else 0))) * W e k)
      = (p : EReal) * (∑ k, x k * W e0 k) + (q : EReal) * ∑ k, x k * W e1 k := by
  have h : ∀ e, (∑ k, (x k * ((if e = e0 then (p : EReal) else 0) + (if e = e1 then (q : EReal) else 0))) * W e k)
      = (if e = e0 then (p : EReal) * (∑ k, x k * W e k) else 0) + (if e = e1 then (q : EReal) * (∑ k, x k * W e k) else 0) := by
    intro e
    have hw : ∀ (r : ℝ) (P : Prop) [Decidable P], (if P then (r : EReal) else 0) = ((if P then r else 0 : ℝ) : EReal) := by
      intro r P _; split <;> simp
    have h0 : (0 : ℝ) ≤ if e = e0 then p else 0 := by split <;> simp [hp]
    have h1 : (0 : ℝ) ≤ if e = e1 then q else 0 := by split <;> simp [hq]
    calc (∑ k, (x k * ((if e = e0 then (p : EReal) else 0) + (if e = e1 then (q : EReal) else 0))) * W e k)
        = ∑ k, (((if e = e0 then p else 0) + (if e = e1 then q else 0) : ℝ) : EReal) * (x k * W e k) := by
          refine Finset.sum_congr rfl fun k _ => ?_
          rw [hw p, hw q, ← EReal.coe_add, mul_comm (x k), mul_assoc]
      _ = (((if e = e0 then p else 0) + (if e = e1 then q else 0) : ℝ) : EReal) * ∑ k, x k * W e k := (coe_mul_sum _ (add_nonneg h0 h1) _ _).symm
      _ = ((if e = e0 then p else 0 : ℝ) : EReal) * (∑ k, x k * W e k) + ((if e = e1 then q else 0 : ℝ) : EReal) * ∑ k, x k * W e k := by
          rw [EReal.coe_add, EReal.right_distrib_of_nonneg (EReal.coe_nonneg.2 h0) (EReal.coe_nonneg.2 h1)]
      _ = _ := by
          congr 1 <;> split <;> simp
  rw [Finset.sum_congr rfl fun e _ => h e, Finset.sum_add_distrib]
  simp

end Cert.Moe
-- ==== Proof.Moe.Val.lean ====
/-
# The value of a device's contribution

A device's contribution at a token and a column, over the extended reals: for each of its four experts the token's row of
features, weighted by the routes that name the expert, times the expert's column.
-/
module

public import proofs.«01_k».proof.Proof.Moe.Run
public import proofs.«01_k».proof.Proof.Moe.Gate
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen

namespace Cert.Moe

/-! ## The inputs, as the kernel reads them -/

section Inputs
variable {F : FTy → Type} [FloatOps F] (m : (ℓ : Loc nD τ sig) → Buf (Elt F) ℓ) (ρ : Dev nD → PrngReg)

/-- The kernel's tokens are the argument, whole; -/
theorem inp_x (c : Dev nD) : (inp m ρ c).x = m ((c : Thread nD τ).loc main_arg0) := by
  funext i
  show m ((c : Thread nD τ).loc main_arg0) ((win0_0.blk t0_0).view.emb i) = _
  refine congrArg (m ((c : Thread nD τ).loc main_arg0)) (funext fun a => Fin.ext ?_)
  blk_simp
  rw [show win0_0.index t0_0 a = 0 by revert a; decide +kernel]; omega
/-- so are its router weights, -/
theorem inp_r (c : Dev nD) : (inp m ρ c).r = m ((c : Thread nD τ).loc main_arg1) := by
  funext i
  show m ((c : Thread nD τ).loc main_arg1) ((win0_1.blk t0_0).view.emb i) = _
  refine congrArg (m ((c : Thread nD τ).loc main_arg1)) (funext fun a => Fin.ext ?_)
  blk_simp
  rw [show win0_1.index t0_0 a = 0 by revert a; decide +kernel]; omega
/-- its routes -/
theorem inp_i (c : Dev nD) : (inp m ρ c).i = m ((c : Thread nD τ).loc main_arg2) := by
  funext i
  show m ((c : Thread nD τ).loc main_arg2) ((win0_2.blk t0_0).view.emb i) = _
  refine congrArg (m ((c : Thread nD τ).loc main_arg2)) (funext fun a => Fin.ext ?_)
  blk_simp
  rw [show win0_2.index t0_0 a = 0 by revert a; decide +kernel]; omega
/-- and its experts' weights. -/
theorem inp_w (c : Dev nD) : (inp m ρ c).w = m ((c : Thread nD τ).loc main_arg3) := by
  funext i
  show m ((c : Thread nD τ).loc main_arg3) ((win0_3.blk t0_0).view.emb i) = _
  refine congrArg (m ((c : Thread nD τ).loc main_arg3)) (funext fun a => Fin.ext ?_)
  blk_simp
  rw [show win0_3.index t0_0 a = 0 by revert a; decide +kernel]; omega

/-- A load of a half of an expert's columns reads that expert's weights, the column counted from the half's first. -/
theorem rdW_at (I : In F) (off : Fin 3 → ℕ) (inb : ∀ a, off a + S1x512x512.size a ≤ S4x512x1024.size a) (k o : Fin 512)
    (j : Fin 4) (o' : Fin 1024) (h0 : off 0 = j.val) (h1 : off 1 = 0) (h2 : off 2 + o.val = o'.val) :
    rdW I off inb (ix3 0 k o) = I.w (ix3 j k o') := by
  unfold rdW
  rw [View.readAt_apply]
  refine congrArg I.w (funext fun a => Fin.ext ?_)
  match a with
  | ⟨0, _⟩ => show off 0 + 1 * 0 = j.val; omega
  | ⟨1, _⟩ => show off 1 + 1 * k.val = k.val; omega
  | ⟨2, _⟩ => show off 2 + 1 * o.val = o'.val; omega
/-- The tokens' load reads them all, -/
theorem rdX_at (I : In F) (t : Fin 1024) (k : Fin 512) : rdX I (ix2 t k) = I.x (ix2 t k) := by
  unfold rdX
  rw [View.readAt_apply]
  refine congrArg I.x (funext fun a => Fin.ext ?_)
  match a with
  | ⟨0, _⟩ => show 0 + 1 * t.val = t.val; omega
  | ⟨1, _⟩ => show 0 + 1 * k.val = k.val; omega
/-- the router's load all its weights, -/
theorem rdR_at (I : In F) (k : Fin 512) (e : Fin 128) : rdR I (ix2 k e) = I.r (ix2 k e) := by
  unfold rdR
  rw [View.readAt_apply]
  refine congrArg I.r (funext fun a => Fin.ext ?_)
  match a with
  | ⟨0, _⟩ => show 0 + 1 * k.val = k.val; omega
  | ⟨1, _⟩ => show 0 + 1 * e.val = e.val; omega
/-- and each load of the routes one column of them. -/
theorem rdI_at (I : In F) (off : Fin 2 → ℕ) (inb : ∀ a, off a + S1024x1.size a ≤ S1024x2.size a) (t : Fin 1024) (j : Fin 2) (h0 : off 0 = 0)
    (h1 : off 1 = j.val) : rdI I off inb (ix2 t 0) = I.i (ix2 t j) := by
  unfold rdI
  rw [View.readAt_apply]
  refine congrArg I.i (funext fun a => Fin.ext ?_)
  match a with
  | ⟨0, _⟩ => show off 0 + 1 * t.val = t.val; omega
  | ⟨1, _⟩ => show off 1 + 1 * 0 = j.val; omega

end Inputs

/-! ## Experts by number -/

/-- The `j`-th of a device's four experts. -/
def ex (c : Dev nD) (j : Fin 4) : Fin 128 := ⟨4 * c.val + j.val, by have h : c.val < 32 := c.isLt; omega⟩

/-- The kernel computes the expert's number. -/
theorem ex_word (c : Dev nD) (j : Fin 4) : Scalar.addi (Scalar.muli (w2 c) 4#32) (BitVec.ofNat 32 j.val) = BitVec.ofNat 32 (ex c j).val := by
  revert c j; decide +kernel

/-- A choice made by comparing two experts' numbers. -/
theorem select_expert (a b : Fin 128) (u v : EReal) :
    Scalar.select (IntOp.cmpi .eq (BitVec.ofNat 32 a.val) (BitVec.ofNat 32 b.val)) u v = if b = a then u else v := by
  by_cases h : b = a
  · subst h
    rw [if_pos rfl]
    have : IntOp.cmpi .eq (BitVec.ofNat 32 b.val) (BitVec.ofNat 32 b.val) = 1#1 := by revert b; decide +kernel
    rw [this]; rfl
  · rw [if_neg h]
    have hn : BitVec.ofNat 32 a.val ≠ BitVec.ofNat 32 b.val := fun e => h (Fin.ext (by
      have := congrArg BitVec.toNat e
      simp only [BitVec.toNat_ofNat] at this
      omega))
    have : IntOp.cmpi .eq (BitVec.ofNat 32 a.val) (BitVec.ofNat 32 b.val) = 0#1 := by
      show BitVec.ofBool (BitVec.ofNat 32 a.val == BitVec.ofNat 32 b.val) = _
      rw [beq_false_of_ne hn]; rfl
    rw [this]; rfl

/-! ## The payloads at an index -/

/-- The scores. -/
theorem pay2_at (x : Vec Ideal S1024x512 .bf16) (r : Vec Ideal S512x128 .bf16) (t : Fin 1024) (e : Fin 128) :
    k0_pay2 x r (ix2 t e) = ∑ k : Fin 512, x (ix2 t k) * r (ix2 k e) := by
  pointwise [k0_pay2, k0_pay1]

/-- The first route's weight, -/
theorem pay5_at (v : FVec Ideal S1024x128 .f32) (a b : Vec Ideal S1024x1 .i32) (t : Fin 1024) (e0 e1 : Fin 128)
    (ha : a (ix2 t 0) = BitVec.ofNat 32 e0.val) (hb : b (ix2 t 0) = BitVec.ofNat 32 e1.val) :
    k0_pay5 v a b (ix2 t 0) = gate0 (fun e => v (ix2 t e)) e0 e1 := by
  pointwise [k0_pay5, k0_pay3, k0_pay4]
  rw [ha, hb]
  simp only [select_expert]
  rw [Finset.sum_ite_eq, Finset.sum_ite_eq, if_pos (Finset.mem_univ _), if_pos (Finset.mem_univ _)]
  rfl
/-- and the second's. -/
theorem pay6_at (v : FVec Ideal S1024x128 .f32) (a b : Vec Ideal S1024x1 .i32) (t : Fin 1024) (e0 e1 : Fin 128)
    (ha : a (ix2 t 0) = BitVec.ofNat 32 e0.val) (hb : b (ix2 t 0) = BitVec.ofNat 32 e1.val) :
    k0_pay6 v a b (ix2 t 0) = gate1 (fun e => v (ix2 t e)) e0 e1 := by
  pointwise [k0_pay6]
  rw [pay5_at v a b t e0 e1 ha hb]
  rfl

/-- A token's weight for an expert: its first route's if that names the expert, and its second's if that does. -/
def weight (s : Fin 128 → EReal) (e0 e1 e : Fin 128) : EReal := (if e = e0 then gate0 s e0 e1 else 0) + (if e = e1 then gate1 s e0 e1 else 0)

section Weighted
variable (I : In Ideal) (c : Dev nD) (t : Fin 1024) (e0 e1 : Fin 128) (h0 : I.i (ix2 t 0) = BitVec.ofNat 32 e0.val) (h1 : I.i (ix2 t 1) = BitVec.ofNat 32 e1.val)
include h0 h1

/-- The first route, -/
theorem vI0_at : vI0 I (ix2 t 0) = BitVec.ofNat 32 e0.val := (rdI_at I ![0, 0] inb_S1024x2_S1024x1_0_0 t 0 rfl rfl).trans h0
/-- and the second. -/
theorem vI1_at : vI1 I (ix2 t 0) = BitVec.ofNat 32 e1.val := (rdI_at I ![0, 1] inb_S1024x2_S1024x1_0_1 t 1 rfl rfl).trans h1

/-- The tokens weighted for the device's first expert, -/
theorem vW0_at (k : Fin 512) : vW0 I (w2 c) (ix2 t k) = I.x (ix2 t k) * weight (fun e => vScr I (ix2 t e)) e0 e1 (ex c 0) := by
  have hA := vI0_at I t e0 e1 h0 h1
  have hB := vI1_at I t e0 e1 h0 h1
  have hw : Scalar.addi (Scalar.muli (w2 c) 4#32) 0#32 = BitVec.ofNat 32 (ex c 0).val := ex_word c 0
  unfold vW0 vTok weight
  pointwise [k0_pay7, k0_pay6, k0_pay3, k0_pay4, k0_pay1]
  rw [rdX_at, hw, pay5_at _ _ _ t e0 e1 hA hB, hA, hB, select_expert, select_expert]
  rfl
/-- for its second, -/
theorem vW1_at (k : Fin 512) : vW1 I (w2 c) (ix2 t k) = I.x (ix2 t k) * weight (fun e => vScr I (ix2 t e)) e0 e1 (ex c 1) := by
  have hA := vI0_at I t e0 e1 h0 h1
  have hB := vI1_at I t e0 e1 h0 h1
  have hw : Scalar.addi (Scalar.muli (w2 c) 4#32) 1#32 = BitVec.ofNat 32 (ex c 1).val := ex_word c 1
  unfold vW1 vTok weight
  pointwise [k0_pay10, k0_pay8, k0_pay9, k0_pay6, k0_pay3, k0_pay4, k0_pay1]
  rw [rdX_at, hw, pay5_at _ _ _ t e0 e1 hA hB, hA, hB, select_expert, select_expert]
  rfl
/-- for its third, -/
theorem vW2_at (k : Fin 512) : vW2 I (w2 c) (ix2 t k) = I.x (ix2 t k) * weight (fun e => vScr I (ix2 t e)) e0 e1 (ex c 2) := by
  have hA := vI0_at I t e0 e1 h0 h1
  have hB := vI1_at I t e0 e1 h0 h1
  have hw : Scalar.addi (Scalar.muli (w2 c) 4#32) 2#32 = BitVec.ofNat 32 (ex c 2).val := ex_word c 2
  unfold vW2 vTok weight
  pointwise [k0_pay11, k0_pay6, k0_pay3, k0_pay4, k0_pay1]
  rw [rdX_at, hw, pay5_at _ _ _ t e0 e1 hA hB, hA, hB, select_expert, select_expert]
  rfl
/-- and for its fourth. -/
theorem vW3_at (k : Fin 512) : vW3 I (w2 c) (ix2 t k) = I.x (ix2 t k) * weight (fun e => vScr I (ix2 t e)) e0 e1 (ex c 3) := by
  have hA := vI0_at I t e0 e1 h0 h1
  have hB := vI1_at I t e0 e1 h0 h1
  have hw : Scalar.addi (Scalar.muli (w2 c) 4#32) 3#32 = BitVec.ofNat 32 (ex c 3).val := ex_word c 3
  unfold vW3 vTok weight
  pointwise [k0_pay12, k0_pay6, k0_pay3, k0_pay4, k0_pay1]
  rw [rdX_at, hw, pay5_at _ _ _ t e0 e1 hA hB, hA, hB, select_expert, select_expert]
  rfl

/-- One expert's part of the contribution. -/
def part (s : Fin 128 → EReal) (j : Fin 4) (o : Fin 1024) : EReal :=
  ∑ k : Fin 512, (I.x (ix2 t k) * weight s e0 e1 (ex c j)) * I.w (ix3 j k o)

/-- The contribution's first half of the columns, -/
theorem contA_at (o : Fin 512) (o' : Fin 1024) (ho : o.val = o'.val) :
    contA I (w2 c) (ix2 t o) = ∑ j : Fin 4, part I c t e0 e1 (fun e => vScr I (ix2 t e)) j o' := by
  unfold contA
  pointwise [k0_pay14, k0_pay13]
  simp only [vW0_at I c t e0 e1 h0 h1, vW1_at I c t e0 e1 h0 h1, vW2_at I c t e0 e1 h0 h1, vW3_at I c t e0 e1 h0 h1]
  simp only [rdW_at I ![0, 0, 0] _ _ o 0 o' rfl rfl ((Nat.zero_add _).trans ho), rdW_at I ![1, 0, 0] _ _ o 1 o' rfl rfl ((Nat.zero_add _).trans ho),
    rdW_at I ![2, 0, 0] _ _ o 2 o' rfl rfl ((Nat.zero_add _).trans ho), rdW_at I ![3, 0, 0] _ _ o 3 o' rfl rfl ((Nat.zero_add _).trans ho)]
  rw [Fin.sum_univ_four]
  rfl
/-- and its second. -/
theorem contB_at (o : Fin 512) (o' : Fin 1024) (ho : 512 + o.val = o'.val) :
    contB I (w2 c) (ix2 t o) = ∑ j : Fin 4, part I c t e0 e1 (fun e => vScr I (ix2 t e)) j o' := by
  unfold contB
  pointwise [k0_pay15]
  simp only [vW0_at I c t e0 e1 h0 h1, vW1_at I c t e0 e1 h0 h1, vW2_at I c t e0 e1 h0 h1, vW3_at I c t e0 e1 h0 h1]
  simp only [rdW_at I ![0, 0, 512] _ _ o 0 o' rfl rfl ho, rdW_at I ![1, 0, 512] _ _ o 1 o' rfl rfl ho,
    rdW_at I ![2, 0, 512] _ _ o 2 o' rfl rfl ho, rdW_at I ![3, 0, 512] _ _ o 3 o' rfl rfl ho]
  rw [Fin.sum_univ_four]
  rfl

end Weighted

/-- A device's contribution at a token and a column. -/
theorem Pof_at (Is : Dev nD → In Ideal) (c : Dev nD) (t o : Fin 1024) (e0 e1 : Fin 128) (h0 : (Is c).i (ix2 t 0) = BitVec.ofNat 32 e0.val)
    (h1 : (Is c).i (ix2 t 1) = BitVec.ofNat 32 e1.val) :
    (Pof Is c (ix2 t o) : EReal) = ∑ j : Fin 4, part (Is c) c t e0 e1 (fun e => vScr (Is c) (ix2 t e)) j o := by
  have hix : halfIx (ix2 t o) = ix2 t ⟨o.val % 512, Nat.mod_lt _ (by decide)⟩ := by
    funext a
    match a with
    | ⟨0, _⟩ => rfl
    | ⟨1, _⟩ => rfl
  have ho := o.isLt
  unfold Pof
  rw [hix]
  by_cases h : o.val < 512
  · exact (if_pos h).trans (contA_at (Is c) c t e0 e1 h0 h1 _ o (Nat.mod_eq_of_lt h))
  · exact (if_neg h).trans (contB_at (Is c) c t e0 e1 h0 h1 _ o (by show 512 + o.val % 512 = o.val; omega))

end Cert.Moe
-- ==== Proof.Moe.Rval.lean ====
/-
# The reference's result at a token and a column
-/
module

public import proofs.«01_k».proof.Proof.Gen.ReferenceIdeal.Run
public import Idealize.ShloMosaic.Lib.Pointwise
public import proofs.«01_k».proof.Proof.Moe.Gate
public import Idealize.ShloMosaic.Lib.Tactic.CleanTypes

@[expose] public section

set_option maxRecDepth 16384

noncomputable section

open Idealize.ShloMosaic Idealize.ShloMosaic.TcCoe Idealize.SL.Sem
open Cert.ReferenceIdeal Cert.ReferenceIdeal.Gen

namespace Cert.Moe

/-- The first gather reads, in its own row, the column that the index names, clamped into range. -/
theorem gather_row_at {α : Type} (X : S1024x128.Idx → α) (idx : IVec S1024x1x1 32) (t : Fin 1024) (e : Fin 128)
    (he : min (idx (ix3 t 0 0)).toInt.toNat 127 = e.val) :
    Host.gather gather_S1024x128_S1024x1x1_S1024x1_n_1_0_0_1_2_11 X idx (ix2 t 0) = X (ix2 t e) := by
  unfold Host.gather
  congr 1
  generalize hd : gather_S1024x128_S1024x1x1_S1024x1_n_1_0_0_1_2_11 = d
  have hsim : d.startIndexMap = [1] := by rw [← hd]; rfl
  have hob : d.operandBatchingDims = [0] := by rw [← hd]; rfl
  have hco : d.collapsedSliceDims = [1] := by rw [← hd]; rfl
  funext a
  refine Fin.ext ?_
  match a with
  | ⟨0, _⟩ =>
    show d.start (ix2 t 0) idx 0 + d.batchCoord (ix2 t 0) 0 + d.offCoord (ix2 t 0) 0 = t.val
    rw [d.start_batching _ _ _ (by rw [hob]; exact List.mem_singleton.2 rfl),
      d.offCoord_eq_zero _ _ (fun h => ((d.mem_sKept _).1 h).2 (by rw [hob]; exact List.mem_singleton.2 rfl))]
    simp only [Nat.zero_add, Nat.add_zero]
    unfold GatherDims.batchCoord
    rw [dif_pos (by rw [hob]; exact List.mem_singleton.2 rfl)]
    subst hd
    rfl
  | ⟨1, _⟩ =>
    show d.start (ix2 t 0) idx 1 + d.batchCoord (ix2 t 0) 1 + d.offCoord (ix2 t 0) 1 = e.val
    rw [← he, d.batchCoord_eq_zero _ _ (by rw [hob]; decide),
      d.offCoord_eq_zero _ _ (fun h => ((d.mem_sKept _).1 h).1 (by rw [hco]; exact List.mem_singleton.2 rfl))]
    simp only [Nat.add_zero]
    unfold GatherDims.start
    have h1 : (1 : Fin 2) ∈ d.startIndexMap := by rw [hsim]; exact List.mem_singleton.2 rfl
    rw [dif_pos h1]
    have hsi : d.siIdx (ix2 t 0) ⟨d.startIndexMap.idxOf 1, List.idxOf_lt_length_iff.2 h1⟩ = ix3 t 0 0 := by
      subst hd
      funext b; refine Fin.ext ?_
      match b with
      | ⟨0, _⟩ => rfl
      | ⟨1, _⟩ => rfl
      | ⟨2, _⟩ => rfl
    rw [hsi]
    subst hd
    rfl
/-- The second gather reads, in its own row and column, the expert that the index names, clamped into range. -/
theorem gather_expert_at {α : Type} (X : S1024x128x1024.Idx → α) (idx : IVec S1024x1x1 32) (t : Fin 1024) (o : Fin 1024) (e : Fin 128)
    (he : min (idx (ix3 t 0 0)).toInt.toNat 127 = e.val) :
    Host.gather gather_S1024x128x1024_S1024x1x1_S1024x1x1024_2_1_0_0_1_2_111024 X idx (ix3 t 0 o) = X (ix3 t e o) := by
  unfold Host.gather
  congr 1
  generalize hd : gather_S1024x128x1024_S1024x1x1_S1024x1x1024_2_1_0_0_1_2_111024 = d
  have hsim : d.startIndexMap = [1] := by rw [← hd]; rfl
  have hob : d.operandBatchingDims = [0] := by rw [← hd]; rfl
  have hco : d.collapsedSliceDims = [1] := by rw [← hd]; rfl
  funext a
  refine Fin.ext ?_
  match a with
  | ⟨0, _⟩ =>
    show d.start (ix3 t 0 o) idx 0 + d.batchCoord (ix3 t 0 o) 0 + d.offCoord (ix3 t 0 o) 0 = t.val
    rw [d.start_batching _ _ _ (by rw [hob]; exact List.mem_singleton.2 rfl),
      d.offCoord_eq_zero _ _ (fun h => ((d.mem_sKept _).1 h).2 (by rw [hob]; exact List.mem_singleton.2 rfl))]
    simp only [Nat.zero_add, Nat.add_zero]
    unfold GatherDims.batchCoord
    rw [dif_pos (by rw [hob]; exact List.mem_singleton.2 rfl)]
    subst hd
    rfl
  | ⟨1, _⟩ =>
    show d.start (ix3 t 0 o) idx 1 + d.batchCoord (ix3 t 0 o) 1 + d.offCoord (ix3 t 0 o) 1 = e.val
    rw [← he, d.batchCoord_eq_zero _ _ (by rw [hob]; decide),
      d.offCoord_eq_zero _ _ (fun h => ((d.mem_sKept _).1 h).1 (by rw [hco]; exact List.mem_singleton.2 rfl))]
    simp only [Nat.add_zero]
    unfold GatherDims.start
    have h1 : (1 : Fin 3) ∈ d.startIndexMap := by rw [hsim]; exact List.mem_singleton.2 rfl
    rw [dif_pos h1]
    have hsi : d.siIdx (ix3 t 0 o) ⟨d.startIndexMap.idxOf 1, List.idxOf_lt_length_iff.2 h1⟩ = ix3 t 0 0 := by
      subst hd
      funext b; refine Fin.ext ?_
      match b with
      | ⟨0, _⟩ => rfl
      | ⟨1, _⟩ => rfl
      | ⟨2, _⟩ => rfl
    rw [hsi]
    subst hd
    rfl
  | ⟨2, _⟩ =>
    show d.start (ix3 t 0 o) idx 2 + d.batchCoord (ix3 t 0 o) 2 + d.offCoord (ix3 t 0 o) 2 = o.val
    rw [d.batchCoord_eq_zero _ _ (by rw [hob]; decide)]
    unfold GatherDims.start GatherDims.offCoord
    rw [dif_neg (by rw [hsim]; decide), dif_pos ((d.mem_sKept _).2 ⟨by rw [hco]; decide, by rw [hob]; decide⟩)]
    subst hd
    exact (Nat.zero_add _).trans rfl

/-- An expert's number is not wrapped, -/
theorem not_wrapped (e : Fin 128) :
    Scalar.select (IntOp.cmpi .slt (BitVec.ofNat 32 e.val) 0#32) (IntOp.addi (BitVec.ofNat 32 e.val) 128#32) (BitVec.ofNat 32 e.val) = BitVec.ofNat 32 e.val := by
  revert e; decide +kernel
/-- and it passes the check of its range, -/
theorem in_range (e : Fin 128) :
    Finset.fold IntOp.andi (1#1) (fun _ : Fin 1 => IntOp.andi (IntOp.cmpi .sge (BitVec.ofNat 32 e.val) 0#32) (IntOp.cmpi .sle (BitVec.ofNat 32 e.val) 127#32)) Finset.univ = 1#1 := by
  revert e; decide +kernel
/-- and clamping leaves it. -/
theorem not_clamped (e : Fin 128) : min (BitVec.ofNat 32 e.val).toInt.toNat 127 = e.val := by
  revert e; decide +kernel

/-- A token's score for an expert. -/
def score (x : S1024x512.Idx → EReal) (r : S512x128.Idx → EReal) (t : Fin 1024) (e : Fin 128) : EReal := ∑ k : Fin 512, x (ix2 t k) * r (ix2 k e)
/-- A token's result from an expert. -/
def mixed (x : S1024x512.Idx → EReal) (w : S128x512x1024.Idx → EReal) (t o : Fin 1024) (e : Fin 128) : EReal := ∑ k : Fin 512, x (ix2 t k) * w (ix3 e k o)

/-- The reference's result at a token and a column, where the token's routes name the experts `e0` and `e1`. -/
theorem ref_at (m : (ℓ : Loc nD τ sig) → Buf (Elt Ideal) ℓ) (c : Dev nD) (t o : Fin 1024) (e0 e1 : Fin 128)
    (h0 : (m (c.tc.loc main_arg2) : S1024x2.Idx → BitVec 32) (ix2 t 0) = BitVec.ofNat 32 e0.val)
    (h1 : (m (c.tc.loc main_arg2) : S1024x2.Idx → BitVec 32) (ix2 t 1) = BitVec.ofNat 32 e1.val) :
    (Value.res_main_v32 (F := Ideal) m c : S1024x1024.Idx → Ideal .bf16) (ix2 t o)
      = Ideal.div (prob (score (m (c.tc.loc main_arg0)) (m (c.tc.loc main_arg1)) t) e0)
            (prob (score (m (c.tc.loc main_arg0)) (m (c.tc.loc main_arg1)) t) e0 + prob (score (m (c.tc.loc main_arg0)) (m (c.tc.loc main_arg1)) t) e1)
          * mixed (m (c.tc.loc main_arg0)) (m (c.tc.loc main_arg3)) t o e0
        + Ideal.div (prob (score (m (c.tc.loc main_arg0)) (m (c.tc.loc main_arg1)) t) e1)
            (prob (score (m (c.tc.loc main_arg0)) (m (c.tc.loc main_arg1)) t) e0 + prob (score (m (c.tc.loc main_arg0)) (m (c.tc.loc main_arg1)) t) e1)
          * mixed (m (c.tc.loc main_arg0)) (m (c.tc.loc main_arg3)) t o e1 := by
  unfold Value.res_main_v32
  clean_types
  pointwise
  simp only [h0, h1, not_wrapped, in_range]
  rw [gather_row_at _ _ t e0 (by pointwise; rw [h0, not_wrapped]; exact not_clamped e0),
    gather_row_at _ _ t e1 (by pointwise; rw [h1, not_wrapped]; exact not_clamped e1),
    gather_expert_at _ _ t o e0 (by pointwise; rw [h0, not_wrapped]; exact not_clamped e0),
    gather_expert_at _ _ t o e1 (by pointwise; rw [h1, not_wrapped]; exact not_clamped e1)]
  pointwise
  rfl

end Cert.Moe
-- ==== Proof.Moe.Pre.lean ====
/-
# What the precondition says
-/
module

public import proofs.«01_k».proof.Proof.Gen.Pre_routed_KernelIdeal
public import Idealize.ShloMosaic.Lib.Pointwise

@[expose] public section

set_option maxRecDepth 16384

noncomputable section

open Idealize.ShloMosaic
open Cert.Pre_routed_KernelIdeal Cert.Pre_routed_KernelIdeal.Gen

namespace Cert.Moe

/-- A conjunction of bits is set only where both are. -/
theorem andi_one : ∀ a b : BitVec 1, IntOp.andi a b = 1#1 → a = 1#1 ∧ b = 1#1 := by decide

/-- A conjunction over a set is set only where every bit is. -/
theorem fold_andi_one {ι : Type} (S : Finset ι) (f : ι → BitVec 1) (h : Finset.fold IntOp.andi (1#1) f S = 1#1) : ∀ k ∈ S, f k = 1#1 := by
  classical
  induction S using Finset.induction_on with
  | empty => exact fun k hk => absurd hk (Finset.notMem_empty k)
  | insert a S ha ih =>
    rw [Finset.fold_insert ha] at h
    obtain ⟨h1, h2⟩ := andi_one _ _ h
    intro k hk
    rcases Finset.mem_insert.1 hk with rfl | hk
    · exact h1
    · exact ih h2 k hk

/-- A value whose magnitude compares below infinity is a real number. -/
theorem real_of_lt (v : EReal) (h : BitVec.ofBool (decide (FloatOps.absf (F := Ideal) (φ := .bf16) v < Ideal.ofBits FTy.bf16 32640#16)) = 1#1) :
    ∃ ρ : ℝ, v = (ρ : EReal) := by
  have hb : Ideal.ofBits FTy.bf16 32640#16 = (⊤ : EReal) := by simp [Ideal.ofBits, Ideal.ieee]
  have h1 : max v (-v) < (⊤ : EReal) := by
    by_contra hn
    rw [hb] at h
    have : decide (FloatOps.absf (F := Ideal) (φ := .bf16) v < (⊤ : EReal)) = false := decide_eq_false hn
    rw [this] at h
    exact absurd h (by decide)
  have h2 := max_lt_iff.1 h1
  have h3 : v ≠ ⊥ := fun e => by rw [e] at h2; exact absurd h2.2 (by simp)
  exact ⟨_, (EReal.coe_toReal h2.1.ne h3).symm⟩

/-- A number between nought and 127 is an expert's. -/
theorem expert_of_range (b : BitVec 32) (h : IntOp.andi (IntOp.cmpi CmpIPredicate.sge b 0#32) (IntOp.cmpi CmpIPredicate.slt b 128#32) = 1#1) :
    ∃ e : Fin 128, b = BitVec.ofNat 32 e.val := by
  obtain ⟨h1, h2⟩ := andi_one _ _ h
  have k1 : (0#32).sle b = true := by
    by_contra hn
    rw [Bool.not_eq_true] at hn
    have : IntOp.cmpi CmpIPredicate.sge b 0#32 = BitVec.ofBool ((0#32).sle b) := rfl
    rw [this, hn] at h1
    exact absurd h1 (by decide)
  have k2 : b.slt 128#32 = true := by
    by_contra hn
    rw [Bool.not_eq_true] at hn
    have : IntOp.cmpi CmpIPredicate.slt b 128#32 = BitVec.ofBool (b.slt 128#32) := rfl
    rw [this, hn] at h2
    exact absurd h2 (by decide)
  have j1 := BitVec.sle_iff_toInt_le.1 k1
  have j2 := BitVec.slt_iff_toInt_lt.1 k2
  have e0 : (0#32).toInt = 0 := by decide
  have e1 : (128#32).toInt = 128 := by decide
  rw [e0] at j1
  rw [e1] at j2
  have hn := BitVec.toInt_eq_toNat_cond b
  have hlt := b.isLt
  have : b.toNat < 128 := by split at hn <;> omega
  exact ⟨⟨b.toNat, this⟩, by simp⟩

/-- The precondition: every token and every router weight is a real number, and every route names an expert. -/
theorem pre_at (x r i w) (h : Cert.Pre_routed_KernelIdeal.fn (F := Ideal) x r i w = fun _ => 1#1) :
    (∀ t : Fin 1024, ∀ k : Fin 512, ∃ ρ : ℝ, x (ix2 t k) = (ρ : EReal)) ∧ (∀ k : Fin 512, ∀ e : Fin 128, ∃ ρ : ℝ, r (ix2 k e) = (ρ : EReal))
      ∧ ∀ t : Fin 1024, ∀ j : Fin 2, ∃ e : Fin 128, i (ix2 t j) = BitVec.ofNat 32 e.val := by
  have h' := congrFun h ix0
  unfold Cert.Pre_routed_KernelIdeal.fn at h'
  pointwise at h'
  obtain ⟨h12, h3⟩ := andi_one _ _ h'
  obtain ⟨h1, h2⟩ := andi_one _ _ h12
  exact ⟨fun t k => real_of_lt _ (fold_andi_one _ _ h1 (t, k) (Finset.mem_univ _)),
    fun k e => real_of_lt _ (fold_andi_one _ _ h2 (k, e) (Finset.mem_univ _)),
    fun t j => expert_of_range _ (fold_andi_one _ _ h3 (t, j) (Finset.mem_univ _))⟩

end Cert.Moe
-- ==== Proof.Moe.Value.lean ====
/-
# The kernel's result is the reference's

The devices' contributions add up to the contributions of all the experts, of which only the two that a token's routes name
weigh anything; the weights are the reference's, and the reference's result is the same sum.
-/
module

public import proofs.«01_k».proof.Proof.Moe.Sum
public import proofs.«01_k».proof.Proof.Moe.Val
public import proofs.«01_k».proof.Proof.Moe.Rval
public import proofs.«01_k».proof.Proof.Moe.Pre
public import proofs.«01_k».proof.Defs

@[expose] public section

set_option maxRecDepth 16384

noncomputable section

open Idealize.ShloMosaic Idealize.ShloMosaic.TcCoe Idealize.SL.Sem
open Cert.KernelIdeal Cert.KernelIdeal.Gen

namespace Cert.Moe

/-- The shape of all the experts' weights. -/
abbrev AllW : Shape := ⟨3, ![128, 512, 1024]⟩

/-- A sum over the devices and each one's four experts is a sum over the experts. -/
theorem sum_ex (f : Fin 128 → EReal) : (∑ d : Dev nD, ∑ j : Fin 4, f (ex d j)) = ∑ e, f e := by
  have h := Fintype.sum_prod_type (fun p : Fin 32 × Fin 4 => f (ex p.1 p.2))
  refine h.symm.trans ?_
  refine Fintype.sum_equiv (finProdFinEquiv (m := 32) (n := 4)) _ _ fun p => congrArg f (Fin.ext ?_)
  show 4 * p.1.val + p.2.val = p.2.val + 4 * p.1.val
  omega

/-- A real token's scores, with a real router, are real. -/
theorem score_real (x : S1024x512.Idx → EReal) (r : S512x128.Idx → EReal) (hx : ∀ t : Fin 1024, ∀ k : Fin 512, ∃ ρ : ℝ, x (ix2 t k) = (ρ : EReal))
    (hr : ∀ k : Fin 512, ∀ e : Fin 128, ∃ ρ : ℝ, r (ix2 k e) = (ρ : EReal)) (t : Fin 1024) :
    ∃ σ : Fin 128 → ℝ, score x r t = fun e => (σ e : EReal) := by
  choose u hu using hx
  choose v hv using hr
  refine ⟨fun e => ∑ k, u t k * v k e, funext fun e => ?_⟩
  unfold score
  rw [← coe_sum]
  exact Finset.sum_congr rfl fun k _ => by rw [hu, hv, EReal.coe_mul]

/-- What the kernel leaves at a token and a column, from inputs that are the same tokens, router and routes on every device and each device's own
    experts of `W`: the sum over all the experts. -/
theorem out_at (Is : Dev nD → In Ideal) (x : S1024x512.Idx → EReal) (r : S512x128.Idx → EReal) (W : AllW.Idx → EReal)
    (hx : ∀ c t k, (Is c).x (ix2 t k) = x (ix2 t k)) (hr : ∀ c k e, (Is c).r (ix2 k e) = r (ix2 k e))
    (hW : ∀ c j k o, (Is c).w (ix3 j k o) = W (ix3 (ex c j) k o)) (t o : Fin 1024) (e0 e1 : Fin 128)
    (h0 : ∀ c, (Is c).i (ix2 t 0) = BitVec.ofNat 32 e0.val) (h1 : ∀ c, (Is c).i (ix2 t 1) = BitVec.ofNat 32 e1.val) :
    (outF (Pof Is) (ix2 t o) : EReal) = ∑ e, ∑ k, (x (ix2 t k) * weight (score x r t) e0 e1 e) * W (ix3 e k o) := by
  have hs : ∀ c, (fun e : Fin 128 => (vScr (Is c) (ix2 t e) : EReal)) = score x r t := fun c => by
    funext e
    unfold vScr score
    rw [pay2_at]
    exact Finset.sum_congr rfl fun k _ => by rw [rdX_at, rdR_at, hx, hr]
  rw [outF_sum, ← sum_ex]
  refine Finset.sum_congr rfl fun d _ => ?_
  rw [Pof_at Is d t o e0 e1 (h0 d) (h1 d), hs d]
  refine Finset.sum_congr rfl fun j _ => ?_
  unfold part
  exact Finset.sum_congr rfl fun k _ => by rw [hx, hW]

/-- The kernel's result is the reference's, from memories that agree and satisfy the precondition. -/
theorem value (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hpre : Cert.Pre_KernelIdeal_routed_KernelIdeal m)
    (ha : ∀ c : Dev nD, m ((c : Thread nD τ).loc main_arg0) = m' (((0 : Dev Cert.ReferenceIdeal.nD).tc : Thread Cert.ReferenceIdeal.nD Cert.ReferenceIdeal.τ).loc Cert.ReferenceIdeal.main_arg0)
      ∧ m ((c : Thread nD τ).loc main_arg1) = m' (((0 : Dev Cert.ReferenceIdeal.nD).tc : Thread Cert.ReferenceIdeal.nD Cert.ReferenceIdeal.τ).loc Cert.ReferenceIdeal.main_arg1)
      ∧ m ((c : Thread nD τ).loc main_arg2) = m' (((0 : Dev Cert.ReferenceIdeal.nD).tc : Thread Cert.ReferenceIdeal.nD Cert.ReferenceIdeal.τ).loc Cert.ReferenceIdeal.main_arg2)
      ∧ m ((c : Thread nD τ).loc main_arg3) = Layout.block ⟨3, ![4, 512, 1024]⟩ AllW 0 32 c (m' (((0 : Dev Cert.ReferenceIdeal.nD).tc : Thread Cert.ReferenceIdeal.nD Cert.ReferenceIdeal.τ).loc Cert.ReferenceIdeal.main_arg3))) :
    res m ρ = Cert.ReferenceIdeal.Value.res_main_v32 (F := Ideal) m' 0 := by
  obtain ⟨px, pr, pi⟩ := pre_at _ _ _ _ (hpre 0)
  generalize hX : m' (((0 : Dev Cert.ReferenceIdeal.nD).tc : Thread Cert.ReferenceIdeal.nD Cert.ReferenceIdeal.τ).loc Cert.ReferenceIdeal.main_arg0) = X at ha
  generalize hR : m' (((0 : Dev Cert.ReferenceIdeal.nD).tc : Thread Cert.ReferenceIdeal.nD Cert.ReferenceIdeal.τ).loc Cert.ReferenceIdeal.main_arg1) = R' at ha
  generalize hI : m' (((0 : Dev Cert.ReferenceIdeal.nD).tc : Thread Cert.ReferenceIdeal.nD Cert.ReferenceIdeal.τ).loc Cert.ReferenceIdeal.main_arg2) = I' at ha
  generalize hW : m' (((0 : Dev Cert.ReferenceIdeal.nD).tc : Thread Cert.ReferenceIdeal.nD Cert.ReferenceIdeal.τ).loc Cert.ReferenceIdeal.main_arg3) = W at ha
  rw [(ha 0).1] at px
  rw [(ha 0).2.1] at pr
  rw [(ha 0).2.2.1] at pi
  funext i
  obtain ⟨t, o, rfl⟩ : ∃ (t o : Fin 1024), i = ix2 t o := ⟨i 0, i 1, eq_ix2 i⟩
  obtain ⟨e0, h0⟩ := pi t 0
  obtain ⟨e1, h1⟩ := pi t 1
  obtain ⟨σ, hσ⟩ := score_real X R' px pr t
  obtain ⟨p, q, hp, hq, g0, g1, r0, r1⟩ := gates σ e0 e1
  have hk := out_at (inp m ρ) X R' W (fun c t k => by rw [inp_x, (ha c).1]) (fun c k e => by rw [inp_r, (ha c).2.1])
    (fun c j k o => by
      rw [inp_w, (ha c).2.2.2, Layout.block_apply]
      refine congrArg W (funext fun a => Fin.ext ?_)
      match a with
      | ⟨0, _⟩ => show c.val * 4 + j.val = 4 * c.val + j.val; omega
      | ⟨1, _⟩ => rfl
      | ⟨2, _⟩ => rfl)
    t o e0 e1 (fun c => by rw [inp_i, (ha c).2.2.1, h0]) (fun c => by rw [inp_i, (ha c).2.2.1, h1])
  have hr := ref_at m' 0 t o e0 e1 (by rw [hI]; exact h0) (by rw [hI]; exact h1)
  rw [hX, hR, hW, hσ, r0, r1] at hr
  refine hk.trans (Eq.trans ?_ hr.symm)
  unfold weight
  rw [hσ, g0, g1]
  exact sum_experts p q hp hq e0 e1 (fun k => X (ix2 t k)) (fun e k => W (ix3 e k o))

end Cert.Moe
-- ==== Proof.lean ====
/-
# The proof of the certificate's claim

The kernel's run is proved once for any float values and read at the program's own floats and over the extended reals; the
reference's run is the generated one; the values are compared in `Proof/Moe/Value.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Moe.Run
public import proofs.«01_k».proof.Proof.Moe.Value
public import Idealize.ShloMosaic.Adequacy
public import Idealize.ShloMosaic.Init

@[expose] public section

noncomputable section

namespace Cert.Proof

open Idealize.ShloMosaic Idealize.SL.Sem Cert.Kernel

/-- The kernel, for any float values, ends with its arguments unchanged and every semaphore at zero. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.Moe.run_all m g)

set_option maxRecDepth 100000 in
/-- The two readings of the kernel run the same function at their only label, -/
theorem defs₀_same : Cert.Kernel.defs₀ (F := Bits) = Cert.KernelIdeal.defs₀ (F := Bits) := by
  unfold Cert.Kernel.defs₀ Cert.KernelIdeal.defs₀
  congr 1
  funext l a
  match l, a with
  | ⟨0, _⟩, a => rfl

set_option maxRecDepth 100000 in
/-- so they have the same body table. -/
theorem defs_same : Cert.Kernel.defs (F := Bits) = Cert.KernelIdeal.defs (F := Bits) :=
  congrArg (Pipeline.defs Cert.KernelIdeal.pcfgs) defs₀_same

set_option maxRecDepth 100000 in
/-- The kernel at the program's own floats: the same text, so the same run. -/
theorem frame_kernel : Cert.quiescent_Kernel := fun m g _ => by
  rw [defs_same]
  exact frame_any (F := Bits) m g

/-- The kernel over the ideal reals ends with its arguments unchanged and every semaphore at zero. -/
theorem frame_ideal : Cert.quiescent_KernelIdeal := fun m g _ => frame_any (F := Ideal) m g

/-- The reference ends with its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel over the ideal reals ends with its arguments unchanged where the precondition holds, too, -/
theorem frame_ideal_routed : Cert.quiescent_KernelIdeal_pre_routed_KernelIdeal := fun m g _ => frame_any (F := Ideal) m g

/-- and so does the reference. -/
theorem frame_reference_routed : Cert.quiescent_ReferenceIdeal_pre_routed_ReferenceIdeal := fun m ρ _ => frame_reference m ρ trivial

/-- Where the precondition holds, every device's result is the reference's. -/
theorem same_value : Cert.algebraic_KernelIdeal_ReferenceIdeal_pre_routed_KernelIdeal := fun m g m' g' hpre ha =>
  ⟨Cert.ReferenceIdeal.Value.res_main_v32 (F := Ideal) m' 0,
    (θ_run Cert.KernelIdeal.defs _ _).mono (fun r h c => ⟨(h.1 c).1.trans (Cert.Moe.value m g m' hpre ha), (h.1 c).2⟩) (Cert.Moe.run_all m g),
    (θ_run Cert.ReferenceIdeal.defs _ _).mono (fun r h => h 0) (Cert.ReferenceIdeal.Value.run (F := Ideal) m' g')⟩

/-- The certificate's claim. -/
theorem claim : Cert.Claim := ⟨Cert.Kernel.Gen.facts, Cert.KernelIdeal.Gen.facts, Cert.ReferenceIdeal.Gen.facts, Cert.Pre_routed_KernelIdeal.Gen.facts,
  Cert.Pre_routed_ReferenceIdeal.Gen.facts, frame_kernel, frame_ideal, frame_ideal_routed, frame_reference, frame_reference_routed, trivial, same_value⟩

end Cert.Proof

end
